-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v7_0)) (v1 : (c : Dev Cert.Kernel2Ideal.nD) → Buf (Elt Ideal) ((c.tc : Thread Cert.Kernel2Ideal.nD Cert.Kernel2Ideal.τ).loc Cert.Kernel2Ideal.main_v7_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7_0) = v0 c
          ∧ r.2.mem ((c.tc : Thread Cert.Kernel2Ideal.nD Cert.Kernel2Ideal.τ).loc Cert.Kernel2Ideal.main_v7_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_v6) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v24_0)) (v1 : (c : Dev Cert.Kernel3Ideal.nD) → Buf (Elt Ideal) ((c.tc : Thread Cert.Kernel3Ideal.nD Cert.Kernel3Ideal.τ).loc Cert.Kernel3Ideal.main_v24_1)) (v2 : (c : Dev Cert.Kernel3Ideal.nD) → Buf (Elt Ideal) ((c.tc : Thread Cert.Kernel3Ideal.nD Cert.Kernel3Ideal.τ).loc Cert.Kernel3Ideal.main_v24_2)) (v3 : (c : Dev Cert.Kernel3Ideal.nD) → Buf (Elt Ideal) ((c.tc : Thread Cert.Kernel3Ideal.nD Cert.Kernel3Ideal.τ).loc Cert.Kernel3Ideal.main_v24_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v24_0) = v0 c
          ∧ r.2.mem ((c.tc : Thread Cert.Kernel3Ideal.nD Cert.Kernel3Ideal.τ).loc Cert.Kernel3Ideal.main_v24_1) = v1 c
          ∧ r.2.mem ((c.tc : Thread Cert.Kernel3Ideal.nD Cert.Kernel3Ideal.τ).loc Cert.Kernel3Ideal.main_v24_2) = v2 c
          ∧ r.2.mem ((c.tc : Thread Cert.Kernel3Ideal.nD Cert.Kernel3Ideal.τ).loc Cert.Kernel3Ideal.main_v24_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v34) = v0 c
          ∧ r.2.mem ((c.tc : Thread Cert.Reference3Ideal.nD Cert.Reference3Ideal.τ).loc Cert.Reference3Ideal.main_v103) = v1 c
          ∧ r.2.mem ((c.tc : Thread Cert.Reference3Ideal.nD Cert.Reference3Ideal.τ).loc Cert.Reference3Ideal.main_v104) = v2 c
          ∧ r.2.mem ((c.tc : Thread Cert.Reference3Ideal.nD Cert.Reference3Ideal.τ).loc Cert.Reference3Ideal.main_v106) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v8_0)) (v1 : (c : Dev Cert.Kernel4Ideal.nD) → Buf (Elt Ideal) ((c.tc : Thread Cert.Kernel4Ideal.nD Cert.Kernel4Ideal.τ).loc Cert.Kernel4Ideal.main_v8_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8_0) = v0 c
          ∧ r.2.mem ((c.tc : Thread Cert.Kernel4Ideal.nD Cert.Kernel4Ideal.τ).loc Cert.Kernel4Ideal.main_v8_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v47) = v0 c
          ∧ r.2.mem ((c.tc : Thread Cert.Reference4Ideal.nD Cert.Reference4Ideal.τ).loc Cert.Reference4Ideal.main_v53) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite3 : Cert.Pre_finite3.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
-- ==== Pre_finite3.lean ====
abbrev S32768x1024 : Shape := ⟨2, ![32768, 1024]⟩
abbrev S4x8192x2048 : Shape := ⟨3, ![4, 8192, 2048]⟩
abbrev S1x2048x2048 : Shape := ⟨3, ![1, 2048, 2048]⟩
abbrev S1x2048 : Shape := ⟨2, ![1, 2048]⟩
abbrev S1x2048x4 : Shape := ⟨3, ![1, 2048, 4]⟩
abbrev S1x4 : Shape := ⟨2, ![1, 4]⟩
abbrev S1x4x2048x8 : Shape := ⟨4, ![1, 4, 2048, 8]⟩
abbrev S1x4x8 : Shape := ⟨3, ![1, 4, 8]⟩
abbrev S_ : Shape := ⟨0, ![]⟩

class Facts : Prop where
  bcast_S_S1x2048 : S_.BroadcastsInDim S1x2048 (![] : Fin 0 → Fin S1x2048.rank)
  bcast_S_S1x2048x4 : S_.BroadcastsInDim S1x2048x4 (![] : Fin 0 → Fin S1x2048x4.rank)
  bcast_S_S1x4 : S_.BroadcastsInDim S1x4 (![] : Fin 0 → Fin S1x4.rank)
  bcast_S_S1x4x2048x8 : S_.BroadcastsInDim S1x4x2048x8 (![] : Fin 0 → Fin S1x4x2048x8.rank)
  bcast_S_S1x4x8 : S_.BroadcastsInDim S1x4x8 (![] : Fin 0 → Fin S1x4x8.rank)

variable [Facts]

def fn {F : FTy → Type} [FloatOps F] (main_arg0 : FVec F S32768x1024 .bf16) (main_arg1 : FVec F S32768x1024 .bf16) (main_arg2 : FVec F S4x8192x2048 .f32) (main_arg3 : FVec F S1x2048x2048 .f32) (main_arg4 : FVec F S1x2048 .f32) (main_arg5 : FVec F S1x2048 .f32) (main_arg6 : FVec F S1x2048x4 .f32) (main_arg7 : FVec F S1x4 .f32) (main_arg8 : FVec F S1x4x2048x8 .f32) (main_arg9 : FVec F S1x4x8 .f32) : IVec S1x2048 1 × IVec S1x2048 1 × IVec S1x2048x4 1 × IVec S1x4 1 × IVec S1x4x2048x8 1 × IVec S1x4x8 1 :=
  let main_v0 : FVec F S1x2048 .f32 := Host.absf main_arg4
  let main_cst : FVec F S_ .f32 := constant S_ .f32 0x7F800000#32
  let main_v1 : FVec F S1x2048 .f32 := broadcastInDim S1x2048 ![] bcast_S_S1x2048 main_cst
  let main_v2 : IVec S1x2048 1 := cmpf .olt main_v0 main_v1
  let main_v3 : FVec F S1x2048 .f32 := Host.absf main_arg5
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S1x2048x4 .f32 := Host.absf main_arg6
  let main_cst_1 : FVec F S_ .f32 := constant S_ .f32 0x7F800000#32
  let main_v7 : FVec F S1x2048x4 .f32 := broadcastInDim S1x2048x4 ![] bcast_S_S1x2048x4 main_cst_1
  let main_v8 : IVec S1x2048x4 1 := cmpf .olt main_v6 main_v7
  let main_v9 : FVec F S1x4 .f32 := Host.absf main_arg7
  let main_cst_2 : FVec F S_ .f32 := constant S_ .f32 0x7F800000#32
  let main_v10 : FVec F S1x4 .f32 := broadcastInDim S1x4 ![] bcast_S_S1x4 main_cst_2
  let main_v11 : IVec S1x4 1 := cmpf .olt main_v9 main_v10
  let main_v12 : FVec F S1x4x2048x8 .f32 := Host.absf main_arg8
  let main_cst_3 : FVec F S_ .f32 := constant S_ .f32 0x7F800000#32
  let main_v13 : FVec F S1x4x2048x8 .f32 := broadcastInDim S1x4x2048x8 ![] bcast_S_S1x4x2048x8 main_cst_3
  let main_v14 : IVec S1x4x2048x8 1 := cmpf .olt main_v12 main_v13
  let main_v15 : FVec F S1x4x8 .f32 := Host.absf main_arg9
  let main_cst_4 : FVec F S_ .f32 := constant S_ .f32 0x7F800000#32
  let main_v16 : FVec F S1x4x8 .f32 := broadcastInDim S1x4x8 ![] bcast_S_S1x4x8 main_cst_4
  let main_v17 : IVec S1x4x8 1 := cmpf .olt main_v15 main_v16
  (main_v2, main_v5, main_v8, main_v11, main_v14, main_v17)
-- ==== Kernel.lean ====
abbrev S32 : Shape := ⟨1, ![32]⟩
abbrev S81920x2048 : Shape := ⟨2, ![81920, 2048]⟩
abbrev S1x32x2048x1024 : Shape := ⟨4, ![1, 32, 2048, 1024]⟩
abbrev S1x32x1024x2048 : Shape := ⟨4, ![1, 32, 1024, 2048]⟩
abbrev S32x2048x1024 : Shape := ⟨3, ![32, 2048, 1024]⟩
abbrev S32x1024x2048 : Shape := ⟨3, ![32, 1024, 2048]⟩
abbrev S160 : Shape := ⟨1, ![160]⟩
abbrev S_ : Shape := ⟨0, ![]⟩
abbrev S1 : Shape := ⟨1, ![1]⟩
abbrev S1x32 : Shape := ⟨2, ![1, 32]⟩
abbrev S160x1 : Shape := ⟨2, ![160, 1]⟩
abbrev S160x32 : Shape := ⟨2, ![160, 32]⟩
abbrev S512x2048 : Shape := ⟨2, ![512, 2048]⟩
abbrev S1x2048x1024 : Shape := ⟨3, ![1, 2048, 1024]⟩
abbrev S1x1024x2048 : Shape := ⟨3, ![1, 1024, 2048]⟩
abbrev S2048x1024 : Shape := ⟨2, ![2048, 1024]⟩
abbrev S512x1024 : Shape := ⟨2, ![512, 1024]⟩
abbrev S1024x2048 : Shape := ⟨2, ![1024, 2048]⟩

abbrev nBuf : Space → Nat
  | .hbm => 49
  | .vmem => 10
  | .smem => 2
  | _ => 0

abbrev bufTy : (tb : Table) → Fin (tcTables nBuf tb) → BufTy
  | .hbm, ⟨0, _⟩ => ⟨S32, .i32⟩
  | .hbm, ⟨1, _⟩ => ⟨S81920x2048, .f32⟩
  | .hbm, ⟨2, _⟩ => ⟨S1x32x2048x1024, .f32⟩
  | .hbm, ⟨3, _⟩ => ⟨S1x32x2048x1024, .f32⟩
  | .hbm, ⟨4, _⟩ => ⟨S1x32x1024x2048, .f32⟩
  | .hbm, ⟨5, _⟩ => ⟨S32x2048x1024, .f32⟩
  | .hbm, ⟨6, _⟩ => ⟨S32x2048x1024, .bf16⟩
  | .hbm, ⟨7, _⟩ => ⟨S32x2048x1024, .f32⟩
  | .hbm, ⟨8, _⟩ => ⟨S32x2048x1024, .bf16⟩
  | .hbm, ⟨9, _⟩ => ⟨S32x1024x2048, .f32⟩
  | .hbm, ⟨10, _⟩ => ⟨S32x1024x2048, .bf16⟩
  | .hbm, ⟨11, _⟩ => ⟨S160, .i32⟩
  | .hbm, ⟨12, _⟩ => ⟨S_, .i32⟩
  | .hbm, ⟨13, _⟩ => ⟨S160, .i32⟩
  | .hbm, ⟨14, _⟩ => ⟨S160, .i32⟩
  | .hbm, ⟨15, _⟩ => ⟨S1, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S1x32, .i32⟩
  | .hbm, ⟨37, _⟩ => ⟨S160, .i32⟩
  | .hbm, ⟨38, _⟩ => ⟨S160, .i32⟩
  | .hbm, ⟨39, _⟩ => ⟨S160x1, .i32⟩
  | .hbm, ⟨40, _⟩ => ⟨S160x32, .i32⟩
  | .hbm, ⟨41, _⟩ => ⟨S160x32, .i32⟩
  | .hbm, ⟨42, _⟩ => ⟨S160x32, .i1⟩
  | .hbm, ⟨43, _⟩ => ⟨S160x32, .i32⟩
  | .hbm, ⟨44, _⟩ => ⟨S_, .i32⟩
  | .hbm, ⟨45, _⟩ => ⟨S160, .i32⟩
  | .hbm, ⟨46, _⟩ => ⟨S_, .i32⟩
  | .hbm, ⟨47, _⟩ => ⟨S160, .i32⟩
  | .hbm, ⟨48, _⟩ => ⟨S81920x2048, .f32⟩
  | .local _ .vmem, ⟨0, _⟩ => ⟨S512x2048, .f32⟩
  | .local _ .vmem, ⟨1, _⟩ => ⟨S512x2048, .f32⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x1024x2048, .bf16⟩
  | .local _ .vmem, ⟨7, _⟩ => ⟨S1x1024x2048, .bf16⟩
  | .local _ .vmem, ⟨8, _⟩ => ⟨S512x2048, .f32⟩
  | .local _ .vmem, ⟨9, _⟩ => ⟨S512x2048, .f32⟩
  | .local _ .smem, ⟨0, _⟩ => ⟨S160, .i32⟩
  | .local _ .smem, ⟨1, _⟩ => ⟨S1, .i32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c : Ref sig .tc := ⟨.hbm, 24, rfl⟩
abbrev main_call0_v6 : Ref sig .tc := ⟨.hbm, 25, rfl⟩
abbrev main_call0_v7 : Ref sig .tc := ⟨.hbm, 26, rfl⟩
abbrev main_call0_c_0 : Ref sig .tc := ⟨.hbm, 27, rfl⟩
abbrev main_call0_v8 : Ref sig .tc := ⟨.hbm, 28, rfl⟩
abbrev main_v11 : Ref sig .tc := ⟨.hbm, 29, rfl⟩
abbrev main_c_1 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_c_3 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_4 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v27 : Ref sig .tc := ⟨.hbm, 48, rfl⟩
abbrev main_v25 : Ref sig .tc := ⟨.smem, 0, rfl⟩
abbrev main_v26 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![160], ![false]⟩

abbrev pre0 : Pipeline.Prefetch sig := ⟨2, ![main_v25.idx, main_v26.idx], fun | 0 => main_v25.names | 1 => main_v26.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S32 : Shape := ⟨1, ![32]⟩
abbrev S81920x2048 : Shape := ⟨2, ![81920, 2048]⟩
abbrev S1x32x2048x1024 : Shape := ⟨4, ![1, 32, 2048, 1024]⟩
abbrev S1x32x1024x2048 : Shape := ⟨4, ![1, 32, 1024, 2048]⟩
abbrev S160 : Shape := ⟨1, ![160]⟩
abbrev S_ : Shape := ⟨0, ![]⟩
abbrev S1x32 : Shape := ⟨2, ![1, 32]⟩
abbrev S160x1 : Shape := ⟨2, ![160, 1]⟩
abbrev S160x32 : Shape := ⟨2, ![160, 32]⟩
abbrev S1 : Shape := ⟨1, ![1]⟩
abbrev S160x512x2048 : Shape := ⟨3, ![160, 512, 2048]⟩
abbrev S32x2048x1024 : Shape := ⟨3, ![32, 2048, 1024]⟩
abbrev S160x2048x1024 : Shape := ⟨3, ![160, 2048, 1024]⟩
abbrev S160x512x1024 : Shape := ⟨3, ![160, 512, 1024]⟩
abbrev S32x1024x2048 : Shape := ⟨3, ![32, 1024, 2048]⟩
abbrev S160x1024x2048 : Shape := ⟨3, ![160, 1024, 2048]⟩
abbrev S160x1x1 : Shape := ⟨3, ![160, 1, 1]⟩

abbrev nBuf : Space → Nat
  | .hbm => 78
  | .vmem => 0
  | .smem => 0
  | _ => 0

abbrev bufTy : (tb : Table) → Fin (tcTables nBuf tb) → BufTy
  | .hbm, ⟨0, _⟩ => ⟨S32, .i32⟩
  | .hbm, ⟨1, _⟩ => ⟨S81920x2048, .f32⟩
  | .hbm, ⟨2, _⟩ => ⟨S1x32x2048x1024, .f32⟩
  | .hbm, ⟨3, _⟩ => ⟨S1x32x2048x1024, .f32⟩
  | .hbm, ⟨4, _⟩ => ⟨S1x32x1024x2048, .f32⟩
  | .hbm, ⟨5, _⟩ => ⟨S160, .i32⟩
  | .hbm, ⟨6, _⟩ => ⟨S_, .i32⟩
  | .hbm, ⟨7, _⟩ => ⟨S160, .i32⟩
  | .hbm, ⟨8, _⟩ => ⟨S160, .i32⟩
  | .hbm, ⟨9, _⟩ => ⟨S1x32, .i32⟩
  | .hbm, ⟨10, _⟩ => ⟨S160x1, .i32⟩
  | .hbm, ⟨11, _⟩ => ⟨S160x32, .i32⟩
  | .hbm, ⟨12, _⟩ => ⟨S160x32, .i32⟩
  | .hbm, ⟨13, _⟩ => ⟨S160x32, .i1⟩
  | .hbm, ⟨14, _⟩ => ⟨S160x32, .i32⟩
  | .hbm, ⟨15, _⟩ => ⟨S_, .i32⟩
  | .hbm, ⟨16, _⟩ => ⟨S160, .i32⟩
  | .hbm, ⟨17, _⟩ => ⟨S_, .i32⟩
  | .hbm, ⟨18, _⟩ => ⟨S160, .i32⟩
  | .hbm, ⟨19, _⟩ => ⟨S160, .i32⟩
  | .hbm, ⟨20, _⟩ => ⟨S_, .i32⟩
  | .hbm, ⟨21, _⟩ => ⟨S160, .i32⟩
  | .hbm, ⟨22, _⟩ => ⟨S160, .i32⟩
  | .hbm, ⟨23, _⟩ => ⟨S1, .i32⟩
  | .hbm, ⟨24, _⟩ => ⟨S_, .i32⟩
  | .hbm, ⟨25, _⟩ => ⟨S160, .i32⟩
  | .hbm, ⟨26, _⟩ => ⟨S160, .i1⟩
  | .hbm, ⟨27, _⟩ => ⟨S160x512x2048, .f32⟩
  | .hbm, ⟨28, _⟩ => ⟨S32x2048x1024, .f32⟩
  | .hbm, ⟨29, _⟩ => ⟨S_, .i32⟩
  | .hbm, ⟨30, _⟩ => ⟨S160, .i32⟩
  | .hbm, ⟨31, _⟩ => ⟨S160, .i1⟩
  | .hbm, ⟨32, _⟩ => ⟨S_, .i32⟩
  | .hbm, ⟨33, _⟩ => ⟨S160, .i32⟩
  | .hbm, ⟨34, _⟩ => ⟨S160, .i32⟩
  | .hbm, ⟨35, _⟩ => ⟨S160, .i32⟩
  | .hbm, ⟨36, _⟩ => ⟨S160x1, .i32⟩
  | .hbm, ⟨37, _⟩ => ⟨S160x2048x1024, .f32⟩
  | .hbm, ⟨38, _⟩ => ⟨S160x512x1024, .f32⟩
  | .hbm, ⟨39, _⟩ => ⟨S32x2048x1024, .f32⟩
  | .hbm, ⟨40, _⟩ => ⟨S_, .i32⟩
  | .hbm, ⟨41, _⟩ => ⟨S160, .i32⟩
  | .hbm, ⟨42, _⟩ => ⟨S160, .i1⟩
  | .hbm, ⟨43, _⟩ => ⟨S_, .i32⟩
  | .hbm, ⟨44, _⟩ => ⟨S160, .i32⟩
  | .hbm, ⟨45, _⟩ => ⟨S160, .i32⟩
  | .hbm, ⟨46, _⟩ => ⟨S160, .i32⟩
  | .hbm, ⟨47, _⟩ => ⟨S160x1, .i32⟩
  | .hbm, ⟨48, _⟩ => ⟨S160x2048x1024, .f32⟩
  | .hbm, ⟨49, _⟩ => ⟨S160x512x1024, .f32⟩
  | .hbm, ⟨50, _⟩ => ⟨S160x512x1024, .f32⟩
  | .hbm, ⟨51, _⟩ => ⟨S160x512x1024, .f32⟩
  | .hbm, ⟨52, _⟩ => ⟨S_, .f32⟩
  | .hbm, ⟨53, _⟩ => ⟨S160x512x1024, .f32⟩
  | .hbm, ⟨54, _⟩ => ⟨S160x512x1024, .f32⟩
  | .hbm, ⟨55, _⟩ => ⟨S_, .f32⟩
  | .hbm, ⟨56, _⟩ => ⟨S160x512x1024, .f32⟩
  | .hbm, ⟨57, _⟩ => ⟨S160x512x1024, .f32⟩
  | .hbm, ⟨58, _⟩ => ⟨S160x512x1024, .f32⟩
  | .hbm, ⟨59, _⟩ => ⟨S160x512x1024, .f32⟩
  | .hbm, ⟨60, _⟩ => ⟨S32x1024x2048, .f32⟩
  | .hbm, ⟨61, _⟩ => ⟨S_, .i32⟩
  | .hbm, ⟨62, _⟩ => ⟨S160, .i32⟩
  | .hbm, ⟨63, _⟩ => ⟨S160, .i1⟩
  | .hbm, ⟨64, _⟩ => ⟨S_, .i32⟩
  | .hbm, ⟨65, _⟩ => ⟨S160, .i32⟩
  | .hbm, ⟨66, _⟩ => ⟨S160, .i32⟩
  | .hbm, ⟨67, _⟩ => ⟨S160, .i32⟩
  | .hbm, ⟨68, _⟩ => ⟨S160x1, .i32⟩
  | .hbm, ⟨69, _⟩ => ⟨S160x1024x2048, .f32⟩
  | .hbm, ⟨70, _⟩ => ⟨S160x512x2048, .f32⟩
  | .hbm, ⟨71, _⟩ => ⟨S160x1x1, .i1⟩
  | .hbm, ⟨72, _⟩ => ⟨S_, .f32⟩
  | .hbm, ⟨73, _⟩ => ⟨S_, .f32⟩
  | .hbm, ⟨74, _⟩ => ⟨S160x512x2048, .i1⟩
  | .hbm, ⟨75, _⟩ => ⟨S160x512x2048, .f32⟩
  | .hbm, ⟨76, _⟩ => ⟨S160x512x2048, .f32⟩
  | .hbm, ⟨77, _⟩ => ⟨S81920x2048, .f32⟩
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_5 : Ref sig .tc := ⟨.hbm, 40, rfl⟩
abbrev main_v29 : Ref sig .tc := ⟨.hbm, 41, rfl⟩
abbrev main_v30 : Ref sig .tc := ⟨.hbm, 42, rfl⟩
abbrev main_c_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_7 : Ref sig .tc := ⟨.hbm, 61, rfl⟩
abbrev main_v40 : Ref sig .tc := ⟨.hbm, 62, rfl⟩
abbrev main_v41 : Ref sig .tc := ⟨.hbm, 63, rfl⟩
abbrev main_c_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_v49 : Ref sig .tc := ⟨.hbm, 76, rfl⟩
abbrev main_v50 : Ref sig .tc := ⟨.hbm, 77, rfl⟩

abbrev nD : Nat := 1
abbrev τ : Topo := Topo.v7x

variable {F : FTy → Type} [FloatOps F]
-- ==== Kernel2.lean ====
abbrev S4x8192x2048 : Shape := ⟨3, ![4, 8192, 2048]⟩
abbrev S1x2048x5648 : Shape := ⟨3, ![1, 2048, 5648]⟩
abbrev S32768x2048 : Shape := ⟨2, ![32768, 2048]⟩
abbrev S2048x5648 : Shape := ⟨2, ![2048, 5648]⟩
abbrev S2048x16 : Shape := ⟨2, ![2048, 16]⟩
abbrev S_ : Shape := ⟨0, ![]⟩
abbrev S2048x128 : Shape := ⟨2, ![2048, 128]⟩
abbrev S32768x5632 : Shape := ⟨2, ![32768, 5632]⟩
abbrev S32768x128 : Shape := ⟨2, ![32768, 128]⟩
abbrev S512x2048 : Shape := ⟨2, ![512, 2048]⟩
abbrev S2048x5632 : Shape := ⟨2, ![2048, 5632]⟩
abbrev S512x5632 : Shape := ⟨2, ![512, 5632]⟩
abbrev S512x128 : Shape := ⟨2, ![512, 128]⟩
abbrev S2048x2816 : Shape := ⟨2, ![2048, 2816]⟩
abbrev S512x2816 : Shape := ⟨2, ![512, 2816]⟩

abbrev nBuf : Space → Nat
  | .hbm => 13
  | .vmem => 8
  | .smem => 0
  | _ => 0

abbrev bufTy : (tb : Table) → Fin (tcTables nBuf tb) → BufTy
  | .hbm, ⟨0, _⟩ => ⟨S4x8192x2048, .f32⟩
  | .hbm, ⟨1, _⟩ => ⟨S1x2048x5648, .f32⟩
  | .hbm, ⟨2, _⟩ => ⟨S32768x2048, .f32⟩
  | .hbm, ⟨3, _⟩ => ⟨S2048x5648, .f32⟩
  | .hbm, ⟨4, _⟩ => ⟨S2048x5648, .bf16⟩
  | .hbm, ⟨5, _⟩ => ⟨S2048x5648, .f32⟩
  | .hbm, ⟨6, _⟩ => ⟨S2048x16, .f32⟩
  | .hbm, ⟨7, _⟩ => ⟨S_, .i32⟩
  | .hbm, ⟨8, _⟩ => ⟨S_, .f32⟩
  | .hbm, ⟨9, _⟩ => ⟨S2048x128, .f32⟩
  | .hbm, ⟨10, _⟩ => ⟨S2048x128, .bf16⟩
  | .hbm, ⟨11, _⟩ => ⟨S32768x5632, .bf16⟩
  | .hbm, ⟨12, _⟩ => ⟨S32768x128, .f32⟩
  | .local _ .vmem, ⟨0, _⟩ => ⟨S512x2048, .f32⟩
  | .local _ .vmem, ⟨1, _⟩ => ⟨S512x2048, .f32⟩
  | .local _ .vmem, ⟨2, _⟩ => ⟨S2048x5632, .bf16⟩
  | .local _ .vmem, ⟨3, _⟩ => ⟨S2048x128, .bf16⟩
  | .local _ .vmem, ⟨4, _⟩ => ⟨S512x5632, .bf16⟩
  | .local _ .vmem, ⟨5, _⟩ => ⟨S512x5632, .bf16⟩
  | .local _ .vmem, ⟨6, _⟩ => ⟨S512x128, .f32⟩
  | .local _ .vmem, ⟨7, _⟩ => ⟨S512x128, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S4x8192x2048 : Shape := ⟨3, ![4, 8192, 2048]⟩
abbrev S1x2048x5648 : Shape := ⟨3, ![1, 2048, 5648]⟩
abbrev S2048x5648 : Shape := ⟨2, ![2048, 5648]⟩
abbrev S4x8192x5648 : Shape := ⟨3, ![4, 8192, 5648]⟩
abbrev S32768x5648 : Shape := ⟨2, ![32768, 5648]⟩
abbrev S32768x5632 : Shape := ⟨2, ![32768, 5632]⟩
abbrev S32768x16 : Shape := ⟨2, ![32768, 16]⟩
abbrev S_ : Shape := ⟨0, ![]⟩
abbrev S32768x128 : Shape := ⟨2, ![32768, 128]⟩

abbrev nBuf : Space → Nat
  | .hbm => 11
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S1x2048x5648, .f32⟩
  | .hbm, ⟨2, _⟩ => ⟨S2048x5648, .f32⟩
  | .hbm, ⟨3, _⟩ => ⟨S4x8192x5648, .f32⟩
  | .hbm, ⟨4, _⟩ => ⟨S32768x5648, .f32⟩
  | .hbm, ⟨5, _⟩ => ⟨S32768x5632, .f32⟩
  | .hbm, ⟨6, _⟩ => ⟨S32768x16, .f32⟩
  | .hbm, ⟨7, _⟩ => ⟨S32768x5632, .bf16⟩
  | .hbm, ⟨8, _⟩ => ⟨S_, .i32⟩
  | .hbm, ⟨9, _⟩ => ⟨S_, .f32⟩
  | .hbm, ⟨10, _⟩ => ⟨S32768x128, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel3.lean ====
abbrev S32768x1024 : Shape := ⟨2, ![32768, 1024]⟩
abbrev S4x8192x2048 : Shape := ⟨3, ![4, 8192, 2048]⟩
abbrev S1x2048x2048 : Shape := ⟨3, ![1, 2048, 2048]⟩
abbrev S1x2048 : Shape := ⟨2, ![1, 2048]⟩
abbrev S1x2048x4 : Shape := ⟨3, ![1, 2048, 4]⟩
abbrev S1x4 : Shape := ⟨2, ![1, 4]⟩
abbrev S1x4x2048x8 : Shape := ⟨4, ![1, 4, 2048, 8]⟩
abbrev S1x4x8 : Shape := ⟨3, ![1, 4, 8]⟩
abbrev S32768x2048 : Shape := ⟨2, ![32768, 2048]⟩
abbrev S2048x2048 : Shape := ⟨2, ![2048, 2048]⟩
abbrev S1024x2048 : Shape := ⟨2, ![1024, 2048]⟩
abbrev S2048x4 : Shape := ⟨2, ![2048, 4]⟩
abbrev S4x2048x8 : Shape := ⟨3, ![4, 2048, 8]⟩
abbrev S2048x4x8 : Shape := ⟨3, ![2048, 4, 8]⟩
abbrev S2048x32 : Shape := ⟨2, ![2048, 32]⟩
abbrev S2048x36 : Shape := ⟨2, ![2048, 36]⟩
abbrev S_ : Shape := ⟨0, ![]⟩
abbrev S2048x128 : Shape := ⟨2, ![2048, 128]⟩
abbrev S4 : Shape := ⟨1, ![4]⟩
abbrev S4x8 : Shape := ⟨2, ![4, 8]⟩
abbrev S32 : Shape := ⟨1, ![32]⟩
abbrev S36 : Shape := ⟨1, ![36]⟩
abbrev S1x36 : Shape := ⟨2, ![1, 36]⟩
abbrev S1x128 : Shape := ⟨2, ![1, 128]⟩
abbrev S2048 : Shape := ⟨1, ![2048]⟩
abbrev S32768x128 : Shape := ⟨2, ![32768, 128]⟩
abbrev S8x128 : Shape := ⟨2, ![8, 128]⟩
abbrev S512x1024 : Shape := ⟨2, ![512, 1024]⟩
abbrev S512x2048 : Shape := ⟨2, ![512, 2048]⟩
abbrev S512x128 : Shape := ⟨2, ![512, 128]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S256x128 : Shape := ⟨2, ![256, 128]⟩
abbrev S128 : Shape := ⟨1, ![128]⟩

abbrev nBuf : Space → Nat
  | .hbm => 42
  | .vmem => 19
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S4x8192x2048, .f32⟩
  | .hbm, ⟨3, _⟩ => ⟨S1x2048x2048, .f32⟩
  | .hbm, ⟨4, _⟩ => ⟨S1x2048, .f32⟩
  | .hbm, ⟨5, _⟩ => ⟨S1x2048, .f32⟩
  | .hbm, ⟨6, _⟩ => ⟨S1x2048x4, .f32⟩
  | .hbm, ⟨7, _⟩ => ⟨S1x4, .f32⟩
  | .hbm, ⟨8, _⟩ => ⟨S1x4x2048x8, .f32⟩
  | .hbm, ⟨9, _⟩ => ⟨S1x4x8, .f32⟩
  | .hbm, ⟨10, _⟩ => ⟨S32768x2048, .f32⟩
  | .hbm, ⟨11, _⟩ => ⟨S2048x2048, .f32⟩
  | .hbm, ⟨12, _⟩ => ⟨S1024x2048, .f32⟩
  | .hbm, ⟨13, _⟩ => ⟨S1024x2048, .bf16⟩
  | .hbm, ⟨14, _⟩ => ⟨S2048x2048, .f32⟩
  | .hbm, ⟨15, _⟩ => ⟨S1024x2048, .f32⟩
  | .hbm, ⟨16, _⟩ => ⟨S1024x2048, .bf16⟩
  | .hbm, ⟨17, _⟩ => ⟨S2048x4, .f32⟩
  | .hbm, ⟨18, _⟩ => ⟨S4x2048x8, .f32⟩
  | .hbm, ⟨19, _⟩ => ⟨S2048x4x8, .f32⟩
  | .hbm, ⟨20, _⟩ => ⟨S2048x32, .f32⟩
  | .hbm, ⟨21, _⟩ => ⟨S2048x36, .f32⟩
  | .hbm, ⟨22, _⟩ => ⟨S_, .i32⟩
  | .hbm, ⟨23, _⟩ => ⟨S_, .f32⟩
  | .hbm, ⟨24, _⟩ => ⟨S2048x128, .f32⟩
  | .hbm, ⟨25, _⟩ => ⟨S2048x128, .bf16⟩
  | .hbm, ⟨26, _⟩ => ⟨S4, .f32⟩
  | .hbm, ⟨27, _⟩ => ⟨S4x8, .f32⟩
  | .hbm, ⟨28, _⟩ => ⟨S32, .f32⟩
  | .hbm, ⟨29, _⟩ => ⟨S36, .f32⟩
  | .hbm, ⟨30, _⟩ => ⟨S1x36, .f32⟩
  | .hbm, ⟨31, _⟩ => ⟨S_, .i32⟩
  | .hbm, ⟨32, _⟩ => ⟨S_, .f32⟩
  | .hbm, ⟨33, _⟩ => ⟨S1x128, .f32⟩
  | .hbm, ⟨34, _⟩ => ⟨S2048, .f32⟩
  | .hbm, ⟨35, _⟩ => ⟨S1x2048, .f32⟩
  | .hbm, ⟨36, _⟩ => ⟨S2048, .f32⟩
  | .hbm, ⟨37, _⟩ => ⟨S1x2048, .f32⟩
  | .hbm, ⟨38, _⟩ => ⟨S32768x2048, .f32⟩
  | .hbm, ⟨39, _⟩ => ⟨S32768x128, .i32⟩
  | .hbm, ⟨40, _⟩ => ⟨S32768x128, .f32⟩
  | .hbm, ⟨41, _⟩ => ⟨S8x128, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .f32⟩
  | .local _ .vmem, ⟨5, _⟩ => ⟨S512x2048, .f32⟩
  | .local _ .vmem, ⟨6, _⟩ => ⟨S1024x2048, .bf16⟩
  | .local _ .vmem, ⟨7, _⟩ => ⟨S1024x2048, .bf16⟩
  | .local _ .vmem, ⟨8, _⟩ => ⟨S1x2048, .f32⟩
  | .local _ .vmem, ⟨9, _⟩ => ⟨S1x2048, .f32⟩
  | .local _ .vmem, ⟨10, _⟩ => ⟨S2048x128, .bf16⟩
  | .local _ .vmem, ⟨11, _⟩ => ⟨S1x128, .f32⟩
  | .local _ .vmem, ⟨12, _⟩ => ⟨S512x2048, .f32⟩
  | .local _ .vmem, ⟨13, _⟩ => ⟨S512x2048, .f32⟩
  | .local _ .vmem, ⟨14, _⟩ => ⟨S512x128, .i32⟩
  | .local _ .vmem, ⟨15, _⟩ => ⟨S512x128, .i32⟩
  | .local _ .vmem, ⟨16, _⟩ => ⟨S512x128, .f32⟩
  | .local _ .vmem, ⟨17, _⟩ => ⟨S512x128, .f32⟩
  | .local _ .vmem, ⟨18, _⟩ => ⟨S8x128, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_call0_v0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_0 : Ref sig .tc := ⟨.hbm, 31, rfl⟩
abbrev main_call1_v0 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24_0 : Ref sig .tc := ⟨.hbm, 38, rfl⟩
abbrev main_v24_1 : Ref sig .tc := ⟨.hbm, 39, rfl⟩
abbrev main_v24_2 : Ref sig .tc := ⟨.hbm, 40, rfl⟩
abbrev main_v24_3 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference3Ideal.lean ====
abbrev S32768x1024 : Shape := ⟨2, ![32768, 1024]⟩
abbrev S4x8192x2048 : Shape := ⟨3, ![4, 8192, 2048]⟩
abbrev S1x2048x2048 : Shape := ⟨3, ![1, 2048, 2048]⟩
abbrev S1x2048 : Shape := ⟨2, ![1, 2048]⟩
abbrev S1x2048x4 : Shape := ⟨3, ![1, 2048, 4]⟩
abbrev S1x4 : Shape := ⟨2, ![1, 4]⟩
abbrev S1x4x2048x8 : Shape := ⟨4, ![1, 4, 2048, 8]⟩
abbrev S1x4x8 : Shape := ⟨3, ![1, 4, 8]⟩
abbrev S32768x2048 : Shape := ⟨2, ![32768, 2048]⟩
abbrev S2048x2048 : Shape := ⟨2, ![2048, 2048]⟩
abbrev S_ : Shape := ⟨0, ![]⟩
abbrev S32768 : Shape := ⟨1, ![32768]⟩
abbrev S32768x1 : Shape := ⟨2, ![32768, 1]⟩
abbrev S2048 : Shape := ⟨1, ![2048]⟩
abbrev S2048x4 : Shape := ⟨2, ![2048, 4]⟩
abbrev S32768x4 : Shape := ⟨2, ![32768, 4]⟩
abbrev S4 : Shape := ⟨1, ![4]⟩
abbrev S4x2048x8 : Shape := ⟨3, ![4, 2048, 8]⟩
abbrev S32768x4x8 : Shape := ⟨3, ![32768, 4, 8]⟩
abbrev S4x8 : Shape := ⟨2, ![4, 8]⟩
abbrev S32768x2 : Shape := ⟨2, ![32768, 2]⟩
abbrev S32768x8 : Shape := ⟨2, ![32768, 8]⟩
abbrev S32768x2x1 : Shape := ⟨3, ![32768, 2, 1]⟩
abbrev S128 : Shape := ⟨1, ![128]⟩
abbrev S1x1x128 : Shape := ⟨3, ![1, 1, 128]⟩
abbrev S32768x2x128 : Shape := ⟨3, ![32768, 2, 128]⟩
abbrev S32768x128 : Shape := ⟨2, ![32768, 128]⟩
abbrev S1x128 : Shape := ⟨2, ![1, 128]⟩
abbrev S8x128 : Shape := ⟨2, ![8, 128]⟩

abbrev nBuf : Space → Nat
  | .hbm => 144
  | .vmem => 0
  | .smem => 0
  | _ => 0

abbrev hbmTy0_0 (i : Nat) : BufTy := match i % 128 with
  | 0 => ⟨S32768x1024, .bf16⟩
  | 1 => ⟨S32768x1024, .bf16⟩
  | 2 => ⟨S4x8192x2048, .f32⟩
  | 3 => ⟨S1x2048x2048, .f32⟩
  | 4 => ⟨S1x2048, .f32⟩
  | 5 => ⟨S1x2048, .f32⟩
  | 6 => ⟨S1x2048x4, .f32⟩
  | 7 => ⟨S1x4, .f32⟩
  | 8 => ⟨S1x4x2048x8, .f32⟩
  | 9 => ⟨S1x4x8, .f32⟩
  | 10 => ⟨S32768x1024, .f32⟩
  | 11 => ⟨S32768x1024, .f32⟩
  | 12 => ⟨S32768x2048, .f32⟩
  | 13 => ⟨S2048x2048, .f32⟩
  | 14 => ⟨S32768x2048, .f32⟩
  | 15 => ⟨S32768x2048, .f32⟩
  | 16 => ⟨S_, .f32⟩
  | 17 => ⟨S32768x2048, .f32⟩
  | 18 => ⟨S32768x2048, .f32⟩
  | 19 => ⟨S32768x2048, .f32⟩
  | 20 => ⟨S_, .f32⟩
  | 21 => ⟨S32768, .f32⟩
  | 22 => ⟨S32768x1, .f32⟩
  | 23 => ⟨S_, .f32⟩
  | 24 => ⟨S32768x1, .f32⟩
  | 25 => ⟨S32768x1, .f32⟩
  | 26 => ⟨S32768x2048, .f32⟩
  | 27 => ⟨S32768x2048, .f32⟩
  | 28 => ⟨S32768x2048, .f32⟩
  | 29 => ⟨S_, .f32⟩
  | 30 => ⟨S32768, .f32⟩
  | 31 => ⟨S32768x1, .f32⟩
  | 32 => ⟨S_, .f32⟩
  | 33 => ⟨S32768x1, .f32⟩
  | 34 => ⟨S32768x1, .f32⟩
  | 35 => ⟨S32768x2048, .f32⟩
  | 36 => ⟨S32768x2048, .f32⟩
  | 37 => ⟨S_, .f32⟩
  | 38 => ⟨S32768x1, .f32⟩
  | 39 => ⟨S32768x1, .f32⟩
  | 40 => ⟨S32768x1, .f32⟩
  | 41 => ⟨S32768x2048, .f32⟩
  | 42 => ⟨S32768x2048, .f32⟩
  | 43 => ⟨S2048, .f32⟩
  | 44 => ⟨S1x2048, .f32⟩
  | 45 => ⟨S32768x2048, .f32⟩
  | 46 => ⟨S32768x2048, .f32⟩
  | 47 => ⟨S2048, .f32⟩
  | 48 => ⟨S1x2048, .f32⟩
  | 49 => ⟨S32768x2048, .f32⟩
  | 50 => ⟨S32768x2048, .f32⟩
  | 51 => ⟨S2048x4, .f32⟩
  | 52 => ⟨S32768x4, .f32⟩
  | 53 => ⟨S4, .f32⟩
  | 54 => ⟨S1x4, .f32⟩
  | 55 => ⟨S32768x4, .f32⟩
  | 56 => ⟨S32768x4, .f32⟩
  | 57 => ⟨S_, .f32⟩
  | 58 => ⟨S32768, .f32⟩
  | 59 => ⟨S_, .f32⟩
  | 60 => ⟨S32768, .f32⟩
  | 61 => ⟨S32768, .f32⟩
  | 62 => ⟨S32768x1, .f32⟩
  | 63 => ⟨S32768x4, .f32⟩
  | 64 => ⟨S32768x4, .f32⟩
  | 65 => ⟨S32768x4, .f32⟩
  | 66 => ⟨S_, .f32⟩
  | 67 => ⟨S32768, .f32⟩
  | 68 => ⟨S32768x1, .f32⟩
  | 69 => ⟨S32768x4, .f32⟩
  | 70 => ⟨S32768x4, .f32⟩
  | 71 => ⟨S32768x1, .f32⟩
  | 72 => ⟨S32768x1, .i32⟩
  | 73 => ⟨S32768, .f32⟩
  | 74 => ⟨S32768, .i32⟩
  | 75 => ⟨S4x2048x8, .f32⟩
  | 76 => ⟨S32768x4x8, .f32⟩
  | 77 => ⟨S4x8, .f32⟩
  | 78 => ⟨S1x4x8, .f32⟩
  | 79 => ⟨S32768x4x8, .f32⟩
  | 80 => ⟨S32768x4x8, .f32⟩
  | 81 => ⟨S32768, .i32⟩
  | 82 => ⟨S_, .i32⟩
  | 83 => ⟨S32768, .i32⟩
  | 84 => ⟨S32768, .i1⟩
  | 85 => ⟨S_, .i32⟩
  | 86 => ⟨S32768, .i32⟩
  | 87 => ⟨S32768, .i32⟩
  | 88 => ⟨S32768, .i32⟩
  | 89 => ⟨S_, .i32⟩
  | 90 => ⟨S32768, .i32⟩
  | 91 => ⟨S32768, .i1⟩
  | 92 => ⟨S_, .i32⟩
  | 93 => ⟨S32768, .i32⟩
  | 94 => ⟨S32768, .i32⟩
  | 95 => ⟨S32768, .i32⟩
  | 96 => ⟨S32768x1, .i32⟩
  | 97 => ⟨S32768x1, .i32⟩
  | 98 => ⟨S32768x2, .i32⟩
  | 99 => ⟨S32768x8, .f32⟩
  | 100 => ⟨S32768x2, .f32⟩
  | 101 => ⟨S32768x2, .i32⟩
  | 102 => ⟨S_, .f32⟩
  | 103 => ⟨S32768, .f32⟩
  | 104 => ⟨S_, .f32⟩
  | 105 => ⟨S32768, .f32⟩
  | 106 => ⟨S32768, .f32⟩
  | 107 => ⟨S32768x1, .f32⟩
  | 108 => ⟨S32768x2, .f32⟩
  | 109 => ⟨S32768x2, .f32⟩
  | 110 => ⟨S32768x2, .f32⟩
  | 111 => ⟨S_, .f32⟩
  | 112 => ⟨S32768, .f32⟩
  | 113 => ⟨S32768x1, .f32⟩
  | 114 => ⟨S32768x2, .f32⟩
  | 115 => ⟨S32768x2, .f32⟩
  | 116 => ⟨S32768x1, .f32⟩
  | 117 => ⟨S32768x2, .f32⟩
  | 118 => ⟨S32768x2, .f32⟩
  | 119 => ⟨S32768x1, .i32⟩
  | 120 => ⟨S_, .i32⟩
  | 121 => ⟨S32768x1, .i32⟩
  | 122 => ⟨S32768x1, .i32⟩
  | 123 => ⟨S32768x2, .i32⟩
  | 124 => ⟨S32768x2, .i32⟩
  | 125 => ⟨S32768x2x1, .i32⟩
  | 126 => ⟨S128, .i32⟩
  | 127 => ⟨S1x1x128, .i32⟩
  | _ => ⟨S32768x1024, .bf16⟩

abbrev hbmTy0_1 (i : Nat) : BufTy := match i % 128 with
  | 0 => ⟨S32768x2x128, .i32⟩
  | 1 => ⟨S32768x2x128, .i32⟩
  | 2 => ⟨S32768x2x128, .i1⟩
  | 3 => ⟨S32768x2x128, .f32⟩
  | 4 => ⟨S_, .f32⟩
  | 5 => ⟨S32768x128, .f32⟩
  | 6 => ⟨S_, .f32⟩
  | 7 => ⟨S128, .f32⟩
  | 8 => ⟨S_, .i32⟩
  | 9 => ⟨S_, .i32⟩
  | 10 => ⟨S32768x128, .i32⟩
  | 11 => ⟨S_, .i32⟩
  | 12 => ⟨S_, .f32⟩
  | 13 => ⟨S32768x128, .f32⟩
  | 14 => ⟨S1x128, .f32⟩
  | 15 => ⟨S8x128, .f32⟩
  | _ => ⟨S32768x1024, .bf16⟩

abbrev hbmTy (i : Nat) : BufTy := match i / 128 with
  | 0 => hbmTy0_0 i
  | 1 => hbmTy0_1 i
  | _ => ⟨S32768x1024, .bf16⟩

abbrev bufTy : (tb : Table) → Fin (tcTables nBuf tb) → BufTy
  | .hbm, ⟨i, _⟩ => hbmTy i
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_5 : Ref sig .tc := ⟨.hbm, 57, rfl⟩
abbrev main_v41 : Ref sig .tc := ⟨.hbm, 58, rfl⟩
abbrev main_cst_6 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_7 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_values : Ref sig .tc := ⟨.hbm, 71, rfl⟩
abbrev main_indices : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c : Ref sig .tc := ⟨.hbm, 82, rfl⟩
abbrev main_v61 : Ref sig .tc := ⟨.hbm, 83, rfl⟩
abbrev main_v62 : Ref sig .tc := ⟨.hbm, 84, rfl⟩
abbrev main_c_8 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_c_9 : Ref sig .tc := ⟨.hbm, 89, rfl⟩
abbrev main_v66 : Ref sig .tc := ⟨.hbm, 90, rfl⟩
abbrev main_v67 : Ref sig .tc := ⟨.hbm, 91, rfl⟩
abbrev main_c_10 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_values_11 : Ref sig .tc := ⟨.hbm, 100, rfl⟩
abbrev main_indices_12 : Ref sig .tc := ⟨.hbm, 101, rfl⟩
abbrev main_cst_13 : Ref sig .tc := ⟨.hbm, 102, rfl⟩
abbrev main_v75 : Ref sig .tc := ⟨.hbm, 103, rfl⟩
abbrev main_cst_14 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_15 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_c_16 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_cst_17 : Ref sig .tc := ⟨.hbm, 132, rfl⟩
abbrev main_v101 : Ref sig .tc := ⟨.hbm, 133, rfl⟩
abbrev main_cst_18 : Ref sig .tc := ⟨.hbm, 134, rfl⟩
abbrev main_v102 : Ref sig .tc := ⟨.hbm, 135, rfl⟩
abbrev main_c_19 : Ref sig .tc := ⟨.hbm, 136, rfl⟩
abbrev main_call0_v0 : Ref sig .tc := ⟨.hbm, 137, rfl⟩
abbrev main_v103 : Ref sig .tc := ⟨.hbm, 138, rfl⟩
abbrev main_c_20 : Ref sig .tc := ⟨.hbm, 139, rfl⟩
abbrev main_call1_v0 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩

abbrev nD : Nat := 1
abbrev τ : Topo := Topo.v7x

variable {F : FTy → Type} [FloatOps F]
-- ==== Kernel4.lean ====
abbrev S32768x128 : Shape := ⟨2, ![32768, 128]⟩
abbrev S8x128 : Shape := ⟨2, ![8, 128]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S32x8x1024 : Shape := ⟨3, ![32, 8, 1024]⟩
abbrev S1024x128 : Shape := ⟨2, ![1024, 128]⟩
abbrev S1x8x1024 : Shape := ⟨3, ![1, 8, 1024]⟩
abbrev S1x128 : Shape := ⟨2, ![1, 128]⟩
abbrev S128x1024 : Shape := ⟨2, ![128, 1024]⟩
abbrev S8x1024 : Shape := ⟨2, ![8, 1024]⟩
abbrev S128 : Shape := ⟨1, ![128]⟩

abbrev nBuf : Space → Nat
  | .hbm => 12
  | .vmem => 9
  | .smem => 0
  | _ => 0

abbrev bufTy : (tb : Table) → Fin (tcTables nBuf tb) → BufTy
  | .hbm, ⟨0, _⟩ => ⟨S32768x128, .i32⟩
  | .hbm, ⟨1, _⟩ => ⟨S8x128, .f32⟩
  | .hbm, ⟨2, _⟩ => ⟨S1024, .i32⟩
  | .hbm, ⟨3, _⟩ => ⟨S1024x1, .i32⟩
  | .hbm, ⟨4, _⟩ => ⟨S1024, .i32⟩
  | .hbm, ⟨5, _⟩ => ⟨S1x1024, .i32⟩
  | .hbm, ⟨6, _⟩ => ⟨S1024x1024, .i32⟩
  | .hbm, ⟨7, _⟩ => ⟨S1024x1024, .i32⟩
  | .hbm, ⟨8, _⟩ => ⟨S1024x1024, .i1⟩
  | .hbm, ⟨9, _⟩ => ⟨S1024x1024, .bf16⟩
  | .hbm, ⟨10, _⟩ => ⟨S32x8x1024, .i32⟩
  | .hbm, ⟨11, _⟩ => ⟨S8x128, .f32⟩
  | .local _ .vmem, ⟨0, _⟩ => ⟨S1024x128, .i32⟩
  | .local _ .vmem, ⟨1, _⟩ => ⟨S1024x128, .i32⟩
  | .local _ .vmem, ⟨2, _⟩ => ⟨S1024x1024, .bf16⟩
  | .local _ .vmem, ⟨3, _⟩ => ⟨S8x128, .f32⟩
  | .local _ .vmem, ⟨4, _⟩ => ⟨S1x8x1024, .i32⟩
  | .local _ .vmem, ⟨5, _⟩ => ⟨S1x8x1024, .i32⟩
  | .local _ .vmem, ⟨6, _⟩ => ⟨S8x128, .f32⟩
  | .local _ .vmem, ⟨7, _⟩ => ⟨S1x128, .f32⟩
  | .local _ .vmem, ⟨8, _⟩ => ⟨S1x128, .f32⟩
  | _, _ => ⟨S32768x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8_0 : Ref sig .tc := ⟨.hbm, 10, rfl⟩
abbrev main_v8_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32_4 : BitVec 32 := 0#32
  let v27 : BitVec 1 := Scalar.cmpi .eq arg0 c0_i32_4
  let v28 : BitVec 32 := Scalar.extui v27
  let c0_i32_5 : BitVec 32 := 0#32
  let v29 : BitVec 1 := Scalar.cmpi .ne v28 c0_i32_5
  v29

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x8x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference4Ideal.lean ====
abbrev S32768x128 : Shape := ⟨2, ![32768, 128]⟩
abbrev S8x128 : Shape := ⟨2, ![8, 128]⟩
abbrev S32768x2 : Shape := ⟨2, ![32768, 2]⟩
abbrev S32768x2x1 : Shape := ⟨3, ![32768, 2, 1]⟩
abbrev S128 : Shape := ⟨1, ![128]⟩
abbrev S1x1x128 : Shape := ⟨3, ![1, 1, 128]⟩
abbrev S32768x2x128 : Shape := ⟨3, ![32768, 2, 128]⟩
abbrev S32768 : Shape := ⟨1, ![32768]⟩
abbrev S32768x1 : Shape := ⟨2, ![32768, 1]⟩
abbrev S1x32768 : Shape := ⟨2, ![1, 32768]⟩
abbrev S32768x32768 : Shape := ⟨2, ![32768, 32768]⟩
abbrev S_ : Shape := ⟨0, ![]⟩
abbrev S1x128 : Shape := ⟨2, ![1, 128]⟩
abbrev S128x1 : Shape := ⟨2, ![128, 1]⟩
abbrev S128x128 : Shape := ⟨2, ![128, 128]⟩
abbrev S32768x1x128 : Shape := ⟨3, ![32768, 1, 128]⟩
abbrev S32x1024x2 : Shape := ⟨3, ![32, 1024, 2]⟩
abbrev S32x2x1024 : Shape := ⟨3, ![32, 2, 1024]⟩
abbrev S32x8x1024 : Shape := ⟨3, ![32, 8, 1024]⟩
abbrev S2x128 : Shape := ⟨2, ![2, 128]⟩

abbrev nBuf : Space → Nat
  | .hbm => 65
  | .vmem => 0
  | .smem => 0
  | _ => 0

abbrev bufTy : (tb : Table) → Fin (tcTables nBuf tb) → BufTy
  | .hbm, ⟨0, _⟩ => ⟨S32768x128, .i32⟩
  | .hbm, ⟨1, _⟩ => ⟨S8x128, .f32⟩
  | .hbm, ⟨2, _⟩ => ⟨S32768x2, .i32⟩
  | .hbm, ⟨3, _⟩ => ⟨S32768x2x1, .i32⟩
  | .hbm, ⟨4, _⟩ => ⟨S128, .i32⟩
  | .hbm, ⟨5, _⟩ => ⟨S1x1x128, .i32⟩
  | .hbm, ⟨6, _⟩ => ⟨S32768x2x128, .i32⟩
  | .hbm, ⟨7, _⟩ => ⟨S32768x2x128, .i32⟩
  | .hbm, ⟨8, _⟩ => ⟨S32768x2x128, .i1⟩
  | .hbm, ⟨9, _⟩ => ⟨S32768x2x128, .f32⟩
  | .hbm, ⟨10, _⟩ => ⟨S32768, .i32⟩
  | .hbm, ⟨11, _⟩ => ⟨S32768x1, .i32⟩
  | .hbm, ⟨12, _⟩ => ⟨S32768, .i32⟩
  | .hbm, ⟨13, _⟩ => ⟨S1x32768, .i32⟩
  | .hbm, ⟨14, _⟩ => ⟨S32768x32768, .i32⟩
  | .hbm, ⟨15, _⟩ => ⟨S32768x32768, .i32⟩
  | .hbm, ⟨16, _⟩ => ⟨S32768x32768, .i1⟩
  | .hbm, ⟨17, _⟩ => ⟨S32768x32768, .f32⟩
  | .hbm, ⟨18, _⟩ => ⟨S_, .f32⟩
  | .hbm, ⟨19, _⟩ => ⟨S32768x128, .f32⟩
  | .hbm, ⟨20, _⟩ => ⟨S32768x128, .f32⟩
  | .hbm, ⟨21, _⟩ => ⟨S1x128, .f32⟩
  | .hbm, ⟨22, _⟩ => ⟨S128, .f32⟩
  | .hbm, ⟨23, _⟩ => ⟨S_, .f32⟩
  | .hbm, ⟨24, _⟩ => ⟨S128, .f32⟩
  | .hbm, ⟨25, _⟩ => ⟨S128, .f32⟩
  | .hbm, ⟨26, _⟩ => ⟨S_, .f32⟩
  | .hbm, ⟨27, _⟩ => ⟨S128, .f32⟩
  | .hbm, ⟨28, _⟩ => ⟨S128, .f32⟩
  | .hbm, ⟨29, _⟩ => ⟨S128, .f32⟩
  | .hbm, ⟨30, _⟩ => ⟨S_, .f32⟩
  | .hbm, ⟨31, _⟩ => ⟨S128, .f32⟩
  | .hbm, ⟨32, _⟩ => ⟨S128, .f32⟩
  | .hbm, ⟨33, _⟩ => ⟨S128, .i32⟩
  | .hbm, ⟨34, _⟩ => ⟨S128x1, .i32⟩
  | .hbm, ⟨35, _⟩ => ⟨S128, .i32⟩
  | .hbm, ⟨36, _⟩ => ⟨S1x128, .i32⟩
  | .hbm, ⟨37, _⟩ => ⟨S128x128, .i32⟩
  | .hbm, ⟨38, _⟩ => ⟨S128x128, .i32⟩
  | .hbm, ⟨39, _⟩ => ⟨S128x128, .i1⟩
  | .hbm, ⟨40, _⟩ => ⟨S128x128, .f32⟩
  | .hbm, ⟨41, _⟩ => ⟨S128, .f32⟩
  | .hbm, ⟨42, _⟩ => ⟨S128, .f32⟩
  | .hbm, ⟨43, _⟩ => ⟨S1x128, .f32⟩
  | .hbm, ⟨44, _⟩ => ⟨S32768x128, .f32⟩
  | .hbm, ⟨45, _⟩ => ⟨S32768x128, .f32⟩
  | .hbm, ⟨46, _⟩ => ⟨S32768x1x128, .f32⟩
  | .hbm, ⟨47, _⟩ => ⟨S32768x2x128, .f32⟩
  | .hbm, ⟨48, _⟩ => ⟨S32768x2x128, .f32⟩
  | .hbm, ⟨49, _⟩ => ⟨S_, .f32⟩
  | .hbm, ⟨50, _⟩ => ⟨S32768x2, .f32⟩
  | .hbm, ⟨51, _⟩ => ⟨S32x1024x2, .f32⟩
  | .hbm, ⟨52, _⟩ => ⟨S32x2x1024, .f32⟩
  | .hbm, ⟨53, _⟩ => ⟨S_, .i32⟩
  | .hbm, ⟨54, _⟩ => ⟨S_, .f32⟩
  | .hbm, ⟨55, _⟩ => ⟨S32x8x1024, .f32⟩
  | .hbm, ⟨56, _⟩ => ⟨S32x8x1024, .i32⟩
  | .hbm, ⟨57, _⟩ => ⟨S1x128, .f32⟩
  | .hbm, ⟨58, _⟩ => ⟨S128, .f32⟩
  | .hbm, ⟨59, _⟩ => ⟨S1x128, .f32⟩
  | .hbm, ⟨60, _⟩ => ⟨S1x128, .f32⟩
  | .hbm, ⟨61, _⟩ => ⟨S2x128, .f32⟩
  | .hbm, ⟨62, _⟩ => ⟨S_, .i32⟩
  | .hbm, ⟨63, _⟩ => ⟨S_, .f32⟩
  | .hbm, ⟨64, _⟩ => ⟨S8x128, .f32⟩
  | _, _ => ⟨S32768x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_cst : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_cst_0 : Ref sig .tc := ⟨.hbm, 23, rfl⟩
abbrev main_v20 : Ref sig .tc := ⟨.hbm, 24, rfl⟩
abbrev main_v21 : Ref sig .tc := ⟨.hbm, 25, rfl⟩
abbrev main_cst_1 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_2 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_cst_3 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_c : Ref sig .tc := ⟨.hbm, 53, rfl⟩
abbrev main_call0_v0 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_c_4 : Ref sig .tc := ⟨.hbm, 62, rfl⟩
abbrev main_call1_v0 : Ref sig .tc := ⟨.hbm, 63, rfl⟩
abbrev main_v53 : Ref sig .tc := ⟨.hbm, 64, rfl⟩

abbrev nD : Nat := 1
abbrev τ : Topo := Topo.v7x

variable {F : FTy → Type} [FloatOps F]
-- ==== Proof.ExpertRun.lean ====
/- The expert call's body, run once on whole staging memrefs: what it leaves in the output's staging buffer. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.Value
public import Idealize.ShloMosaic.Lib.Pipeline.ValueKit
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Expert

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource the separation logic's propositions are over. -/
abbrev Res (F : FTy → Type) := MT nD τ sig Unit (Elt F) ℕ (UR sig nD τ) ℕ

/-- The second guard is the first one's negation. -/
theorem cond2_iff (i : grid0.Coords) (v : BitVec 32) : k0_cond2 i v = 1#1 ↔ ¬ k0_cond1 i v = 1#1 := by
  unfold k0_cond1 k0_cond2
  simp only [Scalar.cmpi, IntOp.cmpi, Scalar.extui]
  cases h : (BitVec.ofNat 32 (i 0).val).slt v <;> simp only [h, IntOp.cmpi, BitVec.sle_eq_not_slt] <;> decide

/-- A prefetched table as the body is handed it. -/
abbrev tbM0 : Memref sig .tc .smem S160 .i32 := Memref.whole main_v25
abbrev tbM1 : Memref sig .tc .smem S1 .i32 := Memref.whole main_v26
/-- A table's buffer type, and the table held at half the full share. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp (Res F) :=
  M.view.loc (c : Thread nD τ) ↦{fullShare.right} f

/-- The one word of the second table. -/
abbrev word (c : Dev nD) (xt : TbBuf (F := F) c tbM1) : BitVec 32 :=
  View.readAt (Elt F) tbM1.view (Rect.unit (s := S1) ![0] S1.size inb_S1_S1_0).toLoadRect xt (Shape.Idx.first (lt_of_lt_of_eq Nat.one_pos (numel1_S1).symm))

/-- What the body leaves in the output's staging buffer. -/
def outv (i : grid0.Coords) (w : BitVec 32) (x0 : Vec F S512x2048 .f32) (x1 : Vec F S1x2048x1024 .bf16) (x2 : Vec F S1x2048x1024 .bf16)
    (x3 : Vec F S1x1024x2048 .bf16) : Vec F S512x2048 .f32 :=
  if k0_cond1 i w = 1#1 then k0_pay1 x0 x1 x2 x3 else k0_pay2

theorem hz2 : (![0, 0] : Fin 2 → Nat) = fun _ => 0 := by decide
theorem hz3 : (![0, 0, 0] : Fin 3 → Nat) = fun _ => 0 := by decide

/-- Reading back a buffer written whole gives the payload. -/
theorem read_whole (V : View sig .tc .vmem S512x2048 .f32) (f) (v : Vec F S512x2048 .f32) (L : List (View.Piece (Elt F) S512x2048 .f32)) :
    V.read (Elt F) (V.writes (Elt F) f ((⟨Rect.unit (s := S512x2048) ![0, 0] S512x2048.size inb_S512x2048_S512x2048_0_0, v⟩ : View.Piece (Elt F) S512x2048 .f32) :: L)) = v := by
  rw [View.read_writes_eq_canon _ _ _ (fun y => ⟨_, List.mem_cons_self, by
    have e : (Rect.unit (s := S512x2048) ![0, 0] S512x2048.size inb_S512x2048_S512x2048_0_0).set = Finset.univ := by
      ext z; simp only [Rect.mem_set_unit, Finset.mem_univ, iff_true]
      exact fun a => by rw [hz2]; exact ⟨Nat.zero_le _, by rw [Nat.zero_add]; exact (z a).isLt⟩
    rw [e]; exact Finset.mem_univ _⟩), View.canon_cons_unit_zero hz2]

set_option maxHeartbeats 1000000 in
theorem run_body (c : Dev nD) (i : grid0.Coords) (arg3 : Memref sig .tc .vmem S512x2048 .f32) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1x1024x2048 .bf16) (harg6 : arg6.IsWhole) (arg7 : Memref sig .tc .vmem S512x2048 .f32) (harg7 : arg7.IsWhole)
    (x0 : Vec F S512x2048 .f32) (x1 : Vec F S1x2048x1024 .bf16) (x2 : Vec F S1x2048x1024 .bf16) (x3 : Vec F S1x1024x2048 .bf16) (xt0 : TbBuf (F := F) c tbM0) (xt1 : TbBuf (F := F) c tbM1)
    (E : Set ℕ) (K : PUnit → sProp (Res F)) :
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ tbPt c tbM0 xt0 ∗ tbPt c tbM1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (outv i (word c xt1) x0 x1 x2 x3) ∗ tbPt c tbM0 xt0 ∗ tbPt c tbM1 xt1) -∗ K ⟨⟩))
          ⊢ wp frame (wpE (defs₀ (F := F)) Variants.none c none) E (cc0_expert_mlp i tbM0 (Memref.isWhole_whole _) tbM1 (Memref.isWhole_whole _) arg3 harg3 arg4 harg4 arg5 harg5 arg6 harg6 arg7 harg7) K := by
    simp only [cc0_expert_mlp_eq_skeleton]; unfold cc0_expert_mlp_skel
    unfold owns
    iintro ⟨⟨%f0, %hf0, H0⟩, ⟨%f1, %hf1, H1⟩, ⟨%f2, %hf2, H2⟩, ⟨%f3, %hf3, H3⟩, ⟨%d4, %f4, -, H4⟩, HT0, HT1, Hk⟩
    obtain rfl := harg3.eq_unread hf0; obtain rfl := harg4.eq_unread hf1; obtain rfl := harg5.eq_unread hf2; obtain rfl := harg6.eq_unread hf3
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; swap; · iexact H4
      ipureintro
      rw [show run_body.sl.r c xt1 = word c xt1 from rfl]
      unfold outv
      by_cases h1 : k0_cond1 i (word c xt1) = 1#1
      · have h2 : ¬ k0_cond2 i (word c xt1) = 1#1 := fun h => (cond2_iff _ _).mp h h1
        rw [dif_neg h2, dif_pos h1, if_pos h1, read_whole]
        simp only [View.readAt_eq_ld, harg3.read_unread, harg4.read_unread, harg5.read_unread, harg6.read_unread, View.ld_unit_zero (S := S512x2048) hz2, View.ld_unit_zero (S := S1x2048x1024) hz3, View.ld_unit_zero (S := S1x1024x2048) hz3]
      · have h2 : k0_cond2 i (word c xt1) = 1#1 := (cond2_iff _ _).mpr h1
        rw [dif_pos h2, if_neg h1, read_whole]
    isplitl [HT0]; · iexact HT0
    iexact HT1

/-! ## The region's entry and the tables -/

variable (m : (ℓ : Loc nD τ sig) → Buf (Elt F) ℓ) (ρ : Dev nD → PrngReg)

/-- The buffers when the region is entered: after the host operations. -/
abbrev V (c : Dev nD) (b : Ref sig .tc) : Buf (Elt F) ((c : Thread nD τ).loc b) :=
  StableHlo.after (List.flatten [hostOps0, hostOps0_1, hostOps0_2]) (fun b => m (c, b)) b

theorem fresh0 : (hostOps0 : List (HloOp τ sig (Elt F))).Forall fun op => op.fresh = ∅ := by
  simp only [List.Forall]; repeat' constructor
theorem fresh1 : (hostOps0_1 : List (HloOp τ sig (Elt F))).Forall fun op => op.fresh = ∅ := by
  simp only [List.Forall]; repeat' constructor
theorem fresh2 : (hostOps0_2 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2] (by simp only [List.Forall]; exact ⟨hostOps0_sub, hostOps0_1_sub, hostOps0_2_sub⟩)
    (by simp only [List.Forall]; exact ⟨fresh0, fresh1, fresh2⟩) main_chain

theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The tables' contents when the region is entered. -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
/-- The tables name blocks inside the weights' arrays. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

theorem PhiT_eq (c : Dev nD) : (Pipeline.ΦT pre0 (tbl m) c : sProp (Res F)) = iprop(tbPt c tbM0 (tbl m 0) ∗ tbPt c tbM1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- Window `w`'s block at point `t`, as the region finds its array. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The output's block is written back at every point. -/
theorem flush4 (a : (pcfg0 (F := F)).Adm) : ∀ t : Fin (cfg0 a).N, ((cfg0 a).win 4).flush t = true :=
  (fun t => (Pipeline.Window.flushOf_reads cc0_transform_4 reads0_4 hreads0_4 0 (by decide) (by decide) (Pipeline.Window.sep_of_coord cc0_transform_4 0 0 (fun _ => rfl) (by decide)) (P := 1) (m := 0) (by decide) rfl t).mpr (Nat.mod_one _) : ∀ t : Fin grid0.N, Pipeline.Window.flushOf grid0 true cc0_transform_4 t = true)

abbrev bodyAt (a : (pcfg0 (F := F)).Adm) (t : Fin (cfg0 a).N) : Prog (TpuEff nD τ sig (Elt F) Λ₀ .tc) PUnit :=
  cc0_expert_mlp (grid0.coords t) (Memref.whole main_v25) (Memref.isWhole_whole _) (Memref.whole main_v26) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4))

abbrev ms0 (hO : Ok m) (t : Fin (cfgM m hO).N) : Memref sig .tc .vmem S512x2048 .f32 := spec0_0.stage ((cfgM m hO).slots t 0)
abbrev ms1 (hO : Ok m) (t : Fin (cfgM m hO).N) : Memref sig .tc .vmem S1x2048x1024 .bf16 := spec0_1.stage ((cfgM m hO).slots t 1)
abbrev ms2 (hO : Ok m) (t : Fin (cfgM m hO).N) : Memref sig .tc .vmem S1x2048x1024 .bf16 := spec0_2.stage ((cfgM m hO).slots t 2)
abbrev ms3 (hO : Ok m) (t : Fin (cfgM m hO).N) : Memref sig .tc .vmem S1x1024x2048 .bf16 := spec0_3.stage ((cfgM m hO).slots t 3)
abbrev ms4 (hO : Ok m) (t : Fin (cfgM m hO).N) : Memref sig .tc .vmem S512x2048 .f32 := spec0_4.stage ((cfgM m hO).slots t 4)

/-- What the output's staging buffer holds after point `t`. -/
def outsAt (hO : Ok m) (c : Dev nD) (t : Fin (cfgM m hO).N) : Vec F S512x2048 .f32 :=
  outv (grid0.coords t) (word c (tbl m 1)) (iblk m hO c 0 t) (iblk m hO c 1 t) (iblk m hO c 2 t) (iblk m hO c 3 t)

/-- The pipeline's proof data. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outsAt m hO c t
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0 (hO : Ok m) (c : Dev nD) (t : Fin (cfgM m hO).N) : (dats m hO 0 c).after 0 t = iblk m hO c 0 t := by dsimp only [dats]; try rfl
theorem after1 (hO : Ok m) (c : Dev nD) (t : Fin (cfgM m hO).N) : (dats m hO 0 c).after 1 t = iblk m hO c 1 t := by dsimp only [dats]; try rfl
theorem after2 (hO : Ok m) (c : Dev nD) (t : Fin (cfgM m hO).N) : (dats m hO 0 c).after 2 t = iblk m hO c 2 t := by dsimp only [dats]; try rfl
theorem after3 (hO : Ok m) (c : Dev nD) (t : Fin (cfgM m hO).N) : (dats m hO 0 c).after 3 t = iblk m hO c 3 t := by dsimp only [dats]; try rfl
theorem after4 (hO : Ok m) (c : Dev nD) (t : Fin (cfgM m hO).N) : (dats m hO 0 c).after 4 t = outsAt m hO c t := by dsimp only [dats]; try rfl

theorem before0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)

theorem before1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)

theorem before2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

theorem before3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-- What the body is called with at point `t`, -/
def bodyPre (hO : Ok m) (c : Dev nD) (t : Fin (cfgM m hO).N) : sProp (Res F) :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d)))

/-- and what it returns. -/
def bodyPost (hO : Ok m) (c : Dev nD) (t : Fin (cfgM m hO).N) : sProp (Res F) :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ owns (c : Thread nD τ) (ms4 m hO t) fullShare ((dats m hO 0 c).after 4 t))

/-- The body at any point. -/
theorem sound_body (hO : Ok m) (c : Dev nD) (t : Fin (cfgM m hO).N) :
    bodyPre m hO c t ⊢ wp frame (wpE (defs₀ (F := F)) Variants.none c none) Set.univ (bodyAt (adm m hO) t) (fun _ => bodyPost m hO c t) := by
  unfold bodyPre bodyPost bodyAt
  simp only [before0, before1, before2, before3]
  rw [show (dats m hO 0 c).Φ t.succ = (dats m hO 0 c).Φ t.castSucc from rfl,
    show (dats m hO 0 c).owesAt () t.succ = (dats m hO 0 c).owesAt () t.castSucc from rfl,
    after0, after1, after2, after3, after4]
  rw [show (dats m hO 0 c).Φ t.castSucc = iprop(Pipeline.ΦA spec0 c ∗ Pipeline.ΦT pre0 (tbl m) c) from rfl, PhiT_eq]
  unfold outsAt
  iintro ⟨⟨HΦ, ⟨HT0, HT1⟩⟩, Ho, ⟨%d0, H0⟩, ⟨%d1, H1⟩, ⟨%d2, H2⟩, ⟨%d3, H3⟩, ⟨%d4, H4⟩⟩
  iapply ((run_body c (grid0.coords t) _ _ _ _ _ _ _ _ _ _ (iblk m hO c 0 t) (iblk m hO c 1 t) (iblk m hO c 2 t) (iblk m hO c 3 t) (tbl m 0) (tbl m 1)) Set.univ _)
  isplitl [H0]; · iexact H0
  isplitl [H1]; · iexact H1
  isplitl [H2]; · iexact H2
  isplitl [H3]; · iexact H3
  isplitl [H4]; · iexists _; iexact H4
  isplitl [HT0]; · iexact HT0
  isplitl [HT1]; · iexact HT1
  iintro ⟨H0, H1, H2, H3, H4, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  iexact H4

theorem row (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

section obligation
attribute [local irreducible] k0_cond1 k0_cond2

/-- A buffer handed back at one proposition wherever it is written back, whatever the guards say. -/
theorem left_flushed (b b' : Bool) (P Q : sProp (Res F)) : b' = true → (Q ⊢
    (match b with | true => (match b' with | false => P | true => Q) | false => Q)) := by
  rintro rfl; cases b <;> exact .rfl

/-- The body obligation: the output's block being written back at every point, its buffer is handed back at what the body leaves,
    whatever the guards say. -/
theorem body_obligation (hO : Ok m) (c : Dev nD) : BodyObligation (dats (F := F) m hO 0 c) (defs₀ (F := F)) Variants.none () Set.univ := fun t => by
  rw [bigSep_W0, bigSep_W0, row m hO]
  refine triple_restated (sound_body m hO c t) rfl .rfl fun _ => ?_
  unfold bodyPost
  refine sep_mono (PROP := sProp (Res F)) .rfl ?_
  refine sep_mono (PROP := sProp (Res F)) .rfl ?_
  refine sep_mono (PROP := sProp (Res F)) .rfl ?_
  refine sep_mono (PROP := sProp (Res F)) .rfl ?_
  refine sep_mono (PROP := sProp (Res F)) .rfl ?_
  refine sep_mono (PROP := sProp (Res F)) .rfl ?_
  exact left_flushed (F := F) ((cfgM m hO).idle 4 ((cfgM m hO).grid.coords t)) (((cfgM m hO).win 4).flush t) _ _ (flush4 (adm m hO) t)

end obligation

set_option backward.isDefEq.respectTransparency.types false in
/-- The launch: every final state has the pipeline's arrays at what the proof data gives, and every counter at zero. -/
theorem run_quiescent (hO : Ok m) : θ_run defs (onTc (τ := τ) (main (F := F))) ⟨m, fun _ => 0, ρ⟩ (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- The run read: the result array at the proof data's final contents, the arguments unchanged, the counters zero. -/
theorem run_read (hO : Ok m) : θ_run defs (onTc (τ := τ) (main (F := F))) ⟨m, fun _ => 0, ρ⟩ (fun r => (∀ c : Dev nD,
      r.2.mem ((c.tc : Thread nD τ).loc main_v27) = (dats m hO 0 c).arrAt 4 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).1 4,
      ((h.1 c).2 main_arg0 (show main_arg0 ∈ Pipeline.restRefs sig spec0 from Pipeline.mem_restRefs_of main_arg0 (by decide) (by decide))).trans (V_arg0 m c),
      ((h.1 c).1 0).trans (((dats m hO 0 c).arrAt_in 0 rfl _).trans (V_arg1 m c)),
      ((h.1 c).2 main_arg2 (show main_arg2 ∈ Pipeline.restRefs sig spec0 from Pipeline.mem_restRefs_of main_arg2 (by decide) (by decide))).trans (V_arg2 m c),
      ((h.1 c).2 main_arg3 (show main_arg3 ∈ Pipeline.restRefs sig spec0 from Pipeline.mem_restRefs_of main_arg3 (by decide) (by decide))).trans (V_arg3 m c),
      ((h.1 c).2 main_arg4 (show main_arg4 ∈ Pipeline.restRefs sig spec0 from Pipeline.mem_restRefs_of main_arg4 (by decide) (by decide))).trans (V_arg4 m c)⟩, h.2⟩) (run_quiescent m ρ hO)

end Cert.KernelIdeal.Expert

end
-- ==== Proof.ExpertTables.lean ====
/- The expert tables: their contents in closed form, and that they name blocks inside the weights. -/
module

public import proofs.«01_k».proof.Proof.ExpertRun
public import Idealize.ShloMosaic.Lib.StableHlo.Predicate

@[expose] public section

set_option maxRecDepth 16384

noncomputable section

namespace Cert.KernelIdeal.Expert

open Cert.KernelIdeal Cert.KernelIdeal.Gen
open Idealize.ShloMosaic Idealize.ShloMosaic.TcCoe
open Idealize.SL Idealize.SL.Sem

/-! ## Words -/

/-- The sign of a word, as a word. -/
def sgnw (p : BitVec 32) : BitVec 32 := if p = 0 then 0 else if p.msb then -1 else 1

/-- The floor of a quotient by 512, as the host computes it: the quotient rounded to zero, less one where signs differ and a
    remainder is left. -/
def fdw (p : BitVec 32) : BitVec 32 :=
  Scalar.select (IntOp.andi (IntOp.cmpi .ne (sgnw p) (sgnw 512#32)) (IntOp.cmpi .ne (IntOp.remsi .host p 512#32) 0#32))
    (IntOp.subi (IntOp.divsi .host p 512#32) 1#32) (IntOp.divsi .host p 512#32)

theorem toInt_bounds (p : BitVec 32) : -2147483648 ≤ p.toInt ∧ p.toInt < 2147483648 := by
  have h1 := BitVec.le_toInt p
  have h2 := BitVec.toInt_lt (x := p)
  norm_num at h1 h2
  exact ⟨h1, h2⟩

theorem fdw_toInt (p : BitVec 32) : (fdw p).toInt = p.toInt / 512 := by
  obtain ⟨hl, hu⟩ := toInt_bounds p
  have hc : ¬ IntOp.SDivCorner p 512#32 := by unfold IntOp.SDivCorner; simp
  have h512 : (512#32 : BitVec 32).toInt = 512 := by decide
  have hd : (IntOp.divsi .host p 512#32).toInt = p.toInt.tdiv 512 := by
    unfold IntOp.divsi; rw [if_neg hc, BitVec.toInt_sdiv, h512]
    rw [Int.bmod_def]
    have := Int.mul_tdiv_add_tmod p.toInt 512
    have := Int.tmod_lt_of_pos p.toInt (by norm_num : (0:Int) < 512)
    have := Int.lt_tmod_of_pos p.toInt (by norm_num : (0:Int) < 512)
    norm_num
    omega
  have hr : (IntOp.remsi .host p 512#32).toInt = p.toInt.tmod 512 := by
    unfold IntOp.remsi; rw [if_neg hc, BitVec.toInt_srem, h512]
  have hrz : IntOp.cmpi .ne (IntOp.remsi .host p 512#32) 0#32 = BitVec.ofBool (decide (p.toInt.tmod 512 ≠ 0)) := by
    rw [WordCmp.cmpi_ne_eq]
    congr 1
    rw [decide_eq_decide, ← hr, ne_eq, ne_eq, ← BitVec.toInt_inj]; rfl
  have hs : IntOp.cmpi .ne (sgnw p) (sgnw 512#32) = BitVec.ofBool (decide (p.toInt ≤ 0)) := by
    rw [show sgnw 512#32 = 1#32 from by decide, WordCmp.cmpi_ne_eq]
    congr 1
    rw [decide_eq_decide]
    unfold sgnw
    by_cases h0 : p = 0
    · subst h0; simp
    · rw [if_neg h0]
      have hne : p.toInt ≠ 0 := fun h => h0 (BitVec.toInt_inj.1 (by rw [h]; rfl))
      by_cases hm : p.msb = true
      · rw [if_pos hm]
        have : p.toInt < 0 := by rw [BitVec.msb_eq_toInt] at hm; simpa using hm
        simp; omega
      · rw [if_neg hm]
        have : ¬ p.toInt < 0 := by rw [BitVec.msb_eq_toInt] at hm; simpa using hm
        simp; omega
  unfold fdw
  rw [hs, hrz, WordCmp.andi_ofBool]
  have e1 := Int.mul_tdiv_add_tmod p.toInt 512
  have e2 := Int.tmod_lt_of_pos p.toInt (by norm_num : (0:Int) < 512)
  have e3 := Int.lt_tmod_of_pos p.toInt (by norm_num : (0:Int) < 512)
  unfold Scalar.select
  by_cases hp : p.toInt ≤ 0
  · by_cases hz : p.toInt.tmod 512 = 0
    · rw [if_neg (by simp [hz])]
      rw [hd]; omega
    · rw [if_pos (by simp [hp, hz])]
      have e4 := Int.tmod_nonneg (a := -p.toInt) 512 (by omega)
      rw [Int.neg_tmod] at e4
      rw [show IntOp.subi (IntOp.divsi .host p 512#32) 1#32 = (IntOp.divsi .host p 512#32) - 1#32 from rfl, BitVec.toInt_sub, hd, show (1#32 : BitVec 32).toInt = 1 from by decide, Int.bmod_def]
      norm_num
      omega
  · rw [if_neg (by simp [hp])]
    have e4 := Int.tmod_nonneg (a := p.toInt) 512 (by omega)
    rw [hd]; omega

/-! ## The tables -/

section tables
variable {F : FTy → Type} [FloatOps F]
variable (m : (ℓ : Loc nD τ sig) → Buf (Elt F) ℓ)

/-- The number of used blocks, from the padded ends, as the host computes it. -/
def nusedV (x0 : IVec S32 32) : IVec S_ 32 :=
  let p : IVec S_ 32 := shapeCast _ (extractStridedSlice S1 ![31] x0 slices_S32_S1_31) shapeCasts_S1_S_
  let b : IVec S_ 32 := constantI S_ 32 512#32
  select (andi (cmpi .ne (signi p) (signi b)) (cmpi .ne (Host.remsi p b) (constantI S_ 32 0#32)))
    (subi (Host.divsi p b) (constantI S_ 32 1#32)) (Host.divsi p b)

/-- The mask counted: whether an expert's padded end is at most a block's start, cut at the last used block's. -/
def maskV (x0 : IVec S32 32) : IVec S160x32 1 :=
  cmpi .sle (broadcastInDim S160x32 ![0, 1] bcast_S1x32_S160x32_0_1 (broadcastInDim S1x32 ![1] bcast_S32_S1x32_1 x0))
    (broadcastInDim S160x32 ![0, 1] bcast_S160x1_S160x32_0_1 (broadcastInDim S160x1 ![0] bcast_S160_S160x1_0
      (minsi (muli (iotaInDim S160 32 0) (broadcastInDim S160 ![] bcast_S_S160 (constantI S_ 32 512#32)))
        (broadcastInDim S160 ![] bcast_S_S160 (muli (maxsi (subi (nusedV x0) (constantI S_ 32 1#32)) (constantI S_ 32 0#32)) (constantI S_ 32 512#32))))))

/-- Each block's expert. -/
def bexpV (x0 : IVec S32 32) : IVec S160 32 :=
  minsi (Host.reduce IntOp.addi (extui 32 (maskV x0) natLt_1_32) (constantI S_ 32 0#32) reducesTo_S160x32_S160_d1 h_S_)
    (broadcastInDim S160 ![] bcast_S_S160 (constantI S_ 32 31#32))

theorem V_v25 (c : Dev nD) : V m c main_v25 = bexpV (m ((c : Thread nD τ).loc main_arg0)) := by
  simp only [V, hostOps0, hostOps0_1, hostOps0_2, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  rfl

theorem V_v26 (c : Dev nD) : V m c main_v26 = (shapeCast _ (nusedV (m ((c : Thread nD τ).loc main_arg0))) shapeCasts_S_S1 : IVec S1 32) := by
  simp only [V, hostOps0, hostOps0_1, hostOps0_2, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  rfl

theorem V_v1 (c : Dev nD) : V m c main_v1 = (truncf .bf16 (shapeCast S32x2048x1024 (m ((c : Thread nD τ).loc main_arg2)) shapeCasts_S1x32x2048x1024_S32x2048x1024) bitsLt_bf16_f32 : FVec F S32x2048x1024 .bf16) := by
  simp only [V, hostOps0, hostOps0_1, hostOps0_2, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  rfl

theorem V_v3 (c : Dev nD) : V m c main_v3 = (truncf .bf16 (shapeCast S32x2048x1024 (m ((c : Thread nD τ).loc main_arg3)) shapeCasts_S1x32x2048x1024_S32x2048x1024) bitsLt_bf16_f32 : FVec F S32x2048x1024 .bf16) := by
  simp only [V, hostOps0, hostOps0_1, hostOps0_2, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  rfl

theorem V_v5 (c : Dev nD) : V m c main_v5 = (truncf .bf16 (shapeCast S32x1024x2048 (m ((c : Thread nD τ).loc main_arg4)) shapeCasts_S1x32x1024x2048_S32x1024x2048) bitsLt_bf16_f32 : FVec F S32x1024x2048 .bf16) := by
  simp only [V, hostOps0, hostOps0_1, hostOps0_2, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  rfl

/-- A block's expert is one of the thirty-two. -/
theorem bexpV_lt (x0 : IVec S32 32) (j : S160.Idx) : (bexpV x0 j).toNat < 32 := by
  have h := StableHlo.Predicate.toNat_reduce_count_cols (n := 160) (m := 32) (by norm_num) (maskV x0) natLt_1_32 reducesTo_S160x32_S160_d1 h_S_ j
  have hc : (Finset.univ.filter (fun q : Fin 32 => maskV x0 (StableHlo.Predicate.ij (j 0) q) = 1#1)).card ≤ 32 := by
    simpa using Finset.card_le_univ (Finset.univ.filter (fun q : Fin 32 => maskV x0 (StableHlo.Predicate.ij (j 0) q) = 1#1))
  show (IntOp.minsi (Host.reduce IntOp.addi (extui 32 (maskV x0) natLt_1_32) (constantI S_ 32 0#32) reducesTo_S160x32_S160_d1 h_S_ j) 31#32).toNat < 32
  generalize Host.reduce IntOp.addi (extui 32 (maskV x0) natLt_1_32) (constantI S_ 32 0#32) reducesTo_S160x32_S160_d1 h_S_ j = r at h ⊢
  have hr : r.toNat ≤ 32 := h ▸ hc
  have hi : r.toInt = (r.toNat : Int) := WordCmp.toInt_eq_toNat_of_lt_half (by norm_num; omega)
  unfold IntOp.minsi
  split
  · rename_i hs
    rw [BitVec.slt_iff_toInt_lt, hi] at hs
    have : (31#32 : BitVec 32).toInt = 31 := by decide
    omega
  · decide

theorem tbl0 : tbl m 0 = bexpV (m (((0 : Dev nD) : Thread nD τ).loc main_arg0)) := V_v25 m 0

/-- Table entry read by an index map. -/
theorem entry_lt (i : grid0.Coords) : ((tbl m).at 0 (Rect.unit (s := S160) (k0_off1 i) S1.size (k0_off1_inb i)) numel1_S1 : BitVec 32).toNat < 32 := by
  have := bexpV_lt (m (((0 : Dev nD) : Thread nD τ).loc main_arg0)) ((Rect.unit (s := S160) (k0_off1 i) S1.size (k0_off1_inb i)).emb (Shape.Idx.first (numel1_S1.symm ▸ Nat.one_pos)))
  rw [← tbl0 m] at this
  exact this

/-- The tables name blocks inside the weights. -/
theorem ok : Ok m := by
  refine ⟨fun i => ⟨fun a => ?_, .inr (.inr ⟨by decide, rfl, ?_, rfl⟩)⟩, fun i => ⟨fun a => ?_, .inr (.inr ⟨by decide, rfl, ?_, rfl⟩)⟩, fun i => ⟨fun a => ?_, .inr (.inr ⟨by decide, rfl, ?_, rfl⟩)⟩⟩
  all_goals have h := entry_lt m i
  · match a with
    | ⟨0, _⟩ => show (BitVec.toNat _ + 1) * 1 ≤ 32; exact (Nat.mul_one _).trans_le (Nat.succ_le_of_lt h)
    | ⟨1, _⟩ => show (0 + 1) * 2048 ≤ 2048; norm_num
    | ⟨2, _⟩ => show (0 + 1) * 1024 ≤ 1024; norm_num
  · exact Nat.zero_mul _
  · match a with
    | ⟨0, _⟩ => show (BitVec.toNat _ + 1) * 1 ≤ 32; exact (Nat.mul_one _).trans_le (Nat.succ_le_of_lt h)
    | ⟨1, _⟩ => show (0 + 1) * 2048 ≤ 2048; norm_num
    | ⟨2, _⟩ => show (0 + 1) * 1024 ≤ 1024; norm_num
  · exact Nat.zero_mul _
  · match a with
    | ⟨0, _⟩ => show (BitVec.toNat _ + 1) * 1 ≤ 32; exact (Nat.mul_one _).trans_le (Nat.succ_le_of_lt h)
    | ⟨1, _⟩ => show (0 + 1) * 1024 ≤ 1024; norm_num
    | ⟨2, _⟩ => show (0 + 1) * 2048 ≤ 2048; norm_num
  · exact Nat.zero_mul _

end tables

end Cert.KernelIdeal.Expert

end
-- ==== Proof.ExpertFrame.lean ====
/- The expert call's frames: every execution ends with the arguments unchanged and the counters at zero. -/
module

public import proofs.«01_k».proof.Proof.ExpertTables
public import proofs.«01_k».proof.Proof.Gen.Kernel
public import proofs.«01_k».proof.Defs

@[expose] public section

set_option maxRecDepth 65536

noncomputable section

namespace Cert.Expert

open Idealize.ShloMosaic Idealize.ShloMosaic.TcCoe
open Idealize.SL Idealize.SL.Sem

theorem frame_kernelIdeal : Cert.quiescent_KernelIdeal := fun m ρ _ =>
  (θ_run Cert.KernelIdeal.defs _ _).mono (fun _ h => ⟨fun c => (h.1 c).2, h.2⟩) (Cert.KernelIdeal.Expert.run_read m ρ (Cert.KernelIdeal.Expert.ok m))

set_option maxHeartbeats 1000000 in
/-- The two programs have the same text. -/
theorem main_eq : Cert.Kernel.main (F := Bits) = Cert.KernelIdeal.main (F := Bits) := by
  unfold Cert.Kernel.main Cert.KernelIdeal.main
  rfl

set_option maxHeartbeats 1000000 in
set_option smartUnfolding false in
/-- The two programs' body tables are the same. -/
theorem defs_eq : Cert.Kernel.defs (F := Bits) = Cert.KernelIdeal.defs (F := Bits) := by
  unfold Cert.Kernel.defs Cert.KernelIdeal.defs
  rfl

theorem frame_kernel : Cert.quiescent_Kernel := fun m ρ _ => by
  rw [defs_eq, main_eq]
  exact (θ_run Cert.KernelIdeal.defs _ _).mono (fun _ h => ⟨fun c => (h.1 c).2, h.2⟩) (Cert.KernelIdeal.Expert.run_read (F := Bits) m ρ (Cert.KernelIdeal.Expert.ok (F := Bits) m))

end Cert.Expert

end
-- ==== Proof.ExpertWords.lean ====
/- The expert call's integers: which blocks are used and whose they are, as the kernel's host part and the reference compute them. -/
module

public import proofs.«01_k».proof.Proof.ExpertTables
public import proofs.«01_k».proof.Proof.Gen.ReferenceIdeal.Read
public import Idealize.ShloMosaic.Lib.Pointwise

@[expose] public section

noncomputable section

namespace Cert.Expert

open Cert.KernelIdeal.Expert
open Cert.KernelIdeal Cert.KernelIdeal.Gen
open Cert.ReferenceIdeal.Read
open Idealize.ShloMosaic Idealize.ShloMosaic.TcCoe

set_option maxRecDepth 16384

variable {F : FTy → Type} [FloatOps F]

/-- The last padded end. -/
abbrev lastEnd (x0 : IVec S32 32) : BitVec 32 := x0 (ix1 (31 : Fin 32))

theorem last_slice (x0 : IVec S32 32) (h : S32.Slices ![31] S1) (k : S1.Idx) : extractStridedSlice S1 ![31] x0 h k = lastEnd x0 := by
  refine extractStridedSlice_apply ![31] x0 h k _ fun a => ?_
  match a with
  | ⟨0, _⟩ => have : (k 0).val < 1 := (k 0).isLt; show 31 = 31 + (k 0).val; omega

theorem nused_apply (x0 : IVec S32 32) (i : S_.Idx) : nusedV x0 i = fdw (lastEnd x0) := by
  have hp : ∀ j : S_.Idx, (shapeCast _ (extractStridedSlice S1 ![31] x0 slices_S32_S1_31) shapeCasts_S1_S_ : IVec S_ 32) j = lastEnd x0 :=
    fun j => last_slice x0 _ _
  have hf : (shapeCast _ (extractStridedSlice S1 ![31] x0 slices_S32_S1_31) shapeCasts_S1_S_ : IVec S_ 32) = fun _ => lastEnd x0 := funext hp
  unfold nusedV
  simp only [hf]
  rfl

theorem word_toInt (n : Nat) (h : n < 2 ^ 31) : (BitVec.ofNat 32 n).toInt = (n : Int) := by
  rw [WordCmp.toInt_eq_toNat_of_lt_half] <;> simp only [BitVec.toNat_ofNat] <;> omega

/-- The kernel's guard at a block: the block is below the number of used blocks. -/
theorem cond1_iff (i : grid0.Coords) (v : BitVec 32) : k0_cond1 i v = 1#1 ↔ ((i 0).val : Int) < v.toInt := by
  have hi : (i 0).val < 160 := (i 0).isLt
  have h0 : (BitVec.ofNat 32 (i 0).val).toInt = ((i 0).val : Int) := word_toInt _ (by omega)
  unfold k0_cond1
  show IntOp.cmpi .ne ((IntOp.cmpi .slt (BitVec.ofNat 32 (i 0).val) v).setWidth 32) 0#32 = 1#1 ↔ _
  rw [WordCmp.cmpi_slt_eq, h0, WordCmp.cmpi_ne_eq]
  by_cases h : ((i 0).val : Int) < v.toInt <;> simp [h]

theorem v2_apply (j : S160.Idx) : val_main_v2 (F := F) j = BitVec.ofNat 32 ((j 0).val * 512) := by
  rw [val_main_v2_apply, val_main_v0_apply, val_main_v1_apply, val_main_c_apply]
  show BitVec.ofNat 32 (j 0).val * 512#32 = _
  rw [← BitVec.ofNat_mul_ofNat]

/-- The reference's guard at a block: the block ends at or before the last padded end. -/
theorem v17_iff (x0 : IVec S32 32) (j : S160.Idx) : val_main_v17 (F := F) x0 j = 1#1 ↔ ((j 0).val : Int) * 512 + 512 ≤ (lastEnd x0).toInt := by
  have hi : (j 0).val < 160 := (j 0).isLt
  have h16 : val_main_v16 (F := F) x0 j = lastEnd x0 := by
    rw [val_main_v16_apply]
    exact last_slice x0 slices_S32_S1_31 _
  have h13 : val_main_v13 (F := F) j = BitVec.ofNat 32 ((j 0).val * 512 + 512) := by
    rw [val_main_v13_apply, v2_apply, val_main_v12_apply, val_main_c_2_apply]
    show BitVec.ofNat 32 _ + 512#32 = _
    rw [← BitVec.ofNat_add_ofNat]
  rw [val_main_v17_apply, h16, h13, WordCmp.cmpi_sle_eq, word_toInt _ (by omega), WordCmp.ofBool_decide_eq_one_iff]
  push_cast
  rfl

theorem used_iff (x0 : IVec S32 32) (i : grid0.Coords) (j : S160.Idx) (hij : (i 0).val = (j 0).val) :
    k0_cond1 i (fdw (lastEnd x0)) = 1#1 ↔ val_main_v17 (F := F) x0 j = 1#1 := by
  rw [cond1_iff, v17_iff, fdw_toInt, hij]
  omega

/-- The reference's mask at a block and an expert. -/
theorem v7_apply (x0 : IVec S32 32) (a : Fin 160) (q : Fin 32) :
    val_main_v7 (F := F) x0 (ix2 a q) = IntOp.cmpi .sle (x0 (ix1 q)) (BitVec.ofNat 32 (a.val * 512)) := by
  rw [val_main_v7_apply, val_main_v5_apply, val_main_v3_apply, val_main_v6_apply, val_main_v4_apply, v2_apply]
  congr 1
  exact congrArg x0 (by funext d; match d with | ⟨0, _⟩ => rfl)

/-- The kernel's mask at a block and an expert. -/
theorem mask_apply (x0 : IVec S32 32) (a : Fin 160) (q : Fin 32) :
    maskV x0 (ix2 a q) = IntOp.cmpi .sle (x0 (ix1 q)) (IntOp.minsi (BitVec.ofNat 32 (a.val * 512))
      (IntOp.muli (IntOp.maxsi (IntOp.subi (fdw (lastEnd x0)) 1#32) 0#32) 512#32)) := by
  have hn : nusedV x0 = fun _ => fdw (lastEnd x0) := funext (nused_apply x0)
  unfold maskV
  rw [hn]
  pointwise []
  have e : IntOp.muli (BitVec.ofNat 32 a.val) 512#32 = BitVec.ofNat 32 (a.val * 512) := by
    show BitVec.ofNat 32 a.val * 512#32 = _
    rw [← BitVec.ofNat_mul_ofNat]
  rw [e]

/-- At a used block the cut does nothing. -/
theorem cut_eq (p : BitVec 32) (a : Fin 160) (h : (a.val : Int) < (fdw p).toInt) :
    IntOp.minsi (BitVec.ofNat 32 (a.val * 512)) (IntOp.muli (IntOp.maxsi (IntOp.subi (fdw p) 1#32) 0#32) 512#32) = BitVec.ofNat 32 (a.val * 512) := by
  have ha := a.isLt
  obtain ⟨hl, hu⟩ := toInt_bounds p
  have hf := fdw_toInt p
  generalize fdw p = w at *
  obtain ⟨n, hn, rfl⟩ : ∃ n : Nat, n < 4194304 ∧ w = BitVec.ofNat 32 (n + 1) := by
    refine ⟨w.toNat - 1, ?_, ?_⟩
    · have h2 := BitVec.toInt_eq_toNat_cond w
      have h3 := w.isLt
      split at h2 <;> omega
    · have h1 : w.toNat ≠ 0 := by
        intro h0
        have : w = 0#32 := BitVec.eq_of_toNat_eq h0
        subst this
        have : (0#32 : BitVec 32).toInt = 0 := by decide
        omega
      apply BitVec.eq_of_toNat_eq
      rw [BitVec.toNat_ofNat, Nat.mod_eq_of_lt] <;> have := w.isLt <;> omega
  rw [word_toInt _ (by omega)] at h
  have hs : IntOp.subi (BitVec.ofNat 32 (n + 1)) 1#32 = BitVec.ofNat 32 n := by
    show BitVec.ofNat 32 (n + 1) - 1#32 = _
    rw [← BitVec.ofNat_add_ofNat, BitVec.add_sub_cancel]
  have hm : IntOp.maxsi (BitVec.ofNat 32 n) 0#32 = BitVec.ofNat 32 n := by
    unfold IntOp.maxsi
    split
    · rfl
    · rename_i hh
      rw [BitVec.slt_iff_toInt_lt, word_toInt n (by omega)] at hh
      have h0 : (0#32 : BitVec 32).toInt = 0 := by decide
      apply BitVec.eq_of_toNat_eq
      simp only [BitVec.toNat_ofNat]
      omega
  have hmul : IntOp.muli (BitVec.ofNat 32 n) 512#32 = BitVec.ofNat 32 (n * 512) := by
    show BitVec.ofNat 32 n * 512#32 = _
    rw [← BitVec.ofNat_mul_ofNat]
  rw [hs, hm, hmul]
  unfold IntOp.minsi
  split
  · rfl
  · rename_i hh
    rw [BitVec.slt_iff_toInt_lt, word_toInt (a.val * 512) (by omega), word_toInt (n * 512) (by omega)] at hh
    apply BitVec.eq_of_toNat_eq
    simp only [BitVec.toNat_ofNat]
    omega

/-- At a used block the kernel's expert is the reference's. -/
theorem bexp_eq (x0 : IVec S32 32) (a : Fin 160) (h : (a.val : Int) < (fdw (lastEnd x0)).toInt) :
    val_main_v24 (F := F) x0 (ix1 a) = bexpV x0 (ix1 a) := by
  have h11 : val_main_v11 (F := F) x0 (ix1 a) = bexpV x0 (ix1 a) := by
    have hc : Host.reduce IntOp.addi (extui 32 (val_main_v7 (F := F) x0) natLt_1_32) (constantI S_ 32 0#32) reducesTo_S160x32_S160_d1 h_S_ (ix1 a)
        = Host.reduce IntOp.addi (extui 32 (maskV x0) natLt_1_32) (constantI S_ 32 0#32) reducesTo_S160x32_S160_d1 h_S_ (ix1 a) := by
      apply BitVec.eq_of_toNat_eq
      rw [StableHlo.Predicate.toNat_reduce_count_cols (by norm_num), StableHlo.Predicate.toNat_reduce_count_cols (by norm_num)]
      refine congrArg Finset.card (Finset.filter_congr fun q _ => ?_)
      show val_main_v7 (F := F) x0 (StableHlo.Predicate.ij a q) = 1#1 ↔ maskV x0 (StableHlo.Predicate.ij a q) = 1#1
      have e : StableHlo.Predicate.ij a q = ix2 a q := by funext d; match d with | ⟨0, _⟩ => rfl | ⟨1, _⟩ => rfl
      rw [e, v7_apply, mask_apply, cut_eq _ _ h]
    rw [val_main_v11_apply, val_main_v10_apply, val_main_c_1_apply]
    exact congrArg (fun r => IntOp.minsi r 31#32) hc
  rw [val_main_v24_apply, val_main_v21_apply, h11, val_main_v20_apply, val_main_c_3_apply, WordCmp.cmpi_slt_eq]
  have hb := bexpV_lt x0 (ix1 a)
  have hz : (0#32 : BitVec 32).toInt = 0 := by decide
  have hi : (bexpV x0 (ix1 a)).toInt = ((bexpV x0 (ix1 a)).toNat : Int) := WordCmp.toInt_eq_toNat_of_lt_half (by norm_num; omega)
  rw [hi, hz, decide_eq_false (by omega)]
  rfl

end Cert.Expert

end
-- ==== Proof.ExpertPay.lean ====
/- The expert call's payload read at an index. -/
module

public import proofs.«01_k».proof.Proof.ExpertWords

@[expose] public section

set_option maxRecDepth 16384

noncomputable section

namespace Cert.Expert

open Cert.KernelIdeal Cert.KernelIdeal.Gen
open Idealize.ShloMosaic Idealize.ShloMosaic.TcCoe

/-- The gated product of an expert's two projections. -/
def gate (g u : EReal) : EReal := g * Ideal.div 1 (1 + Ideal.exp (-g)) * u

theorem pay1_apply (x0 : Vec Ideal S512x2048 .f32) (x1 x2 : Vec Ideal S1x2048x1024 .bf16) (x3 : Vec Ideal S1x1024x2048 .bf16) (q : Fin 512) (d : Fin 2048) :
    k0_pay1 x0 x1 x2 x3 (ix2 q d) = ∑ l : Fin 1024, gate (∑ k : Fin 2048, x0 (ix2 q k) * x1 (ix3 (0 : Fin 1) k l)) (∑ k : Fin 2048, x0 (ix2 q k) * x2 (ix3 (0 : Fin 1) k l)) * x3 (ix3 (0 : Fin 1) l d) := by
  pointwise [k0_pay1]
  simp only [gate, zero_sub]

/-- A weight gather of the reference at an index: the expert named by the block's word, read signed and cut at the last one. -/
theorem gather_in {α : Type} (x : Cert.ReferenceIdeal.S32x2048x1024.Idx → α) (idx : IVec Cert.ReferenceIdeal.S160x1 32) (a : Fin 160) (k : Fin 2048) (l : Fin 1024) :
    Host.gather Cert.ReferenceIdeal.gather_S32x2048x1024_S160x1_S160x2048x1024_12_0_n_n_0_1_120481024 x idx (ix3 a k l)
      = x (ix3 (⟨min (idx (ix2 a (0 : Fin 1))).toInt.toNat 31, by omega⟩ : Fin 32) k l) := by
  unfold Host.gather
  congr 1
  funext b
  refine Fin.ext ?_
  show GatherDims.start _ (ix3 a k l) idx b + GatherDims.batchCoord _ (ix3 a k l) b + GatherDims.offCoord _ (ix3 a k l) b = _
  rw [GatherDims.batchCoord_eq_zero _ _ _ List.not_mem_nil]
  have hb : b = (0 : Fin 3) ∨ b = (1 : Fin 3) ∨ b = (2 : Fin 3) := by
    match b with
    | ⟨0, _⟩ => exact .inl rfl
    | ⟨1, _⟩ => exact .inr (.inl rfl)
    | ⟨2, _⟩ => exact .inr (.inr rfl)
  rcases hb with rfl | rfl | rfl
  · rw [GatherDims.offCoord_eq_zero _ _ _ (fun h => ((GatherDims.mem_sKept _ _).mp h).1 (List.mem_singleton.mpr rfl))]
    unfold GatherDims.start
    rw [dif_pos (show (0 : Fin 3) ∈ (Cert.ReferenceIdeal.gather_S32x2048x1024_S160x1_S160x2048x1024_12_0_n_n_0_1_120481024).startIndexMap from List.mem_singleton.mpr rfl)]
    simp only [Nat.add_zero]
    refine congrArg (fun w => min (BitVec.toInt (idx w)).toNat 31) ?_
    funext e; refine Fin.ext ?_
    match e with
    | ⟨0, _⟩ => rfl
    | ⟨1, _⟩ => rfl
  · unfold GatherDims.start GatherDims.offCoord
    rw [dif_neg (show ¬ (1 : Fin 3) ∈ (Cert.ReferenceIdeal.gather_S32x2048x1024_S160x1_S160x2048x1024_12_0_n_n_0_1_120481024).startIndexMap by decide),
      dif_pos (show (1 : Fin 3) ∈ (Cert.ReferenceIdeal.gather_S32x2048x1024_S160x1_S160x2048x1024_12_0_n_n_0_1_120481024).sKept by decide)]
    simp only [Nat.zero_add, Nat.add_zero]
    rfl
  · unfold GatherDims.start GatherDims.offCoord
    rw [dif_neg (show ¬ (2 : Fin 3) ∈ (Cert.ReferenceIdeal.gather_S32x2048x1024_S160x1_S160x2048x1024_12_0_n_n_0_1_120481024).startIndexMap by decide),
      dif_pos (show (2 : Fin 3) ∈ (Cert.ReferenceIdeal.gather_S32x2048x1024_S160x1_S160x2048x1024_12_0_n_n_0_1_120481024).sKept by decide)]
    simp only [Nat.zero_add, Nat.add_zero]
    rfl

theorem gather_out {α : Type} (x : Cert.ReferenceIdeal.S32x1024x2048.Idx → α) (idx : IVec Cert.ReferenceIdeal.S160x1 32) (a : Fin 160) (k : Fin 1024) (l : Fin 2048) :
    Host.gather Cert.ReferenceIdeal.gather_S32x1024x2048_S160x1_S160x1024x2048_12_0_n_n_0_1_110242048 x idx (ix3 a k l)
      = x (ix3 (⟨min (idx (ix2 a (0 : Fin 1))).toInt.toNat 31, by omega⟩ : Fin 32) k l) := by
  unfold Host.gather
  congr 1
  funext b
  refine Fin.ext ?_
  show GatherDims.start _ (ix3 a k l) idx b + GatherDims.batchCoord _ (ix3 a k l) b + GatherDims.offCoord _ (ix3 a k l) b = _
  rw [GatherDims.batchCoord_eq_zero _ _ _ List.not_mem_nil]
  have hb : b = (0 : Fin 3) ∨ b = (1 : Fin 3) ∨ b = (2 : Fin 3) := by
    match b with
    | ⟨0, _⟩ => exact .inl rfl
    | ⟨1, _⟩ => exact .inr (.inl rfl)
    | ⟨2, _⟩ => exact .inr (.inr rfl)
  rcases hb with rfl | rfl | rfl
  · rw [GatherDims.offCoord_eq_zero _ _ _ (fun h => ((GatherDims.mem_sKept _ _).mp h).1 (List.mem_singleton.mpr rfl))]
    unfold GatherDims.start
    rw [dif_pos (show (0 : Fin 3) ∈ (Cert.ReferenceIdeal.gather_S32x1024x2048_S160x1_S160x1024x2048_12_0_n_n_0_1_110242048).startIndexMap from List.mem_singleton.mpr rfl)]
    simp only [Nat.add_zero]
    refine congrArg (fun w => min (BitVec.toInt (idx w)).toNat 31) ?_
    funext e; refine Fin.ext ?_
    match e with
    | ⟨0, _⟩ => rfl
    | ⟨1, _⟩ => rfl
  · unfold GatherDims.start GatherDims.offCoord
    rw [dif_neg (show ¬ (1 : Fin 3) ∈ (Cert.ReferenceIdeal.gather_S32x1024x2048_S160x1_S160x1024x2048_12_0_n_n_0_1_110242048).startIndexMap by decide),
      dif_pos (show (1 : Fin 3) ∈ (Cert.ReferenceIdeal.gather_S32x1024x2048_S160x1_S160x1024x2048_12_0_n_n_0_1_110242048).sKept by decide)]
    simp only [Nat.zero_add, Nat.add_zero]
    rfl
  · unfold GatherDims.start GatherDims.offCoord
    rw [dif_neg (show ¬ (2 : Fin 3) ∈ (Cert.ReferenceIdeal.gather_S32x1024x2048_S160x1_S160x1024x2048_12_0_n_n_0_1_110242048).startIndexMap by decide),
      dif_pos (show (2 : Fin 3) ∈ (Cert.ReferenceIdeal.gather_S32x1024x2048_S160x1_S160x1024x2048_12_0_n_n_0_1_110242048).sKept by decide)]
    simp only [Nat.zero_add, Nat.add_zero]
    rfl

open Cert.ReferenceIdeal.Read

theorem gather_in_of {α : Type} (x : Cert.ReferenceIdeal.S32x2048x1024.Idx → α) (idx : IVec Cert.ReferenceIdeal.S160x1 32) (a : Fin 160) (k : Fin 2048) (l : Fin 1024) (e : Fin 32)
    (he : (idx (ix2 a (0 : Fin 1))).toInt.toNat = e.val) : Host.gather Cert.ReferenceIdeal.gather_S32x2048x1024_S160x1_S160x2048x1024_12_0_n_n_0_1_120481024 x idx (ix3 a k l) = x (ix3 e k l) := by
  rw [gather_in]
  have h : ∀ hh, (⟨min (idx (ix2 a (0 : Fin 1))).toInt.toNat 31, hh⟩ : Fin 32) = e := fun hh => Fin.ext (by
    show min (idx (ix2 a (0 : Fin 1))).toInt.toNat 31 = e.val
    rw [he]; omega)
  rw [h]

theorem v26_at (x0 : IVec S32 32) (x2 : Vec Ideal S1x32x2048x1024 .f32) (a : Fin 160) (k : Fin 2048) (l : Fin 1024) (e : Fin 32)
    (he : (val_main_v24 (F := Ideal) x0 (ix1 a)).toInt.toNat = e.val) : val_main_v26 (F := Ideal) x0 x2 (ix3 a k l) = x2 (ix4 (0 : Fin 1) e k l) := by
  unfold val_main_v26
  have h25 : val_main_v25 (F := Ideal) x0 (ix2 a (0 : Fin 1)) = val_main_v24 (F := Ideal) x0 (ix1 a) := by
    have hi : idx_main_v25 (ix2 a (0 : Fin 1)) = ix1 a := by funext b; match b with | ⟨0, _⟩ => rfl
    exact (val_main_v25_apply x0 _).trans (congrArg _ hi)
  rw [gather_in_of _ _ a k l e (h25 ▸ he), val_main_v19_apply]
  refine congrArg x2 (funext fun b => Fin.ext ?_)
  have h1 := e.isLt
  have h2 := k.isLt
  have h3 := l.isLt
  match b with
  | ⟨0, _⟩ => rfl
  | ⟨1, _⟩ => show ((e.val * 2048 + k.val) * 1024 + l.val) / 2097152 % 32 = e.val; omega
  | ⟨2, _⟩ => show ((e.val * 2048 + k.val) * 1024 + l.val) / 1024 % 2048 = k.val; omega
  | ⟨3, _⟩ => show ((e.val * 2048 + k.val) * 1024 + l.val) % 1024 = l.val; omega

theorem v35_at (x0 : IVec S32 32) (x2 : Vec Ideal S1x32x2048x1024 .f32) (a : Fin 160) (k : Fin 2048) (l : Fin 1024) (e : Fin 32)
    (he : (val_main_v24 (F := Ideal) x0 (ix1 a)).toInt.toNat = e.val) : val_main_v35 (F := Ideal) x0 x2 (ix3 a k l) = x2 (ix4 (0 : Fin 1) e k l) :=
  v26_at x0 x2 a k l e he

theorem gather_out_of {α : Type} (x : Cert.ReferenceIdeal.S32x1024x2048.Idx → α) (idx : IVec Cert.ReferenceIdeal.S160x1 32) (a : Fin 160) (k : Fin 1024) (l : Fin 2048) (e : Fin 32)
    (he : (idx (ix2 a (0 : Fin 1))).toInt.toNat = e.val) : Host.gather Cert.ReferenceIdeal.gather_S32x1024x2048_S160x1_S160x1024x2048_12_0_n_n_0_1_110242048 x idx (ix3 a k l) = x (ix3 e k l) := by
  rw [gather_out]
  have h : ∀ hh, (⟨min (idx (ix2 a (0 : Fin 1))).toInt.toNat 31, hh⟩ : Fin 32) = e := fun hh => Fin.ext (by
    show min (idx (ix2 a (0 : Fin 1))).toInt.toNat 31 = e.val
    rw [he]; omega)
  rw [h]

theorem v46_at (x0 : IVec S32 32) (x4 : Vec Ideal S1x32x1024x2048 .f32) (a : Fin 160) (k : Fin 1024) (l : Fin 2048) (e : Fin 32)
    (he : (val_main_v24 (F := Ideal) x0 (ix1 a)).toInt.toNat = e.val) : val_main_v46 (F := Ideal) x0 x4 (ix3 a k l) = x4 (ix4 (0 : Fin 1) e k l) := by
  unfold val_main_v46
  have h25 : val_main_v45 (F := Ideal) x0 (ix2 a (0 : Fin 1)) = val_main_v24 (F := Ideal) x0 (ix1 a) := by
    have hi : idx_main_v25 (ix2 a (0 : Fin 1)) = ix1 a := by funext b; match b with | ⟨0, _⟩ => rfl
    exact (val_main_v25_apply x0 _).trans (congrArg _ hi)
  rw [gather_out_of _ _ a k l e (h25 ▸ he), val_main_v39_apply]
  refine congrArg x4 (funext fun b => Fin.ext ?_)
  have h1 := e.isLt
  have h2 := k.isLt
  have h3 := l.isLt
  match b with
  | ⟨0, _⟩ => rfl
  | ⟨1, _⟩ => show ((e.val * 1024 + k.val) * 2048 + l.val) / 2097152 % 32 = e.val; omega
  | ⟨2, _⟩ => show ((e.val * 1024 + k.val) * 2048 + l.val) / 2048 % 1024 = k.val; omega
  | ⟨3, _⟩ => show ((e.val * 1024 + k.val) * 2048 + l.val) % 2048 = l.val; omega

theorem v18_at (x1 : Vec Ideal S81920x2048 .f32) (a : Fin 160) (q : Fin 512) (k : Fin 2048) :
    val_main_v18 (F := Ideal) x1 (ix3 a q k) = x1 (ix2 (⟨a.val * 512 + q.val, by omega⟩ : Fin 81920) k) := by
  rw [val_main_v18_apply]
  refine congrArg x1 (funext fun b => Fin.ext ?_)
  have h1 := a.isLt
  have h2 := q.isLt
  have h3 := k.isLt
  match b with
  | ⟨0, _⟩ => show ((a.val * 512 + q.val) * 2048 + k.val) / 2048 = a.val * 512 + q.val; omega
  | ⟨1, _⟩ => show ((a.val * 512 + q.val) * 2048 + k.val) % 2048 = k.val; omega

theorem ix3_val {n0 n1 n2 : Nat} (j : (⟨3, ![n0, n1, n2]⟩ : Shape).Idx) (a : Fin n0) (b : Fin n1) (c : Fin n2) (h0 : (j 0).val = a.val) (h1 : (j 1).val = b.val)
    (h2 : (j 2).val = c.val) : j = ix3 a b c := by
  funext d
  match d with
  | ⟨0, _⟩ => exact Fin.ext h0
  | ⟨1, _⟩ => exact Fin.ext h1
  | ⟨2, _⟩ => exact Fin.ext h2

theorem v27_at (x0 : IVec S32 32) (x1 : Vec Ideal S81920x2048 .f32) (x2 : Vec Ideal S1x32x2048x1024 .f32) (a : Fin 160) (q : Fin 512) (l : Fin 1024) (e : Fin 32)
    (he : (val_main_v24 (F := Ideal) x0 (ix1 a)).toInt.toNat = e.val) : val_main_v27 (F := Ideal) x0 x1 x2 (ix3 a q l)
      = ∑ k : Fin 2048, x1 (ix2 (⟨a.val * 512 + q.val, by omega⟩ : Fin 81920) k) * x2 (ix4 (0 : Fin 1) e k l) := by
  rw [val_main_v27_apply]
  refine Finset.sum_congr rfl fun k _ => ?_
  rw [ix3_val (lidx_main_v27 (ix3 a q l) k) a q k rfl rfl rfl, ix3_val (ridx_main_v27 (ix3 a q l) k) a k l rfl rfl rfl, v18_at, v26_at x0 x2 a k l e he]

theorem v36_at (x0 : IVec S32 32) (x1 : Vec Ideal S81920x2048 .f32) (x2 : Vec Ideal S1x32x2048x1024 .f32) (a : Fin 160) (q : Fin 512) (l : Fin 1024) (e : Fin 32)
    (he : (val_main_v24 (F := Ideal) x0 (ix1 a)).toInt.toNat = e.val) : val_main_v36 (F := Ideal) x0 x1 x2 (ix3 a q l)
      = ∑ k : Fin 2048, x1 (ix2 (⟨a.val * 512 + q.val, by omega⟩ : Fin 81920) k) * x2 (ix4 (0 : Fin 1) e k l) := by
  rw [val_main_v36_apply]
  refine Finset.sum_congr rfl fun k _ => ?_
  rw [ix3_val (lidx_main_v36 (ix3 a q l) k) a q k rfl rfl rfl, ix3_val (ridx_main_v36 (ix3 a q l) k) a k l rfl rfl rfl, v18_at, v35_at x0 x2 a k l e he]

theorem v38_at (x0 : IVec S32 32) (x1 : Vec Ideal S81920x2048 .f32) (x2 x3 : Vec Ideal S1x32x2048x1024 .f32) (j : Cert.ReferenceIdeal.S160x512x1024.Idx) :
    val_main_v38 (F := Ideal) x0 x1 x2 x3 j = gate (val_main_v27 (F := Ideal) x0 x1 x2 j) (val_main_v36 (F := Ideal) x0 x1 x3 j) := by
  rw [val_main_v38_apply, val_main_v37_apply, val_main_call0_v5_apply, val_main_call0_v4_apply, val_main_call0_cst_0_apply, val_main_call0_v3_apply,
    val_main_call0_v2_apply, val_main_call0_cst_apply, val_main_call0_v1_apply, val_main_call0_v0_apply]
  have h1 : (FloatOps.ofBits (F := Ideal) .f32 0x3F800000#32 : EReal) = 1 := Ideal.ofBits_one_f32
  show val_main_v27 (F := Ideal) x0 x1 x2 j * Ideal.div (FloatOps.ofBits (F := Ideal) .f32 0x3F800000#32) (FloatOps.ofBits (F := Ideal) .f32 0x3F800000#32 + Ideal.exp (- val_main_v27 (F := Ideal) x0 x1 x2 j))
    * val_main_v36 (F := Ideal) x0 x1 x3 j = _
  rw [gate, h1]

/-- The reference's rows before the guard, at an index. -/
theorem ref_apply (x0 : IVec S32 32) (x1 : Vec Ideal S81920x2048 .f32) (x2 x3 : Vec Ideal S1x32x2048x1024 .f32) (x4 : Vec Ideal S1x32x1024x2048 .f32)
    (a : Fin 160) (q : Fin 512) (d : Fin 2048) (e : Fin 32) (he : (val_main_v24 (F := Ideal) x0 (ix1 a)).toInt.toNat = e.val) :
    val_main_v47 (F := Ideal) x0 x1 x2 x3 x4 (ix3 a q d) = ∑ l : Fin 1024, gate
      (∑ k : Fin 2048, x1 (ix2 (⟨a.val * 512 + q.val, by omega⟩ : Fin 81920) k) * x2 (ix4 (0 : Fin 1) e k l))
      (∑ k : Fin 2048, x1 (ix2 (⟨a.val * 512 + q.val, by omega⟩ : Fin 81920) k) * x3 (ix4 (0 : Fin 1) e k l)) * x4 (ix4 (0 : Fin 1) e l d) := by
  rw [val_main_v47_apply]
  refine Finset.sum_congr rfl fun l _ => ?_
  rw [ix3_val (lidx_main_v47 (ix3 a q d) l) a q l rfl rfl rfl, ix3_val (ridx_main_v47 (ix3 a q d) l) a l d rfl rfl rfl, v38_at, v46_at x0 x4 a l d e he,
    v27_at x0 x1 x2 a q l e he, v36_at x0 x1 x3 a q l e he]

end Cert.Expert

end
-- ==== Proof.ExpertValue.lean ====
/- The expert call's result at the ideal values: the reference's, block by block. -/
module

public import proofs.«01_k».proof.Proof.ExpertPay
public import Idealize.ShloMosaic.Lib.StableHlo.Run
public import Idealize.ShloMosaic.Lib.Quiescent

@[expose] public section

set_option maxRecDepth 16384

noncomputable section

namespace Cert.Expert

open Cert.KernelIdeal Cert.KernelIdeal.Gen Cert.KernelIdeal.Expert
open Cert.ReferenceIdeal.Read
open Idealize.ShloMosaic Idealize.ShloMosaic.TcCoe Idealize.SL.Sem

variable (m : (ℓ : Loc nD τ sig) → Buf (Elt Ideal) ℓ)

theorem tf0 (i : grid0.Coords) (a : Fin 160) (ha : (i 0).val = a.val) : cc0_transform_0 i 0 = a.val ∧ cc0_transform_0 i 1 = 0 := by
  have h := a.isLt
  refine ⟨?_, rfl⟩
  show (BitVec.ofNat 32 (i 0).val).toNat = a.val
  rw [BitVec.toNat_ofNat, ha]
  exact Nat.mod_eq_of_lt (by omega)

theorem iblk0_apply (hO : Ok m) (c : Dev nD) (t : Fin (cfgM m hO).N) (a : Fin 160) (ha : (grid0.coords t 0).val = a.val) (q : Fin 512) (k : Fin 2048) :
    (iblk m hO c 0 t : Vec Ideal S512x2048 .f32) (ix2 q k) = m ((c : Thread nD τ).loc main_arg1) (ix2 (⟨a.val * 512 + q.val, by omega⟩ : Fin 81920) k) := by
  obtain ⟨h0, h1⟩ := tf0 (grid0.coords t) a ha
  unfold iblk
  refine (View.read_apply _ _).trans ((cast_eq _ _).trans ?_)
  refine (congrFun (V_arg1 m c) _).trans (congrArg (m ((c : Thread nD τ).loc main_arg1)) (funext fun b => Fin.ext ?_))
  have hr := Pipeline.Window.rect_emb_val ((cfgM m hO).win 0) t (ix2 q k : S512x2048.Idx)
  have hb : b = (0 : Fin 2) ∨ b = (1 : Fin 2) := by
    match b with
    | ⟨0, _⟩ => exact .inl rfl
    | ⟨1, _⟩ => exact .inr rfl
  rcases hb with rfl | rfl
  · refine (hr (0 : Fin 2)).trans ?_
    show cc0_transform_0 (grid0.coords t) 0 * 512 + q.val = a.val * 512 + q.val
    rw [h0]
  · refine (hr (1 : Fin 2)).trans ?_
    show cc0_transform_0 (grid0.coords t) 1 * 2048 + k.val = k.val
    rw [h1, Nat.zero_mul, Nat.zero_add]

/-- A block's entry of the first table: its expert. -/
theorem entry_at (i : grid0.Coords) (a : Fin 160) (ha : (i 0).val = a.val) :
    ((tbl m).at 0 (Rect.unit (s := S160) (k0_off1 i) S1.size (k0_off1_inb i)) numel1_S1 : BitVec 32) = bexpV (m (((0 : Dev nD) : Thread nD τ).loc main_arg0)) (ix1 a) := by
  show tbl m 0 ((Rect.unit (s := S160) (k0_off1 i) S1.size (k0_off1_inb i)).emb (Shape.Idx.first (numel1_S1.symm ▸ Nat.one_pos))) = _
  rw [tbl0]
  refine congrArg _ (funext fun b => Fin.ext ?_)
  have hb : b = (0 : Fin 1) := Subsingleton.elim (α := Fin 1) _ _
  subst hb
  rw [Rect.emb_apply]
  show (BitVec.ofNat 32 (i 0).val).toNat + 1 * 0 = a.val
  rw [BitVec.toNat_ofNat, ha, Nat.mod_eq_of_lt (by have := a.isLt; omega), Nat.mul_zero, Nat.add_zero]

theorem tf1 (i : grid0.Coords) (a : Fin 160) (ha : (i 0).val = a.val) :
    cc0_transform_1 (F := Ideal) k0_off1_inb numel1_S1 (tbl m) i 0 = (bexpV (m (((0 : Dev nD) : Thread nD τ).loc main_arg0)) (ix1 a)).toNat :=
  congrArg BitVec.toNat (entry_at m i a ha)
theorem tf2 (i : grid0.Coords) (a : Fin 160) (ha : (i 0).val = a.val) :
    cc0_transform_2 (F := Ideal) k0_off1_inb numel1_S1 (tbl m) i 0 = (bexpV (m (((0 : Dev nD) : Thread nD τ).loc main_arg0)) (ix1 a)).toNat :=
  congrArg BitVec.toNat (entry_at m i a ha)
theorem tf3 (i : grid0.Coords) (a : Fin 160) (ha : (i 0).val = a.val) :
    cc0_transform_3 (F := Ideal) k0_off1_inb numel1_S1 (tbl m) i 0 = (bexpV (m (((0 : Dev nD) : Thread nD τ).loc main_arg0)) (ix1 a)).toNat :=
  congrArg BitVec.toNat (entry_at m i a ha)

theorem cast_in (x : Vec Ideal S1x32x2048x1024 .f32) (e : Fin 32) (k : Fin 2048) (l : Fin 1024) :
    (shapeCast S32x2048x1024 x shapeCasts_S1x32x2048x1024_S32x2048x1024 : FVec Ideal S32x2048x1024 .f32) (ix3 e k l) = x (ix4 (0 : Fin 1) e k l) := by
  refine (Cert.ReferenceIdeal.Read.val_main_v19_apply (F := Ideal) x (ix3 e k l)).trans (congrArg x (funext fun b => Fin.ext ?_))
  have h1 := e.isLt
  have h2 := k.isLt
  have h3 := l.isLt
  match b with
  | ⟨0, _⟩ => rfl
  | ⟨1, _⟩ => show ((e.val * 2048 + k.val) * 1024 + l.val) / 2097152 % 32 = e.val; omega
  | ⟨2, _⟩ => show ((e.val * 2048 + k.val) * 1024 + l.val) / 1024 % 2048 = k.val; omega
  | ⟨3, _⟩ => show ((e.val * 2048 + k.val) * 1024 + l.val) % 1024 = l.val; omega

theorem cast_out (x : Vec Ideal S1x32x1024x2048 .f32) (e : Fin 32) (k : Fin 1024) (l : Fin 2048) :
    (shapeCast S32x1024x2048 x shapeCasts_S1x32x1024x2048_S32x1024x2048 : FVec Ideal S32x1024x2048 .f32) (ix3 e k l) = x (ix4 (0 : Fin 1) e k l) := by
  refine (Cert.ReferenceIdeal.Read.val_main_v39_apply (F := Ideal) x (ix3 e k l)).trans (congrArg x (funext fun b => Fin.ext ?_))
  have h1 := e.isLt
  have h2 := k.isLt
  have h3 := l.isLt
  match b with
  | ⟨0, _⟩ => rfl
  | ⟨1, _⟩ => show ((e.val * 1024 + k.val) * 2048 + l.val) / 2097152 % 32 = e.val; omega
  | ⟨2, _⟩ => show ((e.val * 1024 + k.val) * 2048 + l.val) / 2048 % 1024 = k.val; omega
  | ⟨3, _⟩ => show ((e.val * 1024 + k.val) * 2048 + l.val) % 2048 = l.val; omega

theorem iblk1_apply (hO : Ok m) (c : Dev nD) (t : Fin (cfgM m hO).N) (e : Fin 32)
    (he : cc0_transform_1 (F := Ideal) k0_off1_inb numel1_S1 (tbl m) (grid0.coords t) 0 = e.val) (k : Fin 2048) (l : Fin 1024) :
    (iblk m hO c 1 t : Vec Ideal S1x2048x1024 .bf16) (ix3 (0 : Fin 1) k l) = m ((c : Thread nD τ).loc main_arg2) (ix4 (0 : Fin 1) e k l) := by
  unfold iblk
  refine (View.read_apply _ _).trans ((cast_eq _ _).trans ?_)
  refine (congrFun (V_v1 m c) _).trans ?_
  have hr := Pipeline.Window.rect_emb_val ((cfgM m hO).win 1) t (ix3 (0 : Fin 1) k l : S1x2048x1024.Idx)
  have hi : (((cfgM m hO).win 1).rect t).emb (ix3 (0 : Fin 1) k l : S1x2048x1024.Idx) = (ix3 e k l : S32x2048x1024.Idx) := by
    refine ix3_val _ e k l ((hr (0 : Fin 3)).trans ?_) ((hr (1 : Fin 3)).trans ?_) ((hr (2 : Fin 3)).trans ?_)
    · show cc0_transform_1 (F := Ideal) k0_off1_inb numel1_S1 (tbl m) (grid0.coords t) 0 * 1 + 0 = e.val
      rw [he, Nat.mul_one, Nat.add_zero]
    · show 0 * 2048 + k.val = k.val
      rw [Nat.zero_mul, Nat.zero_add]
    · show 0 * 1024 + l.val = l.val
      rw [Nat.zero_mul, Nat.zero_add]
  show (shapeCast S32x2048x1024 (m ((c : Thread nD τ).loc main_arg2)) shapeCasts_S1x32x2048x1024_S32x2048x1024 : FVec Ideal S32x2048x1024 .f32)
    ((((cfgM m hO).win 1).rect t).emb (ix3 (0 : Fin 1) k l : S1x2048x1024.Idx)) = _
  rw [hi]
  exact cast_in (m ((c : Thread nD τ).loc main_arg2)) e k l

theorem iblk2_apply (hO : Ok m) (c : Dev nD) (t : Fin (cfgM m hO).N) (e : Fin 32)
    (he : cc0_transform_2 (F := Ideal) k0_off1_inb numel1_S1 (tbl m) (grid0.coords t) 0 = e.val) (k : Fin 2048) (l : Fin 1024) :
    (iblk m hO c 2 t : Vec Ideal S1x2048x1024 .bf16) (ix3 (0 : Fin 1) k l) = m ((c : Thread nD τ).loc main_arg3) (ix4 (0 : Fin 1) e k l) := by
  unfold iblk
  refine (View.read_apply _ _).trans ((cast_eq _ _).trans ?_)
  refine (congrFun (V_v3 m c) _).trans ?_
  have hr := Pipeline.Window.rect_emb_val ((cfgM m hO).win 2) t (ix3 (0 : Fin 1) k l : S1x2048x1024.Idx)
  have hi : (((cfgM m hO).win 2).rect t).emb (ix3 (0 : Fin 1) k l : S1x2048x1024.Idx) = (ix3 e k l : S32x2048x1024.Idx) := by
    refine ix3_val _ e k l ((hr (0 : Fin 3)).trans ?_) ((hr (1 : Fin 3)).trans ?_) ((hr (2 : Fin 3)).trans ?_)
    · show cc0_transform_2 (F := Ideal) k0_off1_inb numel1_S1 (tbl m) (grid0.coords t) 0 * 1 + 0 = e.val
      rw [he, Nat.mul_one, Nat.add_zero]
    · show 0 * 2048 + k.val = k.val
      rw [Nat.zero_mul, Nat.zero_add]
    · show 0 * 1024 + l.val = l.val
      rw [Nat.zero_mul, Nat.zero_add]
  show (shapeCast S32x2048x1024 (m ((c : Thread nD τ).loc main_arg3)) shapeCasts_S1x32x2048x1024_S32x2048x1024 : FVec Ideal S32x2048x1024 .f32)
    ((((cfgM m hO).win 2).rect t).emb (ix3 (0 : Fin 1) k l : S1x2048x1024.Idx)) = _
  rw [hi]
  exact cast_in (m ((c : Thread nD τ).loc main_arg3)) e k l

theorem iblk3_apply (hO : Ok m) (c : Dev nD) (t : Fin (cfgM m hO).N) (e : Fin 32)
    (he : cc0_transform_3 (F := Ideal) k0_off1_inb numel1_S1 (tbl m) (grid0.coords t) 0 = e.val) (k : Fin 1024) (l : Fin 2048) :
    (iblk m hO c 3 t : Vec Ideal S1x1024x2048 .bf16) (ix3 (0 : Fin 1) k l) = m ((c : Thread nD τ).loc main_arg4) (ix4 (0 : Fin 1) e k l) := by
  unfold iblk
  refine (View.read_apply _ _).trans ((cast_eq _ _).trans ?_)
  refine (congrFun (V_v5 m c) _).trans ?_
  have hr := Pipeline.Window.rect_emb_val ((cfgM m hO).win 3) t (ix3 (0 : Fin 1) k l : S1x1024x2048.Idx)
  have hi : (((cfgM m hO).win 3).rect t).emb (ix3 (0 : Fin 1) k l : S1x1024x2048.Idx) = (ix3 e k l : S32x1024x2048.Idx) := by
    refine ix3_val _ e k l ((hr (0 : Fin 3)).trans ?_) ((hr (1 : Fin 3)).trans ?_) ((hr (2 : Fin 3)).trans ?_)
    · show cc0_transform_3 (F := Ideal) k0_off1_inb numel1_S1 (tbl m) (grid0.coords t) 0 * 1 + 0 = e.val
      rw [he, Nat.mul_one, Nat.add_zero]
    · show 0 * 1024 + k.val = k.val
      rw [Nat.zero_mul, Nat.zero_add]
    · show 0 * 2048 + l.val = l.val
      rw [Nat.zero_mul, Nat.zero_add]
  show (shapeCast S32x1024x2048 (m ((c : Thread nD τ).loc main_arg4)) shapeCasts_S1x32x1024x2048_S32x1024x2048 : FVec Ideal S32x1024x2048 .f32)
    ((((cfgM m hO).win 3).rect t).emb (ix3 (0 : Fin 1) k l : S1x1024x2048.Idx)) = _
  rw [hi]
  exact cast_out (m ((c : Thread nD τ).loc main_arg4)) e k l

/-- The second table's word: the number of used blocks. -/
theorem word_eq (c : Dev nD) : word c (tbl m 1) = fdw (lastEnd (m ((c : Thread nD τ).loc main_arg0))) := by
  obtain rfl : c = 0 := Subsingleton.elim _ _
  refine (congrFun (V_v26 m (0 : Dev nD)) _).trans ?_
  exact nused_apply _ _

/-- What the result array is shown to hold. -/
def val (c : Dev nD) : Vec Ideal S81920x2048 .f32 :=
  val_main_v50 (F := Ideal) (m ((c : Thread nD τ).loc main_arg0)) (m ((c : Thread nD τ).loc main_arg1)) (m ((c : Thread nD τ).loc main_arg2))
    (m ((c : Thread nD τ).loc main_arg3)) (m ((c : Thread nD τ).loc main_arg4))

/-- The reference's result at a row of a block. -/
theorem v50_at (x0 : IVec S32 32) (x1 : Vec Ideal S81920x2048 .f32) (x2 x3 : Vec Ideal S1x32x2048x1024 .f32) (x4 : Vec Ideal S1x32x1024x2048 .f32)
    (a : Fin 160) (q : Fin 512) (d : Fin 2048) :
    val_main_v50 (F := Ideal) x0 x1 x2 x3 x4 (ix2 (⟨a.val * 512 + q.val, by omega⟩ : Fin 81920) d)
      = if val_main_v17 (F := Ideal) x0 (ix1 a) = 1#1 then val_main_v47 (F := Ideal) x0 x1 x2 x3 x4 (ix3 a q d) else 0 := by
  have h1 := a.isLt
  have h2 := q.isLt
  have h3 := d.isLt
  have hi : idx_main_v50 (ix2 (⟨a.val * 512 + q.val, by omega⟩ : Fin 81920) d) = ix3 a q d := by
    refine ix3_val _ a q d ?_ ?_ ?_
    · show ((a.val * 512 + q.val) * 2048 + d.val) / 1048576 = a.val; omega
    · show ((a.val * 512 + q.val) * 2048 + d.val) / 2048 % 512 = q.val; omega
    · show ((a.val * 512 + q.val) * 2048 + d.val) % 2048 = d.val; omega
  have h17 : val_main_call1_v1 (F := Ideal) x0 (ix3 a q d) = val_main_v17 (F := Ideal) x0 (ix1 a) := by
    rw [val_main_call1_v1_apply, val_main_v48_apply]
    exact congrArg _ (by funext b; match b with | ⟨0, _⟩ => rfl)
  have hz : val_main_call1_v2 (F := Ideal) (ix3 a q d) = (0 : EReal) := by
    rw [val_main_call1_v2_apply, val_main_call1_v0_apply, val_main_cst_apply]
    exact Ideal.ofBits_zero_f32
  rw [val_main_v50_apply, hi, val_main_v49_apply, h17, hz]
  rfl

theorem pay2_apply (j : S512x2048.Idx) : (k0_pay2 (F := Ideal)) j = (0 : EReal) := Ideal.ofBits_zero_f32

/-- A block after its point, against the reference. -/
theorem outs_eq (hO : Ok m) (c : Dev nD) (t : Fin (cfgM m hO).N) (a : Fin 160) (ha : (grid0.coords t 0).val = a.val) (q : Fin 512) (d : Fin 2048) :
    outsAt m hO c t (ix2 q d) = val m c (ix2 (⟨a.val * 512 + q.val, by omega⟩ : Fin 81920) d) := by
  obtain rfl : c = 0 := Subsingleton.elim _ _
  unfold val outsAt outv
  rw [v50_at, word_eq]
  generalize hx0 : m (((0 : Dev nD) : Thread nD τ).loc main_arg0) = x0
  have hu := used_iff (F := Ideal) x0 (grid0.coords t) (ix1 a) ha
  by_cases hc : k0_cond1 (grid0.coords t) (fdw (lastEnd x0)) = 1#1
  · rw [if_pos hc, if_pos (hu.mp hc)]
    have hlt : (a.val : Int) < (fdw (lastEnd x0)).toInt := by rw [← ha]; exact (cond1_iff _ _).mp hc
    have hb := bexpV_lt x0 (ix1 a)
    have hbi : (bexpV x0 (ix1 a)).toInt = ((bexpV x0 (ix1 a)).toNat : Int) := WordCmp.toInt_eq_toNat_of_lt_half (by norm_num; omega)
    have he : (val_main_v24 (F := Ideal) x0 (ix1 a)).toInt.toNat = (⟨(bexpV x0 (ix1 a)).toNat, hb⟩ : Fin 32).val := by
      rw [bexp_eq x0 a hlt, hbi]; rfl
    have e1 := (tf1 m (grid0.coords t) a ha).trans (by rw [hx0])
    have e2 := (tf2 m (grid0.coords t) a ha).trans (by rw [hx0])
    have e3 := (tf3 m (grid0.coords t) a ha).trans (by rw [hx0])
    have g1 : ∀ k : Fin 2048, _ := fun k => iblk0_apply m hO 0 t a ha q k
    have g2 : ∀ (k : Fin 2048) (l : Fin 1024), _ := fun k l => iblk1_apply m hO 0 t ⟨_, hb⟩ e1 k l
    have g3 : ∀ (k : Fin 2048) (l : Fin 1024), _ := fun k l => iblk2_apply m hO 0 t ⟨_, hb⟩ e2 k l
    have g4 : ∀ l : Fin 1024, _ := fun l => iblk3_apply m hO 0 t ⟨_, hb⟩ e3 l d
    refine (pay1_apply (iblk m hO 0 0 t) (iblk m hO 0 1 t) (iblk m hO 0 2 t) (iblk m hO 0 3 t) q d).trans
      (Eq.trans ?_ (ref_apply x0 _ _ _ _ a q d _ he).symm)
    refine Finset.sum_congr rfl fun l _ => congrArg₂ (· * ·) (congrArg₂ gate ?_ ?_) (g4 l)
    · exact Finset.sum_congr rfl fun k _ => congrArg₂ (· * ·) (g1 k) (g2 k l)
    · exact Finset.sum_congr rfl fun k _ => congrArg₂ (· * ·) (g1 k) (g3 k l)
  · rw [if_neg hc, if_neg (fun h => hc (hu.mpr h)), pay2_apply]

theorem tf4 (i : grid0.Coords) (a : Fin 160) (ha : (i 0).val = a.val) : cc0_transform_4 i 0 = a.val ∧ cc0_transform_4 i 1 = 0 := tf0 i a ha

/-- An element of the output's block at a point sits in the array at the block's first row and its own. -/
theorem rect4 (hO : Ok m) (t : Fin (cfgM m hO).N) (a : Fin 160) (ha : (grid0.coords t 0).val = a.val) (q : Fin 512) (d : Fin 2048) :
    ((((cfgM m hO).win 4).rect t).emb (ix2 q d : S512x2048.Idx) : S81920x2048.Idx) = ix2 (⟨a.val * 512 + q.val, by omega⟩ : Fin 81920) d := by
  obtain ⟨h0, h1⟩ := tf4 (grid0.coords t) a ha
  have hr := Pipeline.Window.rect_emb_val ((cfgM m hO).win 4) t (ix2 q d : S512x2048.Idx)
  funext b
  refine Fin.ext ?_
  have hb : b = (0 : Fin 2) ∨ b = (1 : Fin 2) := by
    match b with
    | ⟨0, _⟩ => exact .inl rfl
    | ⟨1, _⟩ => exact .inr rfl
  rcases hb with rfl | rfl
  · refine (hr (0 : Fin 2)).trans ?_
    show cc0_transform_4 (grid0.coords t) 0 * 512 + q.val = a.val * 512 + q.val
    rw [h0]
  · refine (hr (1 : Fin 2)).trans ?_
    show cc0_transform_4 (grid0.coords t) 1 * 2048 + d.val = d.val
    rw [h1, Nat.zero_mul, Nat.zero_add]

theorem flushed_eq (hO : Ok m) (c : Dev nD) (t : Fin (cfgM m hO).N) :
    (dats m hO 0 c).flushed 4 t = (((cfgM m hO).win 4).blk t).view.read (Elt Ideal) (val m c) := by
  show ((cfgM m hO).win 4).cut (grid0.coords t) ((dats m hO 0 c).after 4 t) = _
  rw [after4]
  funext j
  obtain ⟨q, d, rfl⟩ : ∃ (q : Fin 512) (d : Fin 2048), j = (ix2 q d : S512x2048.Idx) := ⟨j (0 : Fin 2), j (1 : Fin 2), eq_ix2 (n0 := 512) (n1 := 2048) j⟩
  refine Eq.trans (b := outsAt m hO c t (ix2 q d)) rfl ?_
  refine (outs_eq m hO c t ⟨(grid0.coords t 0).val, (grid0.coords t 0).isLt⟩ rfl q d).trans ?_
  refine Eq.trans ?_ ((View.read_apply _ _).trans (cast_eq _ _)).symm
  exact congrArg (val m c) (rect4 m hO t ⟨(grid0.coords t 0).val, (grid0.coords t 0).isLt⟩ rfl q d).symm

theorem cover (hO : Ok m) (i : S81920x2048.Idx) :
    ∃ t : Fin (cfgM m hO).N, ((cfgM m hO).win 4).flush t = true ∧ i ∈ (((cfgM m hO).win 4).blk t).view.set := by
  have hi : (i 0).val < 81920 := (i 0).isLt
  have hN : grid0.N = 160 := N_0
  refine ⟨⟨(i 0).val / 512, by show _ < grid0.N; omega⟩, flush4 _ _, ?_⟩
  generalize ht : (⟨(i 0).val / 512, by show _ < grid0.N; omega⟩ : Fin grid0.N) = t
  have hc : (grid0.coords t 0).val = (i 0).val / 512 := by
    rw [← ht, Pipeline.Grid.coords_val (G := grid0) _ 0 (S := 1) (B := 160) (by decide) (by decide)]
    show (i 0).val / 512 / 1 % 160 = (i 0).val / 512
    omega
  obtain ⟨h0, h1⟩ := tf4 (grid0.coords t) ⟨(i 0).val / 512, by omega⟩ hc
  show i ∈ ((View.whole main_v27).slice (((cfgM m hO).win 4).rect t)).set
  erw [View.set_slice_whole]
  refine (Pipeline.Window.mem_rect_iff ((cfgM m hO).win 4) t i (by rfl)).mpr fun b => ?_
  have hb : b = (0 : Fin 2) ∨ b = (1 : Fin 2) := by
    match b with
    | ⟨0, _⟩ => exact .inl rfl
    | ⟨1, _⟩ => exact .inr rfl
  rcases hb with rfl | rfl
  · show cc0_transform_4 (grid0.coords t) 0 * 512 ≤ (i 0).val ∧ (i 0).val < cc0_transform_4 (grid0.coords t) 0 * 512 + 512
    rw [h0]
    show (i 0).val / 512 * 512 ≤ (i 0).val ∧ (i 0).val < (i 0).val / 512 * 512 + 512
    omega
  · show cc0_transform_4 (grid0.coords t) 1 * 2048 ≤ (i 1).val ∧ (i 1).val < cc0_transform_4 (grid0.coords t) 1 * 2048 + 2048
    have : (i 1).val < 2048 := (i 1).isLt
    rw [h1]
    omega

theorem final (c : Dev nD) : (dats m (ok m) 0 c).arrAt 4 (cfgM m (ok m)).N = val m c :=
  (dats m (ok m) 0 c).arrAt_eq_of_cover 4 (val m c) (fun t _ => flushed_eq m (ok m) c t) (cover m (ok m))

end Cert.Expert

end
-- ==== Proof.ExpertClaim.lean ====
/- The expert call's value claim, and its reference's frame. -/
module

public import proofs.«01_k».proof.Proof.ExpertValue
public import proofs.«01_k».proof.Defs

@[expose] public section

set_option maxRecDepth 16384

noncomputable section

namespace Cert.Expert

open Idealize.ShloMosaic Idealize.ShloMosaic.TcCoe
open Idealize.SL Idealize.SL.Sem

theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run m ρ)

/-- At the ideal values the expert call's result is the reference's, for all arguments. -/
theorem algebraic : Cert.algebraic_KernelIdeal_ReferenceIdeal := by
  intro m ρ m' ρ' _ hagree
  refine ⟨fun c => val m c, ?_, ?_⟩
  · refine (θ_run Cert.KernelIdeal.defs _ _).mono (fun r h c => ?_) (Cert.KernelIdeal.Expert.run_read m ρ (Cert.KernelIdeal.Expert.ok m))
    exact ⟨(h.1 c).1.trans (final m c), (h.1 c).2⟩
  · refine (θ_run Cert.ReferenceIdeal.defs _ _).mono (fun r h c => ?_) (Cert.ReferenceIdeal.Value.run m' ρ')
    refine ⟨(h c).1.trans ?_, (h c).2⟩
    obtain ⟨h0, h1, h2, h3, h4⟩ := hagree c
    rw [Cert.ReferenceIdeal.Read.val_main_v50_eq, h0, h1, h2, h3, h4]
    rfl

end Cert.Expert

end
-- ==== Proof.InProjPay.lean ====
/- The input projection's payloads and output blocks read at an index. -/
module

public import proofs.«01_k».proof.Proof.Gen.Kernel2Ideal.Value
public import Idealize.ShloMosaic.Lib.Pointwise
public import Idealize.ShloMosaic.Lib.Pipeline.Value

@[expose] public section

set_option maxRecDepth 16384

noncomputable section

namespace Cert.InProj

open Cert.Kernel2Ideal Cert.Kernel2Ideal.Gen
open Idealize.ShloMosaic Idealize.ShloMosaic.TcCoe Idealize.SL.Sem

theorem pay2_apply (x0 : Vec Ideal S512x2048 .f32) (x2 : Vec Ideal S2048x128 .bf16) (q : Fin 512) (d : Fin 128) :
    k0_pay2 x0 x2 (ix2 q d) = ∑ k : Fin 2048, x0 (ix2 q k) * x2 (ix2 k d) := by
  pointwise [k0_pay2, k0_pay1]

theorem pay3_apply (x0 : Vec Ideal S512x2048 .f32) (x1 : Vec Ideal S2048x2816 .bf16) (q : Fin 512) (d : Fin 2816) :
    k0_pay3 x0 x1 (ix2 q d) = ∑ k : Fin 2048, x0 (ix2 q k) * x1 (ix2 k d) := by
  pointwise [k0_pay3, k0_pay1]

theorem pay4_apply (x0 : Vec Ideal S512x2048 .f32) (x1 : Vec Ideal S2048x2816 .bf16) (q : Fin 512) (d : Fin 2816) :
    k0_pay4 x0 x1 (ix2 q d) = ∑ k : Fin 2048, x0 (ix2 q k) * x1 (ix2 k d) := by
  pointwise [k0_pay4, k0_pay1]

/-- The product of a block of rows with the wide weights, at an index. -/
def wide (x0 : Vec Ideal S512x2048 .f32) (x1 : Vec Ideal S2048x5632 .bf16) : Vec Ideal S512x5632 .bf16 :=
  fun j => ∑ k : Fin 2048, x0 (ix2 (j 0) k) * x1 (ix2 k (j 1))

theorem zz : (![0, 0] : Fin 2 → Nat) = fun _ => 0 := by
  funext a
  match a with
  | ⟨0, _⟩ => rfl
  | ⟨1, _⟩ => rfl

theorem out4_eq (c : Dev nD) (i : grid0.Coords) (arg1 : Memref sig .tc .vmem S512x2048 .f32) (harg1 : arg1.IsWhole) (arg2 : Memref sig .tc .vmem S2048x5632 .bf16) (harg2 : arg2.IsWhole)
    (arg3 : Memref sig .tc .vmem S2048x128 .bf16) (harg3 : arg3.IsWhole) (arg4 : Memref sig .tc .vmem S512x5632 .bf16) (harg4 : arg4.IsWhole) (arg5 : Memref sig .tc .vmem S512x128 .f32) (harg5 : arg5.IsWhole)
    (x0 : Vec Ideal S512x2048 .f32) (x1 : Vec Ideal S2048x5632 .bf16) (x2 : Vec Ideal S2048x128 .bf16) :
    out0_A_4 c i arg1 harg1 arg2 harg2 arg3 harg3 arg4 harg4 arg5 harg5 x0 x1 x2 = k0_pay2 x0 x2 := by
  unfold out0_A_4
  rw [View.read_writes_junk_eq_canon]
  unfold kernelRun0_A
  dsimp only
  rw [View.canon_unit_zero zz]
  simp only [View.readAt_eq_ld, harg1.read_unread, harg3.read_unread, View.ld_unit_zero (S := S512x2048) zz, View.ld_unit_zero (S := S2048x128) zz]

theorem out3_eq (c : Dev nD) (i : grid0.Coords) (arg1 : Memref sig .tc .vmem S512x2048 .f32) (harg1 : arg1.IsWhole) (arg2 : Memref sig .tc .vmem S2048x5632 .bf16) (harg2 : arg2.IsWhole)
    (arg3 : Memref sig .tc .vmem S2048x128 .bf16) (harg3 : arg3.IsWhole) (arg4 : Memref sig .tc .vmem S512x5632 .bf16) (harg4 : arg4.IsWhole) (arg5 : Memref sig .tc .vmem S512x128 .f32) (harg5 : arg5.IsWhole)
    (x0 : Vec Ideal S512x2048 .f32) (x1 : Vec Ideal S2048x5632 .bf16) (x2 : Vec Ideal S2048x128 .bf16) :
    out0_A_3 c i arg1 harg1 arg2 harg2 arg3 harg3 arg4 harg4 arg5 harg5 x0 x1 x2 = wide x0 x1 := by
  unfold out0_A_3
  rw [View.read_writes_junk_eq_canon]
  funext y
  refine View.canon_apply_of_pieces (wide x0 x1) _ ?_ y (cover0_A_3 c i arg1 harg1 arg2 harg2 arg3 harg3 arg4 harg4 arg5 harg5 x0 x1 x2 y)
  unfold kernelRun0_A
  dsimp only
  simp only [View.readAt_eq_ld, harg1.read_unread, harg2.read_unread, View.ld_unit_zero (S := S512x2048) zz]
  intro p hp
  rcases List.mem_cons.mp hp with rfl | hp
  · intro x
    obtain ⟨q, d, rfl⟩ : ∃ (q : Fin 512) (d : Fin 2816), x = (ix2 q d : S512x2816.Idx) := ⟨x (0 : Fin 2), x (1 : Fin 2), eq_ix2 (n0 := 512) (n1 := 2816) x⟩
    refine (pay4_apply _ _ q d).trans (Finset.sum_congr rfl fun k _ => congrArg₂ (· * ·) (congrArg x0 ?_) (congrArg x1 ?_))
    · funext a
      refine Fin.ext ?_
      match a with
      | ⟨0, _⟩ => show q.val = 0 + 1 * q.val; omega
      | ⟨1, _⟩ => rfl
    · funext a
      refine Fin.ext ?_
      match a with
      | ⟨0, _⟩ => show 0 + 1 * k.val = k.val; omega
      | ⟨1, _⟩ => rfl
  · rcases List.mem_singleton.mp hp with rfl
    intro x
    obtain ⟨q, d, rfl⟩ : ∃ (q : Fin 512) (d : Fin 2816), x = (ix2 q d : S512x2816.Idx) := ⟨x (0 : Fin 2), x (1 : Fin 2), eq_ix2 (n0 := 512) (n1 := 2816) x⟩
    refine (pay3_apply _ _ q d).trans (Finset.sum_congr rfl fun k _ => congrArg₂ (· * ·) (congrArg x0 ?_) (congrArg x1 ?_))
    · funext a
      refine Fin.ext ?_
      match a with
      | ⟨0, _⟩ => show q.val = 0 + 1 * q.val; omega
      | ⟨1, _⟩ => rfl
    · funext a
      refine Fin.ext ?_
      match a with
      | ⟨0, _⟩ => show 0 + 1 * k.val = k.val; omega
      | ⟨1, _⟩ => rfl

end Cert.InProj

end
-- ==== Proof.InProjValue.lean ====
/- The input projection's results at the ideal values: the reference's, block by block. -/
module

public import proofs.«01_k».proof.Proof.InProjPay
public import proofs.«01_k».proof.Proof.Gen.Reference2Ideal
public import proofs.«01_k».proof.Proof.Gen.Reference2Ideal.Read
public import Idealize.ShloMosaic.Lib.StableHlo.Run
public import Idealize.ShloMosaic.Lib.KernelVsHost
public import Idealize.ShloMosaic.Lib.Pipeline.ValueKit

@[expose] public section

set_option maxRecDepth 16384

noncomputable section

namespace Cert.InProj

open Cert.Kernel2Ideal Cert.Kernel2Ideal.Gen
open Cert.Reference2Ideal.Read
open Idealize.ShloMosaic Idealize.ShloMosaic.TcCoe Idealize.SL.Sem

variable (m : (ℓ : Loc nD τ sig) → Buf (Elt Ideal) ℓ)

/-- The layer's input as an array of tokens, and the weights without their leading axis, at an index. -/
def xin (x0 : Vec Ideal S4x8192x2048 .f32) (r : Fin 32768) (k : Fin 2048) : EReal :=
  x0 (ix3 (⟨r.val / 8192, by omega⟩ : Fin 4) (⟨r.val % 8192, by omega⟩ : Fin 8192) k)
def win (x1 : Vec Ideal S1x2048x5648 .f32) (k : Fin 2048) (l : Fin 5648) : EReal := x1 (ix3 (0 : Fin 1) k l)

theorem V_v0 (c : Dev nD) : V m c main_v0 = (shapeCast S32768x2048 (m ((c : Thread nD τ).loc main_arg0)) shapeCasts_S4x8192x2048_S32768x2048 : FVec Ideal S32768x2048 .f32) := by
  simp only [V, hostOps0, hostOps0_1, hostOps0_2, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  rfl

theorem V_v2 (c : Dev nD) : V m c main_v2 = (truncf .bf16 (shapeCast S2048x5648 (m ((c : Thread nD τ).loc main_arg1)) shapeCasts_S1x2048x5648_S2048x5648 : FVec Ideal S2048x5648 .f32) bitsLt_bf16_f32 : FVec Ideal S2048x5648 .bf16) := by
  simp only [V, hostOps0, hostOps0_1, hostOps0_2, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  rfl

theorem V_v6 (c : Dev nD) : V m c main_v6 = (truncf .bf16 (pad S2048x128 ![0, 0] ![0, 112] ![0, 0]
      (extractStridedSlice S2048x16 ![0, 5632] (shapeCast S2048x5648 (m ((c : Thread nD τ).loc main_arg1)) shapeCasts_S1x2048x5648_S2048x5648 : FVec Ideal S2048x5648 .f32) slices_S2048x5648_S2048x16_0_5632)
      (sitofp .f32 (constantI S_ 32 0#32) : FVec Ideal S_ .f32) pads_S2048x16_S2048x128_000_01120 h_S_ : FVec Ideal S2048x128 .f32) bitsLt_bf16_f32 : FVec Ideal S2048x128 .bf16) := by
  simp only [V, hostOps0, hostOps0_1, hostOps0_2, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  rfl

theorem ix3_val {n0 n1 n2 : Nat} (i : (⟨3, ![n0, n1, n2]⟩ : Shape).Idx) (a : Fin n0) (b : Fin n1) (d : Fin n2)
    (h0 : (i (0 : Fin 3)).val = a.val) (h1 : (i (1 : Fin 3)).val = b.val) (h2 : (i (2 : Fin 3)).val = d.val) : i = ix3 a b d := by
  funext e
  refine Fin.ext ?_
  match e with
  | ⟨0, _⟩ => exact h0
  | ⟨1, _⟩ => exact h1
  | ⟨2, _⟩ => exact h2

theorem ix2_val {n0 n1 : Nat} (i : (⟨2, ![n0, n1]⟩ : Shape).Idx) (a : Fin n0) (b : Fin n1)
    (h0 : (i (0 : Fin 2)).val = a.val) (h1 : (i (1 : Fin 2)).val = b.val) : i = ix2 a b := by
  funext e
  refine Fin.ext ?_
  match e with
  | ⟨0, _⟩ => exact h0
  | ⟨1, _⟩ => exact h1

theorem cast_w (x : Vec Ideal S1x2048x5648 .f32) (k : Fin 2048) (l : Fin 5648) :
    (shapeCast S2048x5648 x shapeCasts_S1x2048x5648_S2048x5648 : FVec Ideal S2048x5648 .f32) (ix2 k l) = win x k l := by
  have h1 := k.isLt
  have h2 := l.isLt
  refine (val_main_v0_apply (F := Ideal) x (ix2 k l)).trans (congrArg x (ix3_val _ (0 : Fin 1) k l rfl ?_ ?_))
  · show (k.val * 5648 + l.val) / 5648 % 2048 = k.val; omega
  · show (k.val * 5648 + l.val) % 5648 = l.val; omega

theorem cast_x (x : Vec Ideal S4x8192x2048 .f32) (r : Fin 32768) (k : Fin 2048) :
    (shapeCast S32768x2048 x shapeCasts_S4x8192x2048_S32768x2048 : FVec Ideal S32768x2048 .f32) (ix2 r k) = xin x r k := by
  have h1 := r.isLt
  have h2 := k.isLt
  refine shapeCast_apply x shapeCasts_S4x8192x2048_S32768x2048 (ix2 r k) _ ?_
  simp only [Shape.rowMajor_val_three, Shape.rowMajor_val_two]
  show (r.val / 8192 * 8192 + r.val % 8192) * 2048 + k.val = r.val * 2048 + k.val
  omega

/-- The narrow weights: the last sixteen columns, then zeros. -/
def narrow (x1 : Vec Ideal S1x2048x5648 .f32) (k : Fin 2048) (d : Fin 128) : EReal :=
  if h : d.val < 16 then win x1 k ⟨5632 + d.val, by omega⟩ else 0

theorem zero_word : FloatOps.sitofp (F := Ideal) .f32 (0#32) = (0 : EReal) := by
  show ((((0#32 : BitVec 32).toInt : ℝ) : EReal)) = 0
  simp

theorem pad_w (x1 : Vec Ideal S1x2048x5648 .f32) (k : Fin 2048) (d : Fin 128) :
    (pad S2048x128 ![0, 0] ![0, 112] ![0, 0]
      (extractStridedSlice S2048x16 ![0, 5632] (shapeCast S2048x5648 x1 shapeCasts_S1x2048x5648_S2048x5648 : FVec Ideal S2048x5648 .f32) slices_S2048x5648_S2048x16_0_5632)
      (sitofp .f32 (constantI S_ 32 0#32) : FVec Ideal S_ .f32) pads_S2048x16_S2048x128_000_01120 h_S_ : FVec Ideal S2048x128 .f32) (ix2 k d) = narrow x1 k d := by
  unfold narrow
  by_cases h : d.val < 16
  · rw [dif_pos h]
    refine (pad_apply_of_inside _ _ _ _ _ _ _ _ (ix2 k (⟨d.val, h⟩ : Fin 16)) fun a => ?_).trans ?_
    · match a with
      | ⟨0, _⟩ => show k.val = 0 + k.val * (0 + 1); omega
      | ⟨1, _⟩ => show d.val = 0 + d.val * (0 + 1); omega
    · refine (extractStridedSlice_apply _ _ _ _ (ix2 k (⟨5632 + d.val, by omega⟩ : Fin 5648)) fun a => ?_).trans (cast_w x1 k _)
      match a with
      | ⟨0, _⟩ => show k.val = 0 + k.val; omega
      | ⟨1, _⟩ => rfl
  · rw [dif_neg h]
    refine (pad_apply_of_not_inside _ _ _ _ _ _ _ _ (1 : Fin 2) ?_).trans zero_word
    intro hh
    have h3 : (d.val - 0) / (0 + 1) < 16 := hh.2.2
    omega

/-- What the two results are shown to hold. -/
def val3 (x0 : Vec Ideal S4x8192x2048 .f32) (x1 : Vec Ideal S1x2048x5648 .f32) : Vec Ideal S32768x5632 .bf16 :=
  fun i => ∑ k : Fin 2048, xin x0 (i 0) k * win x1 k ⟨(i 1).val, Nat.lt_trans (i 1).isLt (by decide)⟩
def val4 (x0 : Vec Ideal S4x8192x2048 .f32) (x1 : Vec Ideal S1x2048x5648 .f32) : Vec Ideal S32768x128 .f32 :=
  fun i => ∑ k : Fin 2048, xin x0 (i 0) k * narrow x1 k (i 1)

/-! ## The reference -/

theorem ref2_apply (x0 : Vec Ideal S4x8192x2048 .f32) (x1 : Vec Ideal S1x2048x5648 .f32) (r : Fin 32768) (l : Fin 5648) :
    val_main_v2 (F := Ideal) x0 x1 (ix2 r l) = ∑ k : Fin 2048, xin x0 r k * win x1 k l := by
  have h1 := r.isLt
  have h2 := l.isLt
  rw [val_main_v2_apply, val_main_v1_apply]
  refine Finset.sum_congr rfl fun k _ => congrArg₂ (· * ·) (congrArg x0 (ix3_val _ _ _ k ?_ ?_ rfl)) ?_
  · show (r.val * 5648 + l.val) / 46268416 = r.val / 8192; omega
  · show (r.val * 5648 + l.val) / 5648 % 8192 = r.val % 8192; omega
  · refine Eq.trans (congrArg (val_main_v0 (F := Ideal) x1) (ix2_val _ k l rfl ?_)) (cast_w x1 k l)
    show (r.val * 5648 + l.val) % 5648 = l.val; omega

theorem ref5_eq (x0 : Vec Ideal S4x8192x2048 .f32) (x1 : Vec Ideal S1x2048x5648 .f32) : val_main_v5 (F := Ideal) x0 x1 = val3 x0 x1 := by
  funext i
  obtain ⟨r, l, rfl⟩ : ∃ (r : Fin 32768) (l : Fin 5632), i = (ix2 r l : S32768x5632.Idx) := ⟨i (0 : Fin 2), i (1 : Fin 2), eq_ix2 (n0 := 32768) (n1 := 5632) i⟩
  refine (val_main_v3_apply (F := Ideal) x0 x1 (ix2 r l)).trans (Eq.trans (congrArg (val_main_v2 (F := Ideal) x0 x1) ?_)
    (ref2_apply x0 x1 r ⟨l.val, Nat.lt_trans l.isLt (by decide)⟩))
  exact ix2_val _ _ _ rfl rfl

theorem ref6_eq (x0 : Vec Ideal S4x8192x2048 .f32) (x1 : Vec Ideal S1x2048x5648 .f32) : val_main_v6 (F := Ideal) x0 x1 = val4 x0 x1 := by
  funext i
  obtain ⟨r, d, rfl⟩ : ∃ (r : Fin 32768) (d : Fin 128), i = (ix2 r d : S32768x128.Idx) := ⟨i (0 : Fin 2), i (1 : Fin 2), eq_ix2 (n0 := 32768) (n1 := 128) i⟩
  unfold val_main_v6
  show _ = ∑ k : Fin 2048, xin x0 r k * narrow x1 k d
  unfold narrow
  by_cases h : d.val < 16
  · simp only [dif_pos h]
    refine (pad_apply_of_inside _ _ _ _ _ _ _ _ (ix2 r (⟨d.val, h⟩ : Fin 16)) fun a => ?_).trans ?_
    · match a with
      | ⟨0, _⟩ => show r.val = 0 + r.val * (0 + 1); omega
      | ⟨1, _⟩ => show d.val = 0 + d.val * (0 + 1); omega
    · refine (val_main_v4_apply (F := Ideal) x0 x1 _).trans (Eq.trans (congrArg (val_main_v2 (F := Ideal) x0 x1) ?_) (ref2_apply x0 x1 r ⟨5632 + d.val, by omega⟩))
      exact ix2_val _ _ _ rfl rfl
  · simp only [dif_neg h, mul_zero, Finset.sum_const_zero]
    refine (pad_apply_of_not_inside _ _ _ _ _ _ _ _ (1 : Fin 2) ?_).trans zero_word
    intro hh
    have h3 : (d.val - 0) / (0 + 1) < 16 := hh.2.2
    omega

/-! ## The kernel's blocks -/

theorem tf0 (i : grid0.Coords) (a : Fin 64) (ha : (i 0).val = a.val) : cc0_transform_0 i 0 = a.val ∧ cc0_transform_0 i 1 = 0 := by
  have h := a.isLt
  refine ⟨?_, rfl⟩
  show (BitVec.ofNat 32 (i 0).val).toNat = a.val
  rw [BitVec.toNat_ofNat, ha]
  exact Nat.mod_eq_of_lt (by omega)

theorem iblk0_apply (c : Dev nD) (t : Fin cfg0.N) (a : Fin 64) (ha : (grid0.coords t 0).val = a.val) (q : Fin 512) (k : Fin 2048) :
    (iblk m c 0 t : Vec Ideal S512x2048 .f32) (ix2 q k) = xin (m ((c : Thread nD τ).loc main_arg0)) (⟨a.val * 512 + q.val, by omega⟩ : Fin 32768) k := by
  obtain ⟨h0, h1⟩ := tf0 (grid0.coords t) a ha
  unfold iblk
  refine (View.read_apply _ _).trans ((cast_eq _ _).trans ?_)
  refine (congrFun (V_v0 m c) _).trans ?_
  have hr := Pipeline.Window.rect_emb_val (cfg0.win 0) t (ix2 q k : S512x2048.Idx)
  have hi : ((cfg0.win 0).rect t).emb (ix2 q k : S512x2048.Idx) = (ix2 (⟨a.val * 512 + q.val, by omega⟩ : Fin 32768) k : S32768x2048.Idx) := by
    refine ix2_val _ _ k ((hr (0 : Fin 2)).trans ?_) ((hr (1 : Fin 2)).trans ?_)
    · show cc0_transform_0 (grid0.coords t) 0 * 512 + q.val = a.val * 512 + q.val
      rw [h0]
    · show cc0_transform_0 (grid0.coords t) 1 * 2048 + k.val = k.val
      rw [h1, Nat.zero_mul, Nat.zero_add]
  show (shapeCast S32768x2048 (m ((c : Thread nD τ).loc main_arg0)) shapeCasts_S4x8192x2048_S32768x2048 : FVec Ideal S32768x2048 .f32)
    (((cfg0.win 0).rect t).emb (ix2 q k : S512x2048.Idx)) = _
  rw [hi]
  exact cast_x _ _ k

theorem iblk2_apply (c : Dev nD) (t : Fin cfg0.N) (k : Fin 2048) (d : Fin 128) :
    (iblk m c 2 t : Vec Ideal S2048x128 .bf16) (ix2 k d) = narrow (m ((c : Thread nD τ).loc main_arg1)) k d := by
  unfold iblk
  refine (View.read_apply _ _).trans ((cast_eq _ _).trans ?_)
  refine (congrFun (V_v6 m c) _).trans ?_
  have hr := Pipeline.Window.rect_emb_val (cfg0.win 2) t (ix2 k d : S2048x128.Idx)
  have hi : ((cfg0.win 2).rect t).emb (ix2 k d : S2048x128.Idx) = (ix2 k d : S2048x128.Idx) := by
    refine ix2_val _ k d ((hr (0 : Fin 2)).trans ?_) ((hr (1 : Fin 2)).trans ?_)
    · show 0 * 2048 + k.val = k.val
      rw [Nat.zero_mul, Nat.zero_add]
    · show 0 * 128 + d.val = d.val
      rw [Nat.zero_mul, Nat.zero_add]
  refine Eq.trans (congrArg _ hi) ?_
  exact pad_w _ k d

theorem blk1_apply (c : Dev nD) (t : Fin cfg0.N) (k : Fin 2048) (l : Fin 5632) :
    (X0_1 m c t : Vec Ideal S2048x5632 .bf16) (ix2 k l) = win (m ((c : Thread nD τ).loc main_arg1)) k ⟨l.val, Nat.lt_trans l.isLt (by decide)⟩ := by
  unfold X0_1 Pipeline.Window.fill
  rw [dif_pos (moved0_1 t (ix2 k l : S2048x5632.Idx))]
  unfold iblk
  refine (View.read_apply _ _).trans ((cast_eq _ _).trans ?_)
  refine (congrFun (V_v2 m c) _).trans ?_
  refine Eq.trans (congrArg _ ?_) (cast_w _ k ⟨l.val, Nat.lt_trans l.isLt (by decide)⟩)
  have hr := Pipeline.Window.rect_emb_val (cfg0.win 1) t (fun a => ⟨((ix2 k l : S2048x5632.Idx) a).val, ((cfg0.win 1).moved_iff _ _).mp (moved0_1 t (ix2 k l : S2048x5632.Idx)) a⟩)
  refine ix2_val _ k _ ((hr (0 : Fin 2)).trans ?_) ((hr (1 : Fin 2)).trans ?_)
  · show 0 * 2048 + k.val = k.val
    rw [Nat.zero_mul, Nat.zero_add]
  · show 0 * 5632 + l.val = l.val
    rw [Nat.zero_mul, Nat.zero_add]

theorem rect3 (t : Fin cfg0.N) (a : Fin 64) (ha : (grid0.coords t 0).val = a.val) (q : Fin 512) (d : Fin 5632) :
    (((cfg0.win 3).rect t).emb (ix2 q d : S512x5632.Idx) : S32768x5632.Idx) = ix2 (⟨a.val * 512 + q.val, by omega⟩ : Fin 32768) d := by
  obtain ⟨h0, h1⟩ := tf0 (grid0.coords t) a ha
  have hr := Pipeline.Window.rect_emb_val (cfg0.win 3) t (ix2 q d : S512x5632.Idx)
  refine ix2_val _ _ d ((hr (0 : Fin 2)).trans ?_) ((hr (1 : Fin 2)).trans ?_)
  · show cc0_transform_0 (grid0.coords t) 0 * 512 + q.val = a.val * 512 + q.val
    rw [h0]
  · show cc0_transform_0 (grid0.coords t) 1 * 5632 + d.val = d.val
    rw [h1, Nat.zero_mul, Nat.zero_add]

theorem rect4 (t : Fin cfg0.N) (a : Fin 64) (ha : (grid0.coords t 0).val = a.val) (q : Fin 512) (d : Fin 128) :
    (((cfg0.win 4).rect t).emb (ix2 q d : S512x128.Idx) : S32768x128.Idx) = ix2 (⟨a.val * 512 + q.val, by omega⟩ : Fin 32768) d := by
  obtain ⟨h0, h1⟩ := tf0 (grid0.coords t) a ha
  have hr := Pipeline.Window.rect_emb_val (cfg0.win 4) t (ix2 q d : S512x128.Idx)
  refine ix2_val _ _ d ((hr (0 : Fin 2)).trans ?_) ((hr (1 : Fin 2)).trans ?_)
  · show cc0_transform_0 (grid0.coords t) 0 * 512 + q.val = a.val * 512 + q.val
    rw [h0]
  · show cc0_transform_0 (grid0.coords t) 1 * 128 + d.val = d.val
    rw [h1, Nat.zero_mul, Nat.zero_add]

theorem wide_of (x0 : Vec Ideal S512x2048 .f32) (x1 : Vec Ideal S2048x5632 .bf16) (q : Fin 512) (d : Fin 5632) (f g : Fin 2048 → EReal)
    (h0 : ∀ k, x0 (ix2 q k) = f k) (h1 : ∀ k, x1 (ix2 k d) = g k) : wide x0 x1 (ix2 q d) = ∑ k : Fin 2048, f k * g k :=
  Finset.sum_congr rfl fun k _ => congrArg₂ (· * ·) (h0 k) (h1 k)

def thin (x0 : Vec Ideal S512x2048 .f32) (x2 : Vec Ideal S2048x128 .bf16) : Vec Ideal S512x128 .f32 := k0_pay2 x0 x2

theorem pay2_of (x0 : Vec Ideal S512x2048 .f32) (x2 : Vec Ideal S2048x128 .bf16) (q : Fin 512) (d : Fin 128) (f g : Fin 2048 → EReal)
    (h0 : ∀ k, x0 (ix2 q k) = f k) (h1 : ∀ k, x2 (ix2 k d) = g k) : thin x0 x2 (ix2 q d) = ∑ k : Fin 2048, f k * g k :=
  (pay2_apply x0 x2 q d).trans (Finset.sum_congr rfl fun k _ => congrArg₂ (· * ·) (h0 k) (h1 k))

theorem flushed3_eq (c : Dev nD) (t : Fin cfg0.N) :
    (dats m 0 c).flushed 3 t = ((cfg0.win 3).blk t).view.read (Elt Ideal) (val3 (m ((c : Thread nD τ).loc main_arg0)) (m ((c : Thread nD τ).loc main_arg1))) := by
  refine (Cert.Kernel2Ideal.Value.flushed3_A m c t).trans ?_
  rw [out3_eq]
  funext j
  obtain ⟨q, d, rfl⟩ : ∃ (q : Fin 512) (d : Fin 5632), j = (ix2 q d : S512x5632.Idx) := ⟨j (0 : Fin 2), j (1 : Fin 2), eq_ix2 (n0 := 512) (n1 := 5632) j⟩
  refine Eq.trans (b := wide (iblk m c 0 t) (X0_1 m c t) (ix2 q d)) rfl ?_
  refine (wide_of (iblk m c 0 t) (X0_1 m c t) q d _ _ (iblk0_apply m c t ⟨(grid0.coords t 0).val, (grid0.coords t 0).isLt⟩ rfl q) (fun k => blk1_apply m c t k d)).trans ?_
  refine Eq.trans ?_ ((View.read_apply _ _).trans (cast_eq _ _)).symm
  exact congrArg (val3 (m ((c : Thread nD τ).loc main_arg0)) (m ((c : Thread nD τ).loc main_arg1))) (rect3 t ⟨(grid0.coords t 0).val, (grid0.coords t 0).isLt⟩ rfl q d).symm

theorem flushed4_eq (c : Dev nD) (t : Fin cfg0.N) :
    (dats m 0 c).flushed 4 t = ((cfg0.win 4).blk t).view.read (Elt Ideal) (val4 (m ((c : Thread nD τ).loc main_arg0)) (m ((c : Thread nD τ).loc main_arg1))) := by
  refine (Cert.Kernel2Ideal.Value.flushed4_A m c t).trans ?_
  rw [out4_eq]
  funext j
  obtain ⟨q, d, rfl⟩ : ∃ (q : Fin 512) (d : Fin 128), j = (ix2 q d : S512x128.Idx) := ⟨j (0 : Fin 2), j (1 : Fin 2), eq_ix2 (n0 := 512) (n1 := 128) j⟩
  refine Eq.trans (b := thin (iblk m c 0 t) (iblk m c 2 t) (ix2 q d)) rfl ?_
  refine (pay2_of (iblk m c 0 t) (iblk m c 2 t) q d _ _ (iblk0_apply m c t ⟨(grid0.coords t 0).val, (grid0.coords t 0).isLt⟩ rfl q) (fun k => iblk2_apply m c t k d)).trans ?_
  refine Eq.trans ?_ ((View.read_apply _ _).trans (cast_eq _ _)).symm
  exact congrArg (val4 (m ((c : Thread nD τ).loc main_arg0)) (m ((c : Thread nD τ).loc main_arg1))) (rect4 t ⟨(grid0.coords t 0).val, (grid0.coords t 0).isLt⟩ rfl q d).symm

theorem point_of_row (n : Nat) (hn : n < 32768) : ∃ t : Fin cfg0.N, (grid0.coords t 0).val = n / 512 := by
  have hN : grid0.N = 64 := N_0
  refine ⟨⟨n / 512, by show _ < grid0.N; omega⟩, ?_⟩
  rw [Pipeline.Grid.coords_val (G := grid0) _ 0 (S := 1) (B := 64) (by decide) (by decide)]
  show n / 512 / 1 % 64 = n / 512
  omega

theorem cover3 (i : S32768x5632.Idx) : ∃ t : Fin cfg0.N, (cfg0.win 3).flush t = true ∧ i ∈ ((cfg0.win 3).blk t).view.set := by
  have hi : (i 0).val < 32768 := (i 0).isLt
  obtain ⟨t, hc⟩ := point_of_row (i 0).val hi
  refine ⟨t, flush0_3 t, ?_⟩
  obtain ⟨h0, h1⟩ := tf0 (grid0.coords t) ⟨(i 0).val / 512, by omega⟩ hc
  show i ∈ ((View.whole main_v7_0).slice ((cfg0.win 3).rect t)).set
  erw [View.set_slice_whole]
  refine (Pipeline.Window.mem_rect_iff (cfg0.win 3) t i (by rfl)).mpr fun b => ?_
  have hb : b = (0 : Fin 2) ∨ b = (1 : Fin 2) := by
    match b with
    | ⟨0, _⟩ => exact .inl rfl
    | ⟨1, _⟩ => exact .inr rfl
  rcases hb with rfl | rfl
  · show cc0_transform_0 (grid0.coords t) 0 * 512 ≤ (i 0).val ∧ (i 0).val < cc0_transform_0 (grid0.coords t) 0 * 512 + 512
    rw [h0]
    show (i 0).val / 512 * 512 ≤ (i 0).val ∧ (i 0).val < (i 0).val / 512 * 512 + 512
    omega
  · show cc0_transform_0 (grid0.coords t) 1 * 5632 ≤ (i 1).val ∧ (i 1).val < cc0_transform_0 (grid0.coords t) 1 * 5632 + 5632
    have : (i 1).val < 5632 := (i 1).isLt
    rw [h1]
    omega

theorem cover4 (i : S32768x128.Idx) : ∃ t : Fin cfg0.N, (cfg0.win 4).flush t = true ∧ i ∈ ((cfg0.win 4).blk t).view.set := by
  have hi : (i 0).val < 32768 := (i 0).isLt
  obtain ⟨t, hc⟩ := point_of_row (i 0).val hi
  refine ⟨t, flush0_4 t, ?_⟩
  obtain ⟨h0, h1⟩ := tf0 (grid0.coords t) ⟨(i 0).val / 512, by omega⟩ hc
  show i ∈ ((View.whole main_v7_1).slice ((cfg0.win 4).rect t)).set
  erw [View.set_slice_whole]
  refine (Pipeline.Window.mem_rect_iff (cfg0.win 4) t i (by rfl)).mpr fun b => ?_
  have hb : b = (0 : Fin 2) ∨ b = (1 : Fin 2) := by
    match b with
    | ⟨0, _⟩ => exact .inl rfl
    | ⟨1, _⟩ => exact .inr rfl
  rcases hb with rfl | rfl
  · show cc0_transform_0 (grid0.coords t) 0 * 512 ≤ (i 0).val ∧ (i 0).val < cc0_transform_0 (grid0.coords t) 0 * 512 + 512
    rw [h0]
    show (i 0).val / 512 * 512 ≤ (i 0).val ∧ (i 0).val < (i 0).val / 512 * 512 + 512
    omega
  · show cc0_transform_0 (grid0.coords t) 1 * 128 ≤ (i 1).val ∧ (i 1).val < cc0_transform_0 (grid0.coords t) 1 * 128 + 128
    have : (i 1).val < 128 := (i 1).isLt
    rw [h1]
    omega

theorem final3 (c : Dev nD) : (dats m 0 c).arrAt 3 cfg0.N = val3 (m ((c : Thread nD τ).loc main_arg0)) (m ((c : Thread nD τ).loc main_arg1)) :=
  (dats m 0 c).arrAt_eq_of_cover 3 _ (fun t _ => flushed3_eq m c t) cover3
theorem final4 (c : Dev nD) : (dats m 0 c).arrAt 4 cfg0.N = val4 (m ((c : Thread nD τ).loc main_arg0)) (m ((c : Thread nD τ).loc main_arg1)) :=
  (dats m 0 c).arrAt_eq_of_cover 4 _ (fun t _ => flushed4_eq m c t) cover4

end Cert.InProj

end
-- ==== Proof.InProjClaim.lean ====
/- The input projection's value claim, and its reference's frame. -/
module

public import proofs.«01_k».proof.Proof.InProjValue
public import proofs.«01_k».proof.Proof.Gen.Reference2Ideal.Run
public import proofs.«01_k».proof.Defs
public import Idealize.ShloMosaic.Lib.Quiescent

@[expose] public section

set_option maxRecDepth 16384

noncomputable section

namespace Cert.InProj

open Idealize.ShloMosaic Idealize.ShloMosaic.TcCoe
open Idealize.SL Idealize.SL.Sem

theorem frame_reference : Cert.quiescent_Reference2Ideal := fun m ρ _ =>
  (θ_run Cert.Reference2Ideal.defs _ _).mono (fun r h => ⟨fun c => (h c).2.2, Idealize.ShloMosaic.sem_eq_zero_of_no_sems (by decide) r.2⟩)
    (Cert.Reference2Ideal.Value.run m ρ)

/-- At the ideal values the input projection's two results are the reference's, for all arguments. -/
theorem algebraic : Cert.algebraic_Kernel2Ideal_Reference2Ideal := by
  intro m ρ m' ρ' _ hagree
  refine ⟨fun c => val3 (m ((c : Thread Cert.Kernel2Ideal.nD Cert.Kernel2Ideal.τ).loc Cert.Kernel2Ideal.main_arg0)) (m ((c : Thread Cert.Kernel2Ideal.nD Cert.Kernel2Ideal.τ).loc Cert.Kernel2Ideal.main_arg1)),
    fun c => val4 (m ((c : Thread Cert.Kernel2Ideal.nD Cert.Kernel2Ideal.τ).loc Cert.Kernel2Ideal.main_arg0)) (m ((c : Thread Cert.Kernel2Ideal.nD Cert.Kernel2Ideal.τ).loc Cert.Kernel2Ideal.main_arg1)), ?_, ?_⟩
  · refine (θ_run Cert.Kernel2Ideal.defs _ _).mono (fun r h c => ?_) (Cert.Kernel2Ideal.Value.run_blocks m ρ)
    exact ⟨(h c).1.trans (final3 m c), (h c).2.1.trans (final4 m c), (h c).2.2⟩
  · refine (θ_run Cert.Reference2Ideal.defs _ _).mono (fun r h c => ?_) (Cert.Reference2Ideal.Value.run m' ρ')
    obtain ⟨h0, h1⟩ := hagree c
    refine ⟨(h c).1.trans ?_, (h c).2.1.trans ?_, (h c).2.2⟩
    · rw [Cert.Reference2Ideal.Read.val_main_v5_eq, h0, h1]
      exact ref5_eq _ _
    · rw [Cert.Reference2Ideal.Read.val_main_v6_eq, h0, h1]
      exact ref6_eq _ _

end Cert.InProj

end
-- ==== Proof.OutProjPay.lean ====
/- The output projection's payloads and its first output block, read at an index. -/
module

public import proofs.«01_k».proof.Proof.Gen.Kernel3Ideal.Value
public import Idealize.ShloMosaic.Lib.Pointwise
public import Idealize.ShloMosaic.Lib.Pipeline.Value

@[expose] public section

set_option maxRecDepth 16384

noncomputable section

namespace Cert.OutProj

open Cert.Kernel3Ideal Cert.Kernel3Ideal.Gen
open Idealize.ShloMosaic Idealize.ShloMosaic.TcCoe Idealize.SL.Sem

/-- The mean of a row. -/
def mean (f : Fin 2048 → EReal) : EReal := Ideal.div (∑ k, f k) (Ideal.ofBits .f32 1157627904#32)

/-- A row normalised: its mean taken off, over the square root of its variance, scaled and shifted. -/
def norm (r g b : Fin 2048 → EReal) (d : Fin 2048) : EReal :=
  (r d - mean r) * Ideal.rsqrt (mean (fun k => (r k - mean r) * (r k - mean r)) + Ideal.ofBits .f32 925353388#32) * g d + b d

/-- A row before normalising: the scaled input and the two products. -/
def row (a s : Fin 1024 → EReal) (wa ws : Fin 1024 → Fin 2048 → EReal) (x : Fin 2048 → EReal) (d : Fin 2048) : EReal :=
  Ideal.ofBits .f32 1066940400#32 * x d + (∑ k, a k * wa k d + ∑ k, s k * ws k d)

theorem norm_congr {r r' g g' b b' : Fin 2048 → EReal} {d d' : Fin 2048} (hr : ∀ l, r l = r' l) (hg : ∀ l, g l = g' l) (hb : ∀ l, b l = b' l) (hd : d = d') :
    norm r g b d = norm r' g' b' d' := by
  obtain rfl : r = r' := funext hr
  obtain rfl : g = g' := funext hg
  obtain rfl : b = b' := funext hb
  rw [hd]

theorem row_congr {a a' s s' : Fin 1024 → EReal} {wa wa' ws ws' : Fin 1024 → Fin 2048 → EReal} {x x' : Fin 2048 → EReal} {d : Fin 2048}
    (ha : ∀ k, a k = a' k) (hs : ∀ k, s k = s' k) (hwa : ∀ k, wa k d = wa' k d) (hws : ∀ k, ws k d = ws' k d) (hx : x d = x' d) :
    row a s wa ws x d = row a' s' wa' ws' x' d := by
  unfold row
  simp only [ha, hs, hwa, hws, hx]

theorem pay7_apply (v3 : Vec Ideal S256x1024 .bf16) (v4 : Vec Ideal S1024x2048 .bf16) (v7 : Vec Ideal S256x1024 .bf16) (v8 : Vec Ideal S1024x2048 .bf16) (v12 : Vec Ideal S256x2048 .f32) (q : Fin 256) (d : Fin 2048) :
    k0_pay7 v3 v4 v7 v8 v12 (ix2 q d) = row (fun k => v3 (ix2 q k)) (fun k => v7 (ix2 q k)) (fun k l => v4 (ix2 k l)) (fun k l => v8 (ix2 k l)) (fun l => v12 (ix2 q l)) d
      - mean (row (fun k => v3 (ix2 q k)) (fun k => v7 (ix2 q k)) (fun k l => v4 (ix2 k l)) (fun k l => v8 (ix2 k l)) (fun l => v12 (ix2 q l))) := by
  unfold mean row
  pointwise [k0_pay7]

theorem pay8_apply (v3 : Vec Ideal S256x1024 .bf16) (v4 : Vec Ideal S1024x2048 .bf16) (v7 : Vec Ideal S256x1024 .bf16) (v8 : Vec Ideal S1024x2048 .bf16) (v12 : Vec Ideal S256x2048 .f32) (q : Fin 256) :
    k0_pay8 v3 v4 v7 v8 v12 (ix2 q (0 : Fin 1)) = mean (fun l => k0_pay7 v3 v4 v7 v8 v12 (ix2 q l) * k0_pay7 v3 v4 v7 v8 v12 (ix2 q l)) + Ideal.ofBits .f32 925353388#32 := by
  unfold mean
  pointwise [k0_pay8]

theorem pay9_apply (g b : Vec Ideal S1x2048 .f32) (r : Vec Ideal S256x2048 .f32) (v : Vec Ideal S256x1 .f32) (q : Fin 256) (d : Fin 2048) :
    k0_pay9 (k0_pay5 g) (k0_pay6 b) r v (ix2 q d) = r (ix2 q d) * Ideal.rsqrt (v (ix2 q (0 : Fin 1))) * g (ix2 (0 : Fin 1) d) + b (ix2 (0 : Fin 1) d) := by
  pointwise [k0_pay9, k0_pay5, k0_pay6]

theorem top_apply (v3 : Vec Ideal S256x1024 .bf16) (v4 : Vec Ideal S1024x2048 .bf16) (v7 : Vec Ideal S256x1024 .bf16) (v8 : Vec Ideal S1024x2048 .bf16) (v12 : Vec Ideal S256x2048 .f32) (g b : Vec Ideal S1x2048 .f32) (q : Fin 256) (d : Fin 2048) :
    k0_pay9 (k0_pay5 g) (k0_pay6 b) (k0_pay7 v3 v4 v7 v8 v12) (k0_pay8 v3 v4 v7 v8 v12) (ix2 q d)
      = norm (row (fun k => v3 (ix2 q k)) (fun k => v7 (ix2 q k)) (fun k l => v4 (ix2 k l)) (fun k l => v8 (ix2 k l)) (fun l => v12 (ix2 q l)))
          (fun l => g (ix2 (0 : Fin 1) l)) (fun l => b (ix2 (0 : Fin 1) l)) d := by
  rw [pay9_apply, pay8_apply, pay7_apply]
  simp only [pay7_apply]
  rfl

/-- The second half of a block stores what the first half's operations compute. -/
theorem pay33_eq (v3 : Vec Ideal S256x1024 .bf16) (v4 : Vec Ideal S1024x2048 .bf16) (v7 : Vec Ideal S256x1024 .bf16) (v8 : Vec Ideal S1024x2048 .bf16) (v12 : Vec Ideal S256x2048 .f32) (g b : Vec Ideal S1x2048 .f32) :
    k0_pay33 v3 v4 v7 v8 v12 g b = k0_pay9 (k0_pay5 g) (k0_pay6 b) (k0_pay7 v3 v4 v7 v8 v12) (k0_pay8 v3 v4 v7 v8 v12) := rfl

theorem low_apply (v3 : Vec Ideal S256x1024 .bf16) (v4 : Vec Ideal S1024x2048 .bf16) (v7 : Vec Ideal S256x1024 .bf16) (v8 : Vec Ideal S1024x2048 .bf16) (v12 : Vec Ideal S256x2048 .f32) (g b : Vec Ideal S1x2048 .f32) (q : Fin 256) (d : Fin 2048) :
    k0_pay33 v3 v4 v7 v8 v12 g b (ix2 q d)
      = norm (row (fun k => v3 (ix2 q k)) (fun k => v7 (ix2 q k)) (fun k l => v4 (ix2 k l)) (fun k l => v8 (ix2 k l)) (fun l => v12 (ix2 q l)))
          (fun l => g (ix2 (0 : Fin 1) l)) (fun l => b (ix2 (0 : Fin 1) l)) d :=
  (congrFun (pay33_eq v3 v4 v7 v8 v12 g b) (ix2 q d)).trans (top_apply v3 v4 v7 v8 v12 g b q d)

/-- The block of normalised rows that a block of inputs gives, at an index. -/
def blockH (x0 x1 : Vec Ideal S512x1024 .bf16) (x2 : Vec Ideal S512x2048 .f32) (x3 x4 : Vec Ideal S1024x2048 .bf16) (x5 x6 : Vec Ideal S1x2048 .f32) : Vec Ideal S512x2048 .f32 :=
  fun j => norm (row (fun k => x0 (ix2 (j 0) k)) (fun k => x1 (ix2 (j 0) k)) (fun k l => x3 (ix2 k l)) (fun k l => x4 (ix2 k l)) (fun l => x2 (ix2 (j 0) l)))
    (fun l => x5 (ix2 (0 : Fin 1) l)) (fun l => x6 (ix2 (0 : Fin 1) l)) (j 1)

theorem zz : (![0, 0] : Fin 2 → Nat) = fun _ => 0 := by
  funext a
  match a with
  | ⟨0, _⟩ => rfl
  | ⟨1, _⟩ => rfl

theorem ix2_val {n0 n1 : Nat} (i : (⟨2, ![n0, n1]⟩ : Shape).Idx) (a : Fin n0) (b : Fin n1)
    (h0 : (i (0 : Fin 2)).val = a.val) (h1 : (i (1 : Fin 2)).val = b.val) : i = ix2 a b := by
  funext e
  refine Fin.ext ?_
  match e with
  | ⟨0, _⟩ => exact h0
  | ⟨1, _⟩ => exact h1

theorem ix3_val {n0 n1 n2 : Nat} (i : (⟨3, ![n0, n1, n2]⟩ : Shape).Idx) (a : Fin n0) (b : Fin n1) (d : Fin n2)
    (h0 : (i (0 : Fin 3)).val = a.val) (h1 : (i (1 : Fin 3)).val = b.val) (h2 : (i (2 : Fin 3)).val = d.val) : i = ix3 a b d := by
  funext e
  refine Fin.ext ?_
  match e with
  | ⟨0, _⟩ => exact h0
  | ⟨1, _⟩ => exact h1
  | ⟨2, _⟩ => exact h2

theorem out9_A (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x2048 .f32) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x128 .bf16) (harg8 : arg8.IsWhole) (arg9 : Memref sig .tc .vmem S1x128 .f32) (harg9 : arg9.IsWhole) (arg10 : Memref sig .tc .vmem S512x2048 .f32) (harg10 : arg10.IsWhole) (arg11 : Memref sig .tc .vmem S512x128 .i32) (harg11 : arg11.IsWhole) (arg12 : Memref sig .tc .vmem S512x128 .f32) (harg12 : arg12.IsWhole) (arg13 : Memref sig .tc .vmem S8x128 .f32) (harg13 : arg13.IsWhole) (hc0 : cond0_0 i)
    (x0 : Vec Ideal S512x1024 .bf16) (x1 : Vec Ideal S512x1024 .bf16) (x2 : Vec Ideal S512x2048 .f32) (x3 : Vec Ideal S1024x2048 .bf16) (x4 : Vec Ideal S1024x2048 .bf16) (x5 : Vec Ideal S1x2048 .f32) (x6 : Vec Ideal S1x2048 .f32) (x7 : Vec Ideal S2048x128 .bf16) (x8 : Vec Ideal S1x128 .f32) :
    out0_A_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = blockH x0 x1 x2 x3 x4 x5 x6 := by
  unfold out0_A_9
  rw [View.read_writes_junk_eq_canon]
  funext y
  refine View.canon_apply_of_pieces (blockH x0 x1 x2 x3 x4 x5 x6) _ ?_ y (cover0_A_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 y)
  unfold kernelRun0_A
  dsimp only [kernelRun0_A.sl.r, kernelRun0_A.sl.r_1, kernelRun0_A.sl.r_2, kernelRun0_A.sl.r_3, kernelRun0_A.sl.r_14]
  simp only [View.readAt_eq_ld, harg1.read_unread, harg2.read_unread, harg3.read_unread, harg4.read_unread, harg5.read_unread, harg6.read_unread, harg7.read_unread, View.ld_unit_zero (S := S1024x2048) zz, View.ld_unit_zero (S := S1x2048) zz]
  intro p hp
  rcases List.mem_cons.mp hp with rfl | hp
  · intro x
    obtain ⟨q, d, rfl⟩ : ∃ (q : Fin 256) (d : Fin 2048), x = (ix2 q d : S256x2048.Idx) := ⟨x (0 : Fin 2), x (1 : Fin 2), eq_ix2 (n0 := 256) (n1 := 2048) x⟩
    refine (low_apply _ _ _ _ _ _ _ q d).trans ?_
    refine norm_congr (fun l => row_congr (fun k => congrArg x0 ?_) (fun k => congrArg x1 ?_) (fun k => rfl) (fun k => rfl) (congrArg x2 ?_)) (fun l => rfl) (fun l => rfl) ?_
    · exact ix2_val _ _ _ (by show 256 + 1 * q.val = 256 + 1 * q.val; rfl) (by show 0 + 1 * k.val = k.val; omega)
    · exact ix2_val _ _ _ (by show 256 + 1 * q.val = 256 + 1 * q.val; rfl) (by show 0 + 1 * k.val = k.val; omega)
    · exact ix2_val _ _ _ (by show 256 + 1 * q.val = 256 + 1 * q.val; rfl) (by show 0 + 1 * l.val = l.val; omega)
    · exact Fin.ext (by show d.val = 0 + 1 * d.val; omega)
  · rcases List.mem_singleton.mp hp with rfl
    intro x
    obtain ⟨q, d, rfl⟩ : ∃ (q : Fin 256) (d : Fin 2048), x = (ix2 q d : S256x2048.Idx) := ⟨x (0 : Fin 2), x (1 : Fin 2), eq_ix2 (n0 := 256) (n1 := 2048) x⟩
    refine (top_apply _ _ _ _ _ _ _ q d).trans ?_
    refine norm_congr (fun l => row_congr (fun k => congrArg x0 ?_) (fun k => congrArg x1 ?_) (fun k => rfl) (fun k => rfl) (congrArg x2 ?_)) (fun l => rfl) (fun l => rfl) ?_
    · exact ix2_val _ _ _ (by show 0 + 1 * q.val = 0 + 1 * q.val; rfl) (by show 0 + 1 * k.val = k.val; omega)
    · exact ix2_val _ _ _ (by show 0 + 1 * q.val = 0 + 1 * q.val; rfl) (by show 0 + 1 * k.val = k.val; omega)
    · exact ix2_val _ _ _ (by show 0 + 1 * q.val = 0 + 1 * q.val; rfl) (by show 0 + 1 * l.val = l.val; omega)
    · exact Fin.ext (by show d.val = 0 + 1 * d.val; omega)

theorem out9_B (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x2048 .f32) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x128 .bf16) (harg8 : arg8.IsWhole) (arg9 : Memref sig .tc .vmem S1x128 .f32) (harg9 : arg9.IsWhole) (arg10 : Memref sig .tc .vmem S512x2048 .f32) (harg10 : arg10.IsWhole) (arg11 : Memref sig .tc .vmem S512x128 .i32) (harg11 : arg11.IsWhole) (arg12 : Memref sig .tc .vmem S512x128 .f32) (harg12 : arg12.IsWhole) (arg13 : Memref sig .tc .vmem S8x128 .f32) (harg13 : arg13.IsWhole) (hc0 : ¬cond0_0 i)
    (x0 : Vec Ideal S512x1024 .bf16) (x1 : Vec Ideal S512x1024 .bf16) (x2 : Vec Ideal S512x2048 .f32) (x3 : Vec Ideal S1024x2048 .bf16) (x4 : Vec Ideal S1024x2048 .bf16) (x5 : Vec Ideal S1x2048 .f32) (x6 : Vec Ideal S1x2048 .f32) (x7 : Vec Ideal S2048x128 .bf16) (x8 : Vec Ideal S1x128 .f32) (xo12 : Vec Ideal S8x128 .f32) :
    out0_B_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo12 = blockH x0 x1 x2 x3 x4 x5 x6 := by
  unfold out0_B_9
  rw [View.read_writes_junk_eq_canon]
  funext y
  refine View.canon_apply_of_pieces (blockH x0 x1 x2 x3 x4 x5 x6) _ ?_ y (cover0_B_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo12 y)
  unfold kernelRun0_B
  dsimp only [kernelRun0_B.sl.r, kernelRun0_B.sl.r_1, kernelRun0_B.sl.r_2, kernelRun0_B.sl.r_3, kernelRun0_B.sl.r_14]
  simp only [View.readAt_eq_ld, harg1.read_unread, harg2.read_unread, harg3.read_unread, harg4.read_unread, harg5.read_unread, harg6.read_unread, harg7.read_unread, View.ld_unit_zero (S := S1024x2048) zz, View.ld_unit_zero (S := S1x2048) zz]
  intro p hp
  rcases List.mem_cons.mp hp with rfl | hp
  · intro x
    obtain ⟨q, d, rfl⟩ : ∃ (q : Fin 256) (d : Fin 2048), x = (ix2 q d : S256x2048.Idx) := ⟨x (0 : Fin 2), x (1 : Fin 2), eq_ix2 (n0 := 256) (n1 := 2048) x⟩
    refine (low_apply _ _ _ _ _ _ _ q d).trans ?_
    refine norm_congr (fun l => row_congr (fun k => congrArg x0 ?_) (fun k => congrArg x1 ?_) (fun k => rfl) (fun k => rfl) (congrArg x2 ?_)) (fun l => rfl) (fun l => rfl) ?_
    · exact ix2_val _ _ _ (by show 256 + 1 * q.val = 256 + 1 * q.val; rfl) (by show 0 + 1 * k.val = k.val; omega)
    · exact ix2_val _ _ _ (by show 256 + 1 * q.val = 256 + 1 * q.val; rfl) (by show 0 + 1 * k.val = k.val; omega)
    · exact ix2_val _ _ _ (by show 256 + 1 * q.val = 256 + 1 * q.val; rfl) (by show 0 + 1 * l.val = l.val; omega)
    · exact Fin.ext (by show d.val = 0 + 1 * d.val; omega)
  · rcases List.mem_singleton.mp hp with rfl
    intro x
    obtain ⟨q, d, rfl⟩ : ∃ (q : Fin 256) (d : Fin 2048), x = (ix2 q d : S256x2048.Idx) := ⟨x (0 : Fin 2), x (1 : Fin 2), eq_ix2 (n0 := 256) (n1 := 2048) x⟩
    refine (top_apply _ _ _ _ _ _ _ q d).trans ?_
    refine norm_congr (fun l => row_congr (fun k => congrArg x0 ?_) (fun k => congrArg x1 ?_) (fun k => rfl) (fun k => rfl) (congrArg x2 ?_)) (fun l => rfl) (fun l => rfl) ?_
    · exact ix2_val _ _ _ (by show 0 + 1 * q.val = 0 + 1 * q.val; rfl) (by show 0 + 1 * k.val = k.val; omega)
    · exact ix2_val _ _ _ (by show 0 + 1 * q.val = 0 + 1 * q.val; rfl) (by show 0 + 1 * k.val = k.val; omega)
    · exact ix2_val _ _ _ (by show 0 + 1 * q.val = 0 + 1 * q.val; rfl) (by show 0 + 1 * l.val = l.val; omega)
    · exact Fin.ext (by show d.val = 0 + 1 * d.val; omega)

end Cert.OutProj

end
-- ==== Proof.OutProjValue.lean ====
/- The output projection's first result at the ideal values: the reference's, block by block. -/
module

public import proofs.«01_k».proof.Proof.OutProjPay
public import proofs.«01_k».proof.Proof.Gen.Reference3Ideal
public import proofs.«01_k».proof.Proof.Gen.Reference3Ideal.Read
public import Idealize.ShloMosaic.Lib.StableHlo.Run
public import Idealize.ShloMosaic.Lib.Pipeline.ValueKit

@[expose] public section

set_option maxRecDepth 16384

noncomputable section

namespace Cert.OutProj

open Cert.Kernel3Ideal Cert.Kernel3Ideal.Gen
open Cert.Reference3Ideal.Read
open Idealize.ShloMosaic Idealize.ShloMosaic.TcCoe Idealize.SL.Sem

variable (m : (ℓ : Loc nD τ sig) → Buf (Elt Ideal) ℓ)

/-- The layer's input as an array of tokens, and the weights without their leading axis, at an index. -/
def xin (x2 : Vec Ideal S4x8192x2048 .f32) (r : Fin 32768) (k : Fin 2048) : EReal :=
  x2 (ix3 (⟨r.val / 8192, by omega⟩ : Fin 4) (⟨r.val % 8192, by omega⟩ : Fin 8192) k)
def wout (x3 : Vec Ideal S1x2048x2048 .f32) (k : Fin 2048) (l : Fin 2048) : EReal := x3 (ix3 (0 : Fin 1) k l)

/-- A token's row before normalising, from the call's arguments. -/
def rowOf (x0 x1 : Vec Ideal S32768x1024 .bf16) (x2 : Vec Ideal S4x8192x2048 .f32) (x3 : Vec Ideal S1x2048x2048 .f32) (r : Fin 32768) : Fin 2048 → EReal :=
  row (fun k => x0 (ix2 r k)) (fun k => x1 (ix2 r k)) (fun k l => wout x3 ⟨k.val, by omega⟩ l) (fun k l => wout x3 ⟨1024 + k.val, by omega⟩ l) (fun l => xin x2 r l)

/-- What the first result is shown to hold. -/
def valH (x0 x1 : Vec Ideal S32768x1024 .bf16) (x2 : Vec Ideal S4x8192x2048 .f32) (x3 : Vec Ideal S1x2048x2048 .f32) (x4 x5 : Vec Ideal S1x2048 .f32) : Vec Ideal S32768x2048 .f32 :=
  fun i => norm (rowOf x0 x1 x2 x3 (i 0)) (fun l => x4 (ix2 (0 : Fin 1) l)) (fun l => x5 (ix2 (0 : Fin 1) l)) (i 1)

theorem V_v0 (c : Dev nD) : V m c main_v0 = (shapeCast S32768x2048 (m ((c : Thread nD τ).loc main_arg2)) shapeCasts_S4x8192x2048_S32768x2048 : FVec Ideal S32768x2048 .f32) := by
  simp only [V, hostOps0, hostOps0_1, hostOps0_2, hostOps0_3, hostOps0_4, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  rfl

theorem V_v3 (c : Dev nD) : V m c main_v3 = (truncf .bf16 (extractStridedSlice S1024x2048 ![0, 0] (shapeCast S2048x2048 (m ((c : Thread nD τ).loc main_arg3)) shapeCasts_S1x2048x2048_S2048x2048 : FVec Ideal S2048x2048 .f32) slices_S2048x2048_S1024x2048_0_0 : FVec Ideal S1024x2048 .f32) bitsLt_bf16_f32 : FVec Ideal S1024x2048 .bf16) := by
  simp only [V, hostOps0, hostOps0_1, hostOps0_2, hostOps0_3, hostOps0_4, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  rfl

theorem V_v6 (c : Dev nD) : V m c main_v6 = (truncf .bf16 (extractStridedSlice S1024x2048 ![1024, 0] (shapeCast S2048x2048 (m ((c : Thread nD τ).loc main_arg3)) shapeCasts_S1x2048x2048_S2048x2048 : FVec Ideal S2048x2048 .f32) slices_S2048x2048_S1024x2048_1024_0 : FVec Ideal S1024x2048 .f32) bitsLt_bf16_f32 : FVec Ideal S1024x2048 .bf16) := by
  simp only [V, hostOps0, hostOps0_1, hostOps0_2, hostOps0_3, hostOps0_4, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  rfl

theorem V_v21 (c : Dev nD) : V m c main_v21 = (shapeCast S1x2048 (shapeCast S2048 (m ((c : Thread nD τ).loc main_arg4)) shapeCasts_S1x2048_S2048 : FVec Ideal S2048 .f32) shapeCasts_S2048_S1x2048 : FVec Ideal S1x2048 .f32) := by
  simp only [V, hostOps0, hostOps0_1, hostOps0_2, hostOps0_3, hostOps0_4, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  rfl

theorem V_v23 (c : Dev nD) : V m c main_v23 = (shapeCast S1x2048 (shapeCast S2048 (m ((c : Thread nD τ).loc main_arg5)) shapeCasts_S1x2048_S2048 : FVec Ideal S2048 .f32) shapeCasts_S2048_S1x2048 : FVec Ideal S1x2048 .f32) := by
  simp only [V, hostOps0, hostOps0_1, hostOps0_2, hostOps0_3, hostOps0_4, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  rfl

theorem V_arg0 (c : Dev nD) : V m c main_arg0 = m ((c : Thread nD τ).loc main_arg0) := by
  simp only [V, hostOps0, hostOps0_1, hostOps0_2, hostOps0_3, hostOps0_4, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp

theorem V_arg1 (c : Dev nD) : V m c main_arg1 = m ((c : Thread nD τ).loc main_arg1) := by
  simp only [V, hostOps0, hostOps0_1, hostOps0_2, hostOps0_3, hostOps0_4, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp

theorem cast_x (x : Vec Ideal S4x8192x2048 .f32) (r : Fin 32768) (k : Fin 2048) :
    (shapeCast S32768x2048 x shapeCasts_S4x8192x2048_S32768x2048 : FVec Ideal S32768x2048 .f32) (ix2 r k) = xin x r k := by
  have h1 := r.isLt
  have h2 := k.isLt
  refine shapeCast_apply x shapeCasts_S4x8192x2048_S32768x2048 (ix2 r k) _ ?_
  simp only [Shape.rowMajor_val_three, Shape.rowMajor_val_two]
  show (r.val / 8192 * 8192 + r.val % 8192) * 2048 + k.val = r.val * 2048 + k.val
  omega

theorem cast_w (x : Vec Ideal S1x2048x2048 .f32) (k : Fin 2048) (l : Fin 2048) :
    (shapeCast S2048x2048 x shapeCasts_S1x2048x2048_S2048x2048 : FVec Ideal S2048x2048 .f32) (ix2 k l) = wout x k l := by
  have h1 := k.isLt
  have h2 := l.isLt
  refine shapeCast_apply x shapeCasts_S1x2048x2048_S2048x2048 (ix2 k l) _ ?_
  simp only [Shape.rowMajor_val_three, Shape.rowMajor_val_two]
  show (0 * 2048 + k.val) * 2048 + l.val = k.val * 2048 + l.val
  omega

theorem cast_wa (x : Vec Ideal S1x2048x2048 .f32) (k : Fin 1024) (l : Fin 2048) :
    (extractStridedSlice S1024x2048 ![0, 0] (shapeCast S2048x2048 x shapeCasts_S1x2048x2048_S2048x2048 : FVec Ideal S2048x2048 .f32) slices_S2048x2048_S1024x2048_0_0 : FVec Ideal S1024x2048 .f32) (ix2 k l)
      = wout x ⟨k.val, by omega⟩ l := by
  refine (extractStridedSlice_apply _ _ _ _ (ix2 (⟨k.val, by omega⟩ : Fin 2048) l) fun a => ?_).trans (cast_w x _ l)
  match a with
  | ⟨0, _⟩ => show k.val = 0 + k.val; omega
  | ⟨1, _⟩ => show l.val = 0 + l.val; omega

theorem cast_ws (x : Vec Ideal S1x2048x2048 .f32) (k : Fin 1024) (l : Fin 2048) :
    (extractStridedSlice S1024x2048 ![1024, 0] (shapeCast S2048x2048 x shapeCasts_S1x2048x2048_S2048x2048 : FVec Ideal S2048x2048 .f32) slices_S2048x2048_S1024x2048_1024_0 : FVec Ideal S1024x2048 .f32) (ix2 k l)
      = wout x ⟨1024 + k.val, by omega⟩ l := by
  refine (extractStridedSlice_apply _ _ _ _ (ix2 (⟨1024 + k.val, by omega⟩ : Fin 2048) l) fun a => ?_).trans (cast_w x _ l)
  match a with
  | ⟨0, _⟩ => rfl
  | ⟨1, _⟩ => show l.val = 0 + l.val; omega

theorem cast_v (x : Vec Ideal S1x2048 .f32) (k : Fin 1) (l : Fin 2048) :
    (shapeCast S1x2048 (shapeCast S2048 x shapeCasts_S1x2048_S2048 : FVec Ideal S2048 .f32) shapeCasts_S2048_S1x2048 : FVec Ideal S1x2048 .f32) (ix2 k l) = x (ix2 (0 : Fin 1) l) := by
  obtain rfl : k = 0 := Subsingleton.elim _ _
  pointwise []

/-! ## The reference -/

theorem ref_mix (x0 x1 : Vec Ideal S32768x1024 .bf16) (x3 : Vec Ideal S1x2048x2048 .f32) (r : Fin 32768) (d : Fin 2048) :
    val_main_v4 (F := Ideal) x0 x1 x3 (ix2 r d) = ∑ k : Fin 1024, x0 (ix2 r k) * wout x3 ⟨k.val, by omega⟩ d + ∑ k : Fin 1024, x1 (ix2 r k) * wout x3 ⟨1024 + k.val, by omega⟩ d := by
  rw [val_main_v4_apply]
  refine (Fin.sum_univ_two_halves 1024 1024 (by decide) _).trans (congrArg₂ (· + ·) ?_ ?_)
  · refine Finset.sum_congr rfl fun k _ => congrArg₂ (· * ·) ?_ ?_
    · exact concatenate_pair_apply_left (t := S32768x2048) 1 (val_main_v0 (F := Ideal) x0) (val_main_v1 (F := Ideal) x1) _ _ rfl (ix2 r k) (fun b => match b with
        | ⟨0, _⟩ => rfl
        | ⟨1, _⟩ => rfl)
    · exact Eq.trans (congrArg (val_main_v3 (F := Ideal) x3) (ix2_val _ _ _ rfl rfl)) (cast_w x3 _ d)
  · refine Finset.sum_congr rfl fun k _ => congrArg₂ (· * ·) ?_ ?_
    · exact concatenate_pair_apply_right (t := S32768x2048) 1 (val_main_v0 (F := Ideal) x0) (val_main_v1 (F := Ideal) x1) _ _ rfl rfl (ix2 r k) (fun b => match b with
        | ⟨0, _⟩ => fun _ => rfl
        | ⟨1, _⟩ => fun h => absurd rfl h) (by show k.val + 1024 = 1024 + k.val; omega)
    · exact Eq.trans (congrArg (val_main_v3 (F := Ideal) x3) (ix2_val _ _ _ rfl rfl)) (cast_w x3 _ d)

theorem ref_row (x0 x1 : Vec Ideal S32768x1024 .bf16) (x2 : Vec Ideal S4x8192x2048 .f32) (x3 : Vec Ideal S1x2048x2048 .f32) (r : Fin 32768) (d : Fin 2048) :
    val_main_v8 (F := Ideal) x0 x1 x2 x3 (ix2 r d) = rowOf x0 x1 x2 x3 r d := by
  rw [val_main_v8_apply, ref_mix, val_main_v7_apply, val_main_v6_apply]
  unfold rowOf row
  exact congrArg₂ (· + ·) (congrArg₂ (· * ·) rfl (cast_x x2 r d)) rfl

theorem zero_const : FloatOps.ofBits (F := Ideal) .f32 0x00000000#32 = (0 : EReal) := by
  pointwise []

theorem ref_mean (x0 x1 : Vec Ideal S32768x1024 .bf16) (x2 : Vec Ideal S4x8192x2048 .f32) (x3 : Vec Ideal S1x2048x2048 .f32) (r : Fin 32768) :
    val_main_v12 (F := Ideal) x0 x1 x2 x3 (ix2 r (0 : Fin 1)) = mean (rowOf x0 x1 x2 x3 r) := by
  rw [val_main_v12_apply, val_main_v10_apply, val_main_v9_apply, val_main_v11_apply, val_main_cst_0_apply, val_main_cst_1_apply, zero_const, zero_add]
  unfold mean
  refine congrArg₂ Ideal.div (Finset.sum_congr rfl fun k _ => ?_) rfl
  exact Eq.trans (congrArg (val_main_v8 (F := Ideal) x0 x1 x2 x3) (ix2_val _ r k rfl rfl)) (ref_row x0 x1 x2 x3 r k)

theorem ref_dev (x0 x1 : Vec Ideal S32768x1024 .bf16) (x2 : Vec Ideal S4x8192x2048 .f32) (x3 : Vec Ideal S1x2048x2048 .f32) (r : Fin 32768) (d : Fin 2048) :
    val_main_v14 (F := Ideal) x0 x1 x2 x3 (ix2 r d) = rowOf x0 x1 x2 x3 r d - mean (rowOf x0 x1 x2 x3 r) := by
  rw [val_main_v14_apply, ref_row, val_main_v13_apply]
  exact congrArg (rowOf x0 x1 x2 x3 r d - ·) (Eq.trans (congrArg (val_main_v12 (F := Ideal) x0 x1 x2 x3) (ix2_val _ r (0 : Fin 1) rfl rfl)) (ref_mean x0 x1 x2 x3 r))

theorem ref_var (x0 x1 : Vec Ideal S32768x1024 .bf16) (x2 : Vec Ideal S4x8192x2048 .f32) (x3 : Vec Ideal S1x2048x2048 .f32) (r : Fin 32768) :
    val_main_v19 (F := Ideal) x0 x1 x2 x3 (ix2 r (0 : Fin 1))
      = mean (fun k => (rowOf x0 x1 x2 x3 r k - mean (rowOf x0 x1 x2 x3 r)) * (rowOf x0 x1 x2 x3 r k - mean (rowOf x0 x1 x2 x3 r))) := by
  rw [val_main_v19_apply, val_main_v17_apply, val_main_v16_apply, val_main_v18_apply, val_main_cst_2_apply, val_main_cst_3_apply, zero_const, zero_add]
  unfold mean
  refine congrArg₂ Ideal.div (Finset.sum_congr rfl fun k _ => ?_) rfl
  refine Eq.trans (congrArg (val_main_v15 (F := Ideal) x0 x1 x2 x3) (ix2_val _ r k rfl rfl)) ?_
  rw [val_main_v15_apply]
  exact congrArg₂ (· * ·) (ref_dev x0 x1 x2 x3 r k) (ref_dev x0 x1 x2 x3 r k)

theorem ref_scale (x4 : Vec Ideal S1x2048 .f32) (r : Fin 32768) (d : Fin 2048) :
    val_main_v29 (F := Ideal) x4 (ix2 r d) = x4 (ix2 (0 : Fin 1) d) := by
  rw [val_main_v29_apply, val_main_v28_apply, val_main_v27_apply]
  refine congrArg x4 (ix2_val _ _ _ rfl ?_)
  have h := d.isLt
  first | rfl | (show d.val % 2048 = d.val; omega)

theorem ref_shift (x5 : Vec Ideal S1x2048 .f32) (r : Fin 32768) (d : Fin 2048) :
    val_main_v33 (F := Ideal) x5 (ix2 r d) = x5 (ix2 (0 : Fin 1) d) := by
  rw [val_main_v33_apply, val_main_v32_apply, val_main_v31_apply]
  refine congrArg x5 (ix2_val _ _ _ rfl ?_)
  have h := d.isLt
  first | rfl | (show d.val % 2048 = d.val; omega)

theorem ref34_eq (x0 x1 : Vec Ideal S32768x1024 .bf16) (x2 : Vec Ideal S4x8192x2048 .f32) (x3 : Vec Ideal S1x2048x2048 .f32) (x4 x5 : Vec Ideal S1x2048 .f32) :
    val_main_v34 (F := Ideal) x0 x1 x2 x3 x4 x5 = valH x0 x1 x2 x3 x4 x5 := by
  funext i
  obtain ⟨r, d, rfl⟩ : ∃ (r : Fin 32768) (d : Fin 2048), i = (ix2 r d : S32768x2048.Idx) := ⟨i (0 : Fin 2), i (1 : Fin 2), eq_ix2 (n0 := 32768) (n1 := 2048) i⟩
  rw [val_main_v34_apply, val_main_v30_apply, val_main_v26_apply, ref_scale, ref_shift]
  refine congrArg₂ (· + ·) (congrArg₂ (· * ·) (congrArg₂ (· * ·) (ref_dev x0 x1 x2 x3 r d) ?_) rfl) rfl
  rw [val_main_v25_apply]
  refine Eq.trans (congrArg (val_main_v24 (F := Ideal) x0 x1 x2 x3) (ix2_val _ r (0 : Fin 1) rfl rfl)) ?_
  rw [val_main_v24_apply, val_main_v23_apply, ref_var, val_main_v22_apply]
  rfl

/-! ## The kernel's blocks -/

theorem tf0 (i : grid0.Coords) (a : Fin 64) (ha : (i 0).val = a.val) : cc0_transform_0 i 0 = a.val ∧ cc0_transform_0 i 1 = 0 := by
  have h := a.isLt
  refine ⟨?_, rfl⟩
  show (BitVec.ofNat 32 (i 0).val).toNat = a.val
  rw [BitVec.toNat_ofNat, ha]
  exact Nat.mod_eq_of_lt (by omega)

theorem tf1 (i : grid0.Coords) (a : Fin 64) (ha : (i 0).val = a.val) : cc0_transform_1 i 0 = a.val ∧ cc0_transform_1 i 1 = 0 := by
  have h := a.isLt
  refine ⟨?_, rfl⟩
  show (BitVec.ofNat 32 (i 0).val).toNat = a.val
  rw [BitVec.toNat_ofNat, ha]
  exact Nat.mod_eq_of_lt (by omega)

theorem tf2 (i : grid0.Coords) (a : Fin 64) (ha : (i 0).val = a.val) : cc0_transform_2 i 0 = a.val ∧ cc0_transform_2 i 1 = 0 := by
  have h := a.isLt
  refine ⟨?_, rfl⟩
  show (BitVec.ofNat 32 (i 0).val).toNat = a.val
  rw [BitVec.toNat_ofNat, ha]
  exact Nat.mod_eq_of_lt (by omega)

theorem tf9 (i : grid0.Coords) (a : Fin 64) (ha : (i 0).val = a.val) : cc0_transform_9 i 0 = a.val ∧ cc0_transform_9 i 1 = 0 := by
  have h := a.isLt
  refine ⟨?_, rfl⟩
  show (BitVec.ofNat 32 (i 0).val).toNat = a.val
  rw [BitVec.toNat_ofNat, ha]
  exact Nat.mod_eq_of_lt (by omega)

theorem iblk0_apply (c : Dev nD) (t : Fin cfg0.N) (a : Fin 64) (ha : (grid0.coords t 0).val = a.val) (q : Fin 512) (k : Fin 1024) :
    (iblk m c 0 t : Vec Ideal S512x1024 .bf16) (ix2 q k) = (m ((c : Thread nD τ).loc main_arg0)) (ix2 (⟨a.val * 512 + q.val, by omega⟩ : Fin 32768) k) := by
  obtain ⟨h0, h1⟩ := tf0 (grid0.coords t) a ha
  unfold iblk
  refine (View.read_apply _ _).trans ((cast_eq _ _).trans ?_)
  refine (congrFun (V_arg0 m c) _).trans ?_
  have hr := Pipeline.Window.rect_emb_val (cfg0.win 0) t (ix2 q k : S512x1024.Idx)
  have hi : ((cfg0.win 0).rect t).emb (ix2 q k : S512x1024.Idx) = (ix2 (⟨a.val * 512 + q.val, by omega⟩ : Fin 32768) k : S32768x1024.Idx) := by
    refine ix2_val _ _ k ((hr (0 : Fin 2)).trans ?_) ((hr (1 : Fin 2)).trans ?_)
    · show cc0_transform_0 (grid0.coords t) 0 * 512 + q.val = a.val * 512 + q.val
      rw [h0]
    · show cc0_transform_0 (grid0.coords t) 1 * 1024 + k.val = k.val
      rw [h1, Nat.zero_mul, Nat.zero_add]
  refine Eq.trans (congrArg _ hi) ?_
  exact rfl

theorem iblk1_apply (c : Dev nD) (t : Fin cfg0.N) (a : Fin 64) (ha : (grid0.coords t 0).val = a.val) (q : Fin 512) (k : Fin 1024) :
    (iblk m c 1 t : Vec Ideal S512x1024 .bf16) (ix2 q k) = (m ((c : Thread nD τ).loc main_arg1)) (ix2 (⟨a.val * 512 + q.val, by omega⟩ : Fin 32768) k) := by
  obtain ⟨h0, h1⟩ := tf1 (grid0.coords t) a ha
  unfold iblk
  refine (View.read_apply _ _).trans ((cast_eq _ _).trans ?_)
  refine (congrFun (V_arg1 m c) _).trans ?_
  have hr := Pipeline.Window.rect_emb_val (cfg0.win 1) t (ix2 q k : S512x1024.Idx)
  have hi : ((cfg0.win 1).rect t).emb (ix2 q k : S512x1024.Idx) = (ix2 (⟨a.val * 512 + q.val, by omega⟩ : Fin 32768) k : S32768x1024.Idx) := by
    refine ix2_val _ _ k ((hr (0 : Fin 2)).trans ?_) ((hr (1 : Fin 2)).trans ?_)
    · show cc0_transform_1 (grid0.coords t) 0 * 512 + q.val = a.val * 512 + q.val
      rw [h0]
    · show cc0_transform_1 (grid0.coords t) 1 * 1024 + k.val = k.val
      rw [h1, Nat.zero_mul, Nat.zero_add]
  refine Eq.trans (congrArg _ hi) ?_
  exact rfl

theorem iblk2_apply (c : Dev nD) (t : Fin cfg0.N) (a : Fin 64) (ha : (grid0.coords t 0).val = a.val) (q : Fin 512) (k : Fin 2048) :
    (iblk m c 2 t : Vec Ideal S512x2048 .f32) (ix2 q k) = xin (m ((c : Thread nD τ).loc main_arg2)) (⟨a.val * 512 + q.val, by omega⟩ : Fin 32768) k := by
  obtain ⟨h0, h1⟩ := tf2 (grid0.coords t) a ha
  unfold iblk
  refine (View.read_apply _ _).trans ((cast_eq _ _).trans ?_)
  refine (congrFun (V_v0 m c) _).trans ?_
  have hr := Pipeline.Window.rect_emb_val (cfg0.win 2) t (ix2 q k : S512x2048.Idx)
  have hi : ((cfg0.win 2).rect t).emb (ix2 q k : S512x2048.Idx) = (ix2 (⟨a.val * 512 + q.val, by omega⟩ : Fin 32768) k : S32768x2048.Idx) := by
    refine ix2_val _ _ k ((hr (0 : Fin 2)).trans ?_) ((hr (1 : Fin 2)).trans ?_)
    · show cc0_transform_2 (grid0.coords t) 0 * 512 + q.val = a.val * 512 + q.val
      rw [h0]
    · show cc0_transform_2 (grid0.coords t) 1 * 2048 + k.val = k.val
      rw [h1, Nat.zero_mul, Nat.zero_add]
  refine Eq.trans (congrArg _ hi) ?_
  exact cast_x _ _ k

theorem iblk3_apply (c : Dev nD) (t : Fin cfg0.N) (k : Fin 1024) (l : Fin 2048) :
    (iblk m c 3 t : Vec Ideal S1024x2048 .bf16) (ix2 k l) = wout (m ((c : Thread nD τ).loc main_arg3)) ⟨k.val, by omega⟩ l := by
  unfold iblk
  refine (View.read_apply _ _).trans ((cast_eq _ _).trans ?_)
  refine (congrFun (V_v3 m c) _).trans ?_
  have hr := Pipeline.Window.rect_emb_val (cfg0.win 3) t (ix2 k l : S1024x2048.Idx)
  have hi : ((cfg0.win 3).rect t).emb (ix2 k l : S1024x2048.Idx) = (ix2 k l : S1024x2048.Idx) := by
    refine ix2_val _ k l ((hr (0 : Fin 2)).trans ?_) ((hr (1 : Fin 2)).trans ?_)
    · show 0 * 1024 + k.val = k.val
      rw [Nat.zero_mul, Nat.zero_add]
    · show 0 * 2048 + l.val = l.val
      rw [Nat.zero_mul, Nat.zero_add]
  refine Eq.trans (congrArg _ hi) ?_
  exact cast_wa _ k l

theorem iblk4_apply (c : Dev nD) (t : Fin cfg0.N) (k : Fin 1024) (l : Fin 2048) :
    (iblk m c 4 t : Vec Ideal S1024x2048 .bf16) (ix2 k l) = wout (m ((c : Thread nD τ).loc main_arg3)) ⟨1024 + k.val, by omega⟩ l := by
  unfold iblk
  refine (View.read_apply _ _).trans ((cast_eq _ _).trans ?_)
  refine (congrFun (V_v6 m c) _).trans ?_
  have hr := Pipeline.Window.rect_emb_val (cfg0.win 4) t (ix2 k l : S1024x2048.Idx)
  have hi : ((cfg0.win 4).rect t).emb (ix2 k l : S1024x2048.Idx) = (ix2 k l : S1024x2048.Idx) := by
    refine ix2_val _ k l ((hr (0 : Fin 2)).trans ?_) ((hr (1 : Fin 2)).trans ?_)
    · show 0 * 1024 + k.val = k.val
      rw [Nat.zero_mul, Nat.zero_add]
    · show 0 * 2048 + l.val = l.val
      rw [Nat.zero_mul, Nat.zero_add]
  refine Eq.trans (congrArg _ hi) ?_
  exact cast_ws _ k l

theorem iblk5_apply (c : Dev nD) (t : Fin cfg0.N) (k : Fin 1) (l : Fin 2048) :
    (iblk m c 5 t : Vec Ideal S1x2048 .f32) (ix2 k l) = (m ((c : Thread nD τ).loc main_arg4)) (ix2 (0 : Fin 1) l) := by
  unfold iblk
  refine (View.read_apply _ _).trans ((cast_eq _ _).trans ?_)
  refine (congrFun (V_v21 m c) _).trans ?_
  have hr := Pipeline.Window.rect_emb_val (cfg0.win 5) t (ix2 k l : S1x2048.Idx)
  have hi : ((cfg0.win 5).rect t).emb (ix2 k l : S1x2048.Idx) = (ix2 k l : S1x2048.Idx) := by
    refine ix2_val _ k l ((hr (0 : Fin 2)).trans ?_) ((hr (1 : Fin 2)).trans ?_)
    · show 0 * 1 + k.val = k.val
      rw [Nat.zero_mul, Nat.zero_add]
    · show 0 * 2048 + l.val = l.val
      rw [Nat.zero_mul, Nat.zero_add]
  refine Eq.trans (congrArg _ hi) ?_
  exact cast_v _ k l

theorem iblk6_apply (c : Dev nD) (t : Fin cfg0.N) (k : Fin 1) (l : Fin 2048) :
    (iblk m c 6 t : Vec Ideal S1x2048 .f32) (ix2 k l) = (m ((c : Thread nD τ).loc main_arg5)) (ix2 (0 : Fin 1) l) := by
  unfold iblk
  refine (View.read_apply _ _).trans ((cast_eq _ _).trans ?_)
  refine (congrFun (V_v23 m c) _).trans ?_
  have hr := Pipeline.Window.rect_emb_val (cfg0.win 6) t (ix2 k l : S1x2048.Idx)
  have hi : ((cfg0.win 6).rect t).emb (ix2 k l : S1x2048.Idx) = (ix2 k l : S1x2048.Idx) := by
    refine ix2_val _ k l ((hr (0 : Fin 2)).trans ?_) ((hr (1 : Fin 2)).trans ?_)
    · show 0 * 1 + k.val = k.val
      rw [Nat.zero_mul, Nat.zero_add]
    · show 0 * 2048 + l.val = l.val
      rw [Nat.zero_mul, Nat.zero_add]
  refine Eq.trans (congrArg _ hi) ?_
  exact cast_v _ k l

theorem blockH_of (x0 x1 : Vec Ideal S512x1024 .bf16) (x2 : Vec Ideal S512x2048 .f32) (x3 x4 : Vec Ideal S1024x2048 .bf16) (x5 x6 : Vec Ideal S1x2048 .f32) (q : Fin 512) (d : Fin 2048)
    (a s : Fin 1024 → EReal) (wa ws : Fin 1024 → Fin 2048 → EReal) (x g b : Fin 2048 → EReal)
    (h0 : ∀ k, x0 (ix2 q k) = a k) (h1 : ∀ k, x1 (ix2 q k) = s k) (h2 : ∀ l, x2 (ix2 q l) = x l) (h3 : ∀ k l, x3 (ix2 k l) = wa k l) (h4 : ∀ k l, x4 (ix2 k l) = ws k l)
    (h5 : ∀ l, x5 (ix2 (0 : Fin 1) l) = g l) (h6 : ∀ l, x6 (ix2 (0 : Fin 1) l) = b l) :
    blockH x0 x1 x2 x3 x4 x5 x6 (ix2 q d) = norm (row a s wa ws x) g b d :=
  norm_congr (fun l => row_congr h0 h1 (fun k => h3 k l) (fun k => h4 k l) (h2 l)) h5 h6 rfl

theorem rect9 (t : Fin cfg0.N) (a : Fin 64) (ha : (grid0.coords t 0).val = a.val) (q : Fin 512) (d : Fin 2048) :
    (((cfg0.win 9).rect t).emb (ix2 q d : S512x2048.Idx) : S32768x2048.Idx) = ix2 (⟨a.val * 512 + q.val, by omega⟩ : Fin 32768) d := by
  obtain ⟨h0, h1⟩ := tf9 (grid0.coords t) a ha
  have hr := Pipeline.Window.rect_emb_val (cfg0.win 9) t (ix2 q d : S512x2048.Idx)
  refine ix2_val _ _ d ((hr (0 : Fin 2)).trans ?_) ((hr (1 : Fin 2)).trans ?_)
  · show cc0_transform_9 (grid0.coords t) 0 * 512 + q.val = a.val * 512 + q.val
    rw [h0]
  · show cc0_transform_9 (grid0.coords t) 1 * 2048 + d.val = d.val
    rw [h1, Nat.zero_mul, Nat.zero_add]

theorem block_at (c : Dev nD) (t : Fin cfg0.N) (a : Fin 64) (ha : (grid0.coords t 0).val = a.val) (q : Fin 512) (d : Fin 2048) :
    blockH (iblk m c 0 t) (iblk m c 1 t) (iblk m c 2 t) (iblk m c 3 t) (iblk m c 4 t) (iblk m c 5 t) (iblk m c 6 t) (ix2 q d)
      = valH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (⟨a.val * 512 + q.val, by omega⟩ : Fin 32768) d) :=
  blockH_of (iblk m c 0 t) (iblk m c 1 t) (iblk m c 2 t) (iblk m c 3 t) (iblk m c 4 t) (iblk m c 5 t) (iblk m c 6 t) q d
    (fun k => (m ((c : Thread nD τ).loc main_arg0)) (ix2 (⟨a.val * 512 + q.val, by omega⟩ : Fin 32768) k)) (fun k => (m ((c : Thread nD τ).loc main_arg1)) (ix2 (⟨a.val * 512 + q.val, by omega⟩ : Fin 32768) k))
    (fun k l => wout (m ((c : Thread nD τ).loc main_arg3)) ⟨k.val, by omega⟩ l) (fun k l => wout (m ((c : Thread nD τ).loc main_arg3)) ⟨1024 + k.val, by omega⟩ l)
    (fun l => xin (m ((c : Thread nD τ).loc main_arg2)) (⟨a.val * 512 + q.val, by omega⟩ : Fin 32768) l) (fun l => (m ((c : Thread nD τ).loc main_arg4)) (ix2 (0 : Fin 1) l)) (fun l => (m ((c : Thread nD τ).loc main_arg5)) (ix2 (0 : Fin 1) l))
    (iblk0_apply m c t a ha q) (iblk1_apply m c t a ha q) (iblk2_apply m c t a ha q) (iblk3_apply m c t) (iblk4_apply m c t) (iblk5_apply m c t (0 : Fin 1)) (iblk6_apply m c t (0 : Fin 1))

theorem block_eq (c : Dev nD) (t : Fin cfg0.N) :
    (cfg0.win 9).cut (grid0.coords t) (blockH (iblk m c 0 t) (iblk m c 1 t) (iblk m c 2 t) (iblk m c 3 t) (iblk m c 4 t) (iblk m c 5 t) (iblk m c 6 t))
      = ((cfg0.win 9).blk t).view.read (Elt Ideal) (valH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  have ha := (grid0.coords t 0).isLt
  generalize hX : blockH (iblk m c 0 t) (iblk m c 1 t) (iblk m c 2 t) (iblk m c 3 t) (iblk m c 4 t) (iblk m c 5 t) (iblk m c 6 t) = X
  generalize hY : valH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = Y
  funext j
  obtain ⟨q, d, rfl⟩ : ∃ (q : Fin 512) (d : Fin 2048), j = (ix2 q d : S512x2048.Idx) := ⟨j (0 : Fin 2), j (1 : Fin 2), eq_ix2 (n0 := 512) (n1 := 2048) j⟩
  refine Eq.trans (b := X (ix2 q d)) rfl ?_
  refine Eq.trans ?_ ((View.read_apply _ _).trans (cast_eq _ _)).symm
  refine Eq.trans ?_ (congrArg Y (rect9 t ⟨(grid0.coords t 0).val, ha⟩ rfl q d).symm)
  rw [← hX, ← hY]
  exact block_at m c t ⟨(grid0.coords t 0).val, ha⟩ rfl q d

theorem flushed9_eq (c : Dev nD) (t : Fin cfg0.N) :
    (dats m 0 c).flushed 9 t = ((cfg0.win 9).blk t).view.read (Elt Ideal) (valH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  by_cases h : t.val % 64 = 0
  · refine (Cert.Kernel3Ideal.Value.flushed9_A m c t h).trans ?_
    rw [out9_A]
    exact block_eq m c t
  · refine (Cert.Kernel3Ideal.Value.flushed9_B m c t h).trans ?_
    rw [out9_B]
    exact block_eq m c t

theorem point_of_row (n : Nat) (hn : n < 32768) : ∃ t : Fin cfg0.N, (grid0.coords t 0).val = n / 512 := by
  have hN : grid0.N = 64 := N_0
  refine ⟨⟨n / 512, by show _ < grid0.N; omega⟩, ?_⟩
  rw [Pipeline.Grid.coords_val (G := grid0) _ 0 (S := 1) (B := 64) (by decide) (by decide)]
  show n / 512 / 1 % 64 = n / 512
  omega

theorem cover9 (i : S32768x2048.Idx) : ∃ t : Fin cfg0.N, (cfg0.win 9).flush t = true ∧ i ∈ ((cfg0.win 9).blk t).view.set := by
  have hi : (i 0).val < 32768 := (i 0).isLt
  obtain ⟨t, hc⟩ := point_of_row (i 0).val hi
  refine ⟨t, flush0_9 t, ?_⟩
  obtain ⟨h0, h1⟩ := tf9 (grid0.coords t) ⟨(i 0).val / 512, by omega⟩ hc
  show i ∈ ((View.whole main_v24_0).slice ((cfg0.win 9).rect t)).set
  erw [View.set_slice_whole]
  refine (Pipeline.Window.mem_rect_iff (cfg0.win 9) t i (by rfl)).mpr fun b => ?_
  have hb : b = (0 : Fin 2) ∨ b = (1 : Fin 2) := by
    match b with
    | ⟨0, _⟩ => exact .inl rfl
    | ⟨1, _⟩ => exact .inr rfl
  rcases hb with rfl | rfl
  · show cc0_transform_9 (grid0.coords t) 0 * 512 ≤ (i 0).val ∧ (i 0).val < cc0_transform_9 (grid0.coords t) 0 * 512 + 512
    rw [h0]
    show (i 0).val / 512 * 512 ≤ (i 0).val ∧ (i 0).val < (i 0).val / 512 * 512 + 512
    omega
  · show cc0_transform_9 (grid0.coords t) 1 * 2048 ≤ (i 1).val ∧ (i 1).val < cc0_transform_9 (grid0.coords t) 1 * 2048 + 2048
    have : (i 1).val < 2048 := (i 1).isLt
    rw [h1]
    omega

theorem final9 (c : Dev nD) : (dats m 0 c).arrAt 9 cfg0.N = valH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dats m 0 c).arrAt_eq_of_cover 9 _ (fun t _ => flushed9_eq m c t) cover9

end Cert.OutProj

end
-- ==== Proof.RouteMath.lean ====
/- The router's choice on one row of logits: what the kernel's masked maxima and least lanes come to. -/
module

public import Idealize.ShloMosaic.Lib.Pointwise
public import Idealize.ShloMosaic.Lib.SortPrefix

@[expose] public section

noncomputable section

namespace Cert.Route

open Idealize.ShloMosaic

/-- A lane's number as a value. -/
def lane {n : Nat} (k : Fin n) : EReal := ((k.val : ℝ) : EReal)

/-- The greatest value over the lanes, and the least lane that holds it. -/
def top (f : Fin 128 → EReal) : EReal := Finset.univ.fold max ⊥ f
def arg (f : Fin 128 → EReal) : EReal := Finset.univ.fold min ⊤ (fun k => if f k = top f then lane k else ((128 : ℝ) : EReal))

/-- The first position of the greatest value. -/
def First {n : Nat} (f : Fin n → EReal) (p : Fin n) : Prop := (∀ k, f k ≤ f p) ∧ ∀ k, k < p → f k < f p

theorem exists_first {n : Nat} (f : Fin (n + 1) → EReal) : ∃ p, First f p := by
  obtain ⟨q, -, hq⟩ := Finset.exists_max_image Finset.univ f Finset.univ_nonempty
  have hq' : ∀ k, f k ≤ f q := fun k => hq k (Finset.mem_univ k)
  have hne : (Finset.univ.filter fun k => f k = f q).Nonempty := ⟨q, by simp⟩
  have hm := Finset.min'_mem _ hne
  have hpe : f ((Finset.univ.filter fun k => f k = f q).min' hne) = f q := by simpa using hm
  refine ⟨(Finset.univ.filter fun k => f k = f q).min' hne, fun k => ?_, fun k hk => ?_⟩
  · rw [hpe]; exact hq' k
  · rw [hpe]
    refine lt_of_le_of_ne (hq' k) fun e => ?_
    exact absurd (Finset.min'_le _ k (by simp [e])) (not_le.mpr hk)

theorem First.top {f : Fin 128 → EReal} {p : Fin 128} (h : First f p) : top f = f p := by
  unfold Route.top
  refine le_antisymm ((Finset.fold_max_le _).mpr ⟨bot_le, fun k _ => h.1 k⟩) ((Finset.le_fold_max _).mpr (.inr ⟨p, Finset.mem_univ _, le_refl _⟩))

theorem First.arg {f : Fin 128 → EReal} {p : Fin 128} (h : First f p) : arg f = lane p := by
  unfold Route.arg
  rw [h.top]
  refine le_antisymm ((Finset.fold_min_le _).mpr (.inr ⟨p, Finset.mem_univ _, by rw [if_pos rfl]⟩)) ((Finset.le_fold_min _).mpr ⟨le_top, fun k _ => ?_⟩)
  split
  · rename_i e
    have : p ≤ k := by
      by_contra hlt
      exact absurd e (ne_of_lt (h.2 k (not_le.mp hlt)))
    exact EReal.coe_le_coe_iff.mpr (Nat.cast_le.mpr this)
  · have := p.isLt
    refine EReal.coe_le_coe_iff.mpr ?_
    exact_mod_cast this.le

def mask1 (L : Fin 128 → EReal) (k : Fin 128) : EReal := if k.val < 4 then L k else ⊥
def lo (L : Fin 128 → EReal) : EReal := ((4 : ℝ) : EReal) + ((8 : ℝ) : EReal) * arg (mask1 L)
def mask2 (L : Fin 128 → EReal) (k : Fin 128) : EReal := if lo L ≤ lane k ∧ lane k < lo L + ((8 : ℝ) : EReal) then L k else ⊥
def mask3 (L : Fin 128 → EReal) (k : Fin 128) : EReal := if lane k = arg (mask2 L) then ⊥ else mask2 L k
def share (L : Fin 128 → EReal) : EReal := Ideal.div 1 (∑ k, Ideal.exp (mask1 L k - top (mask1 L)))
def gap (L : Fin 128 → EReal) : EReal := Ideal.exp (top (mask3 L) - top (mask2 L))

/-- The logits of the groups and of each group's experts, as the lanes hold them. -/
def gl (g : Fin 4 → ℝ) (k : Fin 4) : EReal := (g k : EReal)
def xl (e : Fin 8 → ℝ) (k : Fin 8) : EReal := (e k : EReal)
def xl2 (e : Fin 8 → ℝ) (b : Fin 8) (k : Fin 8) : EReal := if k = b then ⊥ else (e k : EReal)

theorem xl2_ne {e : Fin 8 → ℝ} {b c : Fin 8} (h : First (xl2 e b) c) : c ≠ b := by
  rintro rfl
  have h1 := h.1 (if c = 0 then 1 else 0)
  have hne : (if c = 0 then (1 : Fin 8) else 0) ≠ c := by
    split
    · rename_i e; rw [e]; decide
    · rename_i e; exact fun h => e h.symm
  unfold xl2 at h1
  rw [if_neg hne, if_pos rfl] at h1
  exact absurd (le_bot_iff.mp h1) (EReal.coe_ne_bot _)

variable {L : Fin 128 → EReal} {g : Fin 4 → ℝ} {e : Fin 4 → Fin 8 → ℝ} {a : Fin 4} {b c : Fin 8}

theorem first1 (hg : ∀ k : Fin 4, L ⟨k.val, by omega⟩ = g k) (ha : First (gl g) a) : First (mask1 L) ⟨a.val, by omega⟩ := by
  have hp : mask1 L ⟨a.val, by omega⟩ = g a := by unfold mask1; rw [if_pos a.isLt, hg]
  have hl := a.isLt
  refine ⟨fun k => ?_, fun k hk => ?_⟩
  · rw [hp]
    unfold mask1
    split
    · rename_i h; exact (hg ⟨k.val, h⟩).le.trans (ha.1 ⟨k.val, h⟩)
    · exact bot_le
  · rw [hp]
    have hk' : k.val < a.val := hk
    unfold mask1
    rw [if_pos (by omega)]
    exact (hg ⟨k.val, by omega⟩).trans_lt (ha.2 ⟨k.val, by omega⟩ hk')

theorem lo_eq (hg : ∀ k : Fin 4, L ⟨k.val, by omega⟩ = g k) (ha : First (gl g) a) : lo L = ((4 + 8 * (a.val : ℝ) : ℝ) : EReal) := by
  unfold lo
  rw [(first1 hg ha).arg]
  unfold lane
  push_cast
  rfl

theorem mask2_eq (hg : ∀ k : Fin 4, L ⟨k.val, by omega⟩ = g k) (ha : First (gl g) a) (k : Fin 128) :
    mask2 L k = if 4 + 8 * a.val ≤ k.val ∧ k.val < 4 + 8 * a.val + 8 then L k else ⊥ := by
  unfold mask2
  rw [lo_eq hg ha]
  unfold lane
  refine if_congr ?_ rfl rfl
  rw [← EReal.coe_add, EReal.coe_le_coe_iff, EReal.coe_lt_coe_iff]
  refine and_congr ?_ ?_
  · constructor
    · intro h; exact_mod_cast h
    · intro h; exact_mod_cast h
  · constructor
    · intro h; exact_mod_cast h
    · intro h; exact_mod_cast h

theorem first2 (hg : ∀ k : Fin 4, L ⟨k.val, by omega⟩ = g k) (he : ∀ (p : Fin 4) (k : Fin 8), L ⟨4 + 8 * p.val + k.val, by omega⟩ = e p k)
    (ha : First (gl g) a) (hb : First (xl (e a)) b) : First (mask2 L) ⟨4 + 8 * a.val + b.val, by omega⟩ := by
  have hl := a.isLt
  have hl' := b.isLt
  have hp : mask2 L ⟨4 + 8 * a.val + b.val, by omega⟩ = e a b := by rw [mask2_eq hg ha, if_pos ⟨by simp, by simp⟩, he]
  have hin : ∀ (k : Fin 128) (h : 4 + 8 * a.val ≤ k.val ∧ k.val < 4 + 8 * a.val + 8), L k = e a ⟨k.val - (4 + 8 * a.val), by omega⟩ := fun k h => by
    rw [← he]; congr 1; refine Fin.ext ?_; show k.val = 4 + 8 * a.val + (k.val - (4 + 8 * a.val)); omega
  refine ⟨fun k => ?_, fun k hk => ?_⟩
  · rw [hp, mask2_eq hg ha]
    split
    · rename_i h; rw [hin k h]; exact hb.1 _
    · exact bot_le
  · rw [hp, mask2_eq hg ha]
    have hk' : k.val < 4 + 8 * a.val + b.val := hk
    split
    · rename_i h; rw [hin k h]; exact hb.2 _ (by show k.val - (4 + 8 * a.val) < b.val; omega)
    · exact EReal.bot_lt_coe _

theorem mask3_eq (hg : ∀ k : Fin 4, L ⟨k.val, by omega⟩ = g k) (he : ∀ (p : Fin 4) (k : Fin 8), L ⟨4 + 8 * p.val + k.val, by omega⟩ = e p k)
    (ha : First (gl g) a) (hb : First (xl (e a)) b) (k : Fin 128) :
    mask3 L k = if k.val = 4 + 8 * a.val + b.val then ⊥ else mask2 L k := by
  unfold mask3
  rw [(first2 hg he ha hb).arg]
  unfold lane
  refine if_congr ?_ rfl rfl
  rw [EReal.coe_eq_coe_iff]
  exact Nat.cast_inj

theorem first3 (hg : ∀ k : Fin 4, L ⟨k.val, by omega⟩ = g k) (he : ∀ (p : Fin 4) (k : Fin 8), L ⟨4 + 8 * p.val + k.val, by omega⟩ = e p k)
    (ha : First (gl g) a) (hb : First (xl (e a)) b) (hc : First (xl2 (e a) b) c) : First (mask3 L) ⟨4 + 8 * a.val + c.val, by omega⟩ := by
  have hl := a.isLt
  have hl' := b.isLt
  have hl'' := c.isLt
  have hne := xl2_ne hc
  have hne' : c.val ≠ b.val := fun h => hne (Fin.ext h)
  have hcv : xl2 (e a) b c = e a c := by unfold xl2; rw [if_neg hne]
  have hp : mask3 L ⟨4 + 8 * a.val + c.val, by omega⟩ = e a c := by
    rw [mask3_eq hg he ha hb, if_neg (by simp; omega), mask2_eq hg ha, if_pos ⟨by simp, by simp⟩, he]
  have hin : ∀ (k : Fin 128) (h : 4 + 8 * a.val ≤ k.val ∧ k.val < 4 + 8 * a.val + 8) (h' : k.val ≠ 4 + 8 * a.val + b.val),
      L k = xl2 (e a) b ⟨k.val - (4 + 8 * a.val), by omega⟩ := fun k h h' => by
    unfold xl2
    rw [if_neg (fun hh => h' (by have := congrArg Fin.val hh; simp at this; omega)), ← he]; congr 1; refine Fin.ext ?_; show k.val = 4 + 8 * a.val + (k.val - (4 + 8 * a.val)); omega
  refine ⟨fun k => ?_, fun k hk => ?_⟩
  · rw [hp, mask3_eq hg he ha hb]
    split
    · exact bot_le
    rename_i h'
    rw [mask2_eq hg ha]
    split
    · rename_i h; rw [hin k h h', ← hcv]; exact hc.1 _
    · exact bot_le
  · rw [hp, mask3_eq hg he ha hb]
    have hk' : k.val < 4 + 8 * a.val + c.val := hk
    split
    · exact EReal.bot_lt_coe _
    rename_i h'
    rw [mask2_eq hg ha]
    split
    · rename_i h; rw [hin k h h', ← hcv]; exact hc.2 _ (by show k.val - (4 + 8 * a.val) < c.val; omega)
    · exact EReal.bot_lt_coe _

/-- The three lanes chosen. -/
theorem arg2_eq (hg : ∀ k : Fin 4, L ⟨k.val, by omega⟩ = g k) (he : ∀ (p : Fin 4) (k : Fin 8), L ⟨4 + 8 * p.val + k.val, by omega⟩ = e p k)
    (ha : First (gl g) a) (hb : First (xl (e a)) b) : arg (mask2 L) = (((4 + 8 * a.val + b.val : ℕ) : ℝ) : EReal) := (first2 hg he ha hb).arg

theorem arg3_eq (hg : ∀ k : Fin 4, L ⟨k.val, by omega⟩ = g k) (he : ∀ (p : Fin 4) (k : Fin 8), L ⟨4 + 8 * p.val + k.val, by omega⟩ = e p k)
    (ha : First (gl g) a) (hb : First (xl (e a)) b) (hc : First (xl2 (e a) b) c) : arg (mask3 L) = (((4 + 8 * a.val + c.val : ℕ) : ℝ) : EReal) := (first3 hg he ha hb hc).arg

theorem gap_eq (hg : ∀ k : Fin 4, L ⟨k.val, by omega⟩ = g k) (he : ∀ (p : Fin 4) (k : Fin 8), L ⟨4 + 8 * p.val + k.val, by omega⟩ = e p k)
    (ha : First (gl g) a) (hb : First (xl (e a)) b) (hc : First (xl2 (e a) b) c) : gap L = ((Real.exp (e a c - e a b) : ℝ) : EReal) := by
  have hl := a.isLt
  have hne := xl2_ne hc
  have hne' : c.val ≠ b.val := fun h => hne (Fin.ext h)
  unfold gap
  rw [(first2 hg he ha hb).top, (first3 hg he ha hb hc).top, mask3_eq hg he ha hb, if_neg (by simp; omega), mask2_eq hg ha, if_pos ⟨by simp, by simp⟩, mask2_eq hg ha, if_pos ⟨by simp, by simp⟩, he, he]
  rfl

theorem share_eq (hg : ∀ k : Fin 4, L ⟨k.val, by omega⟩ = g k) (ha : First (gl g) a) :
    share L = (((∑ k : Fin 4, Real.exp (g k - g a))⁻¹ : ℝ) : EReal) := by
  unfold share
  have ht : top (mask1 L) = g a := by
    rw [(first1 hg ha).top]; unfold mask1; rw [if_pos a.isLt, hg]
  have hs : (∑ k : Fin 128, Ideal.exp (mask1 L k - top (mask1 L))) = ((∑ k : Fin 4, Real.exp (g k - g a) : ℝ) : EReal) := by
    rw [ht]
    refine (Fin.sum_univ_add (a := 4) (b := 124) (fun k => Ideal.exp (mask1 L k - (g a : EReal)))).trans ?_
    have h2 : ∀ k : Fin 124, Ideal.exp (mask1 L (Fin.natAdd 4 k) - (g a : EReal)) = 0 := fun k => by
      unfold mask1
      rw [if_neg (by simp)]
      rfl
    have h1 : ∀ k : Fin 4, Ideal.exp (mask1 L (Fin.castAdd 124 k) - (g a : EReal)) = ((Real.exp (g k - g a) : ℝ) : EReal) := fun k => by
      unfold mask1
      rw [if_pos (by simp), show L (Fin.castAdd 124 k) = g k from hg k]
      rfl
    rw [Finset.sum_congr rfl fun k _ => h1 k, Finset.sum_congr rfl fun k _ => h2 k, Finset.sum_const_zero, add_zero]
    simp only [Fin.sum_univ_four]
    push_cast
    rfl
  rw [hs]
  have hpos : 0 < ∑ k : Fin 4, Real.exp (g k - g a) := Finset.sum_pos (fun k _ => Real.exp_pos _) Finset.univ_nonempty
  rw [Ideal.div_coe (ne_of_gt hpos) 1, one_mul, one_div]

/-! ## A stable choice of the greatest -/

theorem insertBefore_congr_lt {n : Nat} (R R' : Fin n → Fin n → Bool) (h : ∀ x y, x < y → R y x = R' y x) (l : List (Fin n)) (hl : l.Pairwise (· < ·)) :
    stableSort R l = stableSort R' l := by
  induction l with
  | nil => rfl
  | cons x l ih =>
    rw [List.pairwise_cons] at hl
    unfold stableSort
    rw [ih hl.2]
    exact insertBefore_congr R R' x _ fun y hy => h x y (hl.1 y ((perm_stableSort R' l).mem_iff.mp hy))

/-- The order of the values, greater first, then the position. -/
def before {n : Nat} (x : Fin n → EReal) (k k' : Fin n) : Bool := decide (x k' < x k) || (decide (x k = x k') && decide (k < k'))

theorem before_total {n : Nat} (x : Fin n → EReal) : StrictTotalBefore (before x) :=
  StrictTotalBefore.of_key_then_position (fun p q : EReal => decide (q < p)) x (fun p => by simp) (fun p q r h h' => by simp at *; exact h'.trans h)
    (fun p q => by simp; rcases lt_trichotomy p q with h | h | h <;> simp [h])

theorem sortedFrom_gt {n : Nat} (x : Fin n → EReal) (R : Fin n → Fin n → Bool) (hR : ∀ k k', R k k' = decide (x k' < x k)) : sortedFrom R = sortedFrom (before x) := by
  have hs : sortPositions n R = sortPositions n (before x) :=
    insertBefore_congr_lt R (before x) (fun p q h => by rw [hR]; unfold before; rw [show decide (q < p) = false from by simp; exact h.le]; simp) _ (List.pairwise_lt_finRange n)
  funext k
  unfold sortedFrom
  rw [List.get_of_eq hs]
  rfl

theorem before_first {n : Nat} {x : Fin n → EReal} {p : Fin n} (h : First x p) (q : Fin n) (hq : q ≠ p) : before x q p = false := by
  unfold before
  have h1 := h.1 q
  simp only [Bool.or_eq_false_iff, Bool.and_eq_false_iff, decide_eq_false_iff_not, not_lt]
  refine ⟨h1, ?_⟩
  by_cases hlt : q < p
  · exact .inl (ne_of_lt (h.2 q hlt))
  · exact .inr (not_lt.mp hlt)

theorem sorted_one {n : Nat} (x : Fin n → EReal) (R : Fin n → Fin n → Bool) (hR : ∀ k k', R k k' = decide (x k' < x k)) {p : Fin n} (h : First x p) (i : Fin n) (hi : i.val = 0) :
    sortedFrom R i = p := by
  rw [sortedFrom_gt x R hR]
  have h1 := p.isLt
  have := (before_total x).sortedFrom_eq_of_prefix (k := 1) (by omega) (fun _ => p) (fun i j _ => Subsingleton.elim _ _) (fun i j hij => absurd hij (by omega))
    (fun i q hq => before_first h q (fun e => hq 0 e.symm)) 0
  refine Eq.trans (congrArg _ (Fin.ext ?_)) this
  simpa using hi

theorem sorted_two (x : Fin 8 → ℝ) (R : Fin 8 → Fin 8 → Bool) (hR : ∀ k k', R k k' = decide (xl x k' < xl x k)) (hb : First (xl x) b) (hc : First (xl2 x b) c) :
    sortedFrom R 0 = b ∧ sortedFrom R 1 = c := by
  rw [sortedFrom_gt (xl x) R hR]
  have hne := xl2_ne hc
  have key := (before_total (xl x)).sortedFrom_eq_of_prefix (k := 2) (by omega) (fun i : Fin 2 => if i = 0 then b else c)
    (fun i j hij => by
      match i, j with
      | 0, 0 => rfl
      | 1, 1 => rfl
      | 0, 1 => simp at hij; exact absurd hij.symm hne
      | 1, 0 => simp at hij; exact absurd hij hne)
    (fun i j hij => by
      match i, j with
      | 0, 0 => exact absurd hij (by decide)
      | 1, 1 => exact absurd hij (by decide)
      | 0, 1 => simp; exact before_first hb c hne
      | 1, 0 => exact absurd hij (by decide))
    (fun i q hq => by
      have hq0 : q ≠ b := fun e => hq 0 (by simp [e])
      have hq1 : q ≠ c := fun e => hq 1 (by simp [e])
      match i with
      | 0 => simp; exact before_first hb q hq0
      | 1 =>
        simp
        have := before_first hc q hq1
        unfold before xl2 at this
        rw [if_neg hne, if_neg hq0] at this
        exact this)
  exact ⟨key 0, key 1⟩

/-- The word of a chosen lane. -/
theorem word_of (n : ℕ) (hn : n < 128) : (FloatOps.fptosi (F := Ideal) (φ := .f32) 32 (((n : ℝ)) : EReal) : BitVec 32) = BitVec.ofNat 32 n := by
  show BitVec.ofInt 32 (Ideal.toIntClamped _ _ ((n : ℝ) : EReal)) = _
  rw [Ideal.toIntClamped_coe, if_pos (Nat.cast_nonneg n), Int.floor_natCast]
  rw [show max (-((2 ^ (32 - 1) : Nat) : Int)) (min (((2 ^ (32 - 1) : Nat) : Int) - 1) (n : Int)) = (n : Int) from by
    have : ((2 ^ (32 - 1) : Nat) : Int) = 2147483648 := rfl
    omega]
  rfl

theorem c_bot : Ideal.ofBits .f32 4286578688#32 = (⊥ : EReal) := by
  simp [Ideal.ofBits, Ideal.ieee, -EReal.coe_mul]
  try norm_num
theorem c_top : Ideal.ofBits .f32 2139095040#32 = (⊤ : EReal) := by
  simp [Ideal.ofBits, Ideal.ieee, -EReal.coe_mul]
  try norm_num
theorem c_128 : Ideal.ofBits .f32 1124073472#32 = ((128 : ℝ) : EReal) := by
  simp [Ideal.ofBits, Ideal.ieee, -EReal.coe_mul]
  try norm_num
theorem c_4 : Ideal.ofBits .f32 1082130432#32 = ((4 : ℝ) : EReal) := by
  simp [Ideal.ofBits, Ideal.ieee, -EReal.coe_mul]
  try norm_num
theorem c_8 : Ideal.ofBits .f32 1090519040#32 = ((8 : ℝ) : EReal) := by
  simp [Ideal.ofBits, Ideal.ieee, -EReal.coe_mul]
  try norm_num

end Cert.Route

end
-- ==== Proof.RoutePay.lean ====
/- The router's operations in the output projection's body, read at an index. -/
module

public import proofs.«01_k».proof.Proof.RouteMath
public import proofs.«01_k».proof.Proof.OutProjPay

@[expose] public section

set_option maxRecDepth 16384

noncomputable section

namespace Cert.OutProj

open Cert.Kernel3Ideal Cert.Kernel3Ideal.Gen
open Idealize.ShloMosaic Idealize.ShloMosaic.TcCoe Idealize.SL.Sem
open Cert.Route

theorem sel_dec {α : Type} (p : Prop) [Decidable p] (x y : α) : Scalar.select (BitVec.ofBool (decide p)) x y = if p then x else y := by
  unfold Scalar.select
  by_cases h : p <;> simp [h]

theorem sel_and {α : Type} (p q : Prop) [Decidable p] [Decidable q] (x y : α) :
    Scalar.select (IntOp.andi (BitVec.ofBool (decide p)) (BitVec.ofBool (decide q))) x y = if p ∧ q then x else y := by
  unfold Scalar.select
  have h1 : IntOp.andi 1#1 1#1 = 1#1 := by decide
  have h2 : IntOp.andi 1#1 0#1 = 0#1 := by decide
  have h3 : IntOp.andi 0#1 1#1 = 0#1 := by decide
  have h4 : IntOp.andi 0#1 0#1 = 0#1 := by decide
  by_cases h : p <;> by_cases h' : q <;> simp [h, h', h1, h2, h3, h4]

theorem sel_slt {α : Type} (k : Fin 128) (x y : α) : Scalar.select (IntOp.cmpi CmpIPredicate.slt (BitVec.ofNat 32 k.val) 4#32) x y = if k.val < 4 then x else y := by
  have h : IntOp.cmpi CmpIPredicate.slt (BitVec.ofNat 32 k.val) 4#32 = BitVec.ofBool (decide (k.val < 4)) := by
    revert k; decide
  rw [h, sel_dec]

theorem sel_eq0 {α : Type} (k : Fin 128) (x y : α) : Scalar.select (IntOp.cmpi CmpIPredicate.eq (BitVec.ofNat 32 k.val) 0#32) x y = if k.val = 0 then x else y := by
  have h : IntOp.cmpi CmpIPredicate.eq (BitVec.ofNat 32 k.val) 0#32 = BitVec.ofBool (decide (k.val = 0)) := by
    revert k; decide
  rw [h, sel_dec]

theorem sel_eq1 {α : Type} (k : Fin 128) (x y : α) : Scalar.select (IntOp.cmpi CmpIPredicate.eq (BitVec.ofNat 32 k.val) 1#32) x y = if k.val = 1 then x else y := by
  have h : IntOp.cmpi CmpIPredicate.eq (BitVec.ofNat 32 k.val) 1#32 = BitVec.ofBool (decide (k.val = 1)) := by
    revert k; decide
  rw [h, sel_dec]

theorem lane_of (k : Fin 128) : (FloatOps.sitofp (F := Ideal) .f32 (BitVec.ofNat 32 k.val) : EReal) = lane k := by
  show (((BitVec.ofNat 32 k.val).toInt : ℝ) : EReal) = _
  have h : (BitVec.ofNat 32 k.val).toInt = (k.val : ℤ) := by revert k; decide
  rw [h]
  rfl

variable (h : FVec Ideal S256x2048 .f32) (w : Vec Ideal S2048x128 .bf16) (b : Vec Ideal S1x128 .f32)

/-- A row's logits. -/
def logits (q : Fin 256) (k : Fin 128) : EReal := ∑ x : Fin 2048, h (ix2 q x) * w (ix2 x k) + b (ix2 (0 : Fin 1) k)

theorem pay34_apply (q : Fin 256) (k : Fin 128) : k0_pay34 h w b (ix2 q k) = logits h w b q k := by
  unfold logits
  pointwise [k0_pay34]

theorem pay35_apply (q : Fin 256) (k : Fin 128) : (k0_pay35 (F := Ideal)) (ix2 q k) = lane k := by
  rw [← lane_of]
  pointwise [k0_pay35]

theorem pay36_apply (q : Fin 256) (k : Fin 128) : k0_pay36 h w b (ix2 q k) = mask1 (logits h w b q) k := by
  have e : k0_pay36 h w b (ix2 q k) = Scalar.select (IntOp.cmpi CmpIPredicate.slt (BitVec.ofNat 32 k.val) 4#32) (k0_pay34 h w b (ix2 q k)) (Ideal.ofBits .f32 4286578688#32) := by
    pointwise [k0_pay36]
  rw [e, sel_slt, pay34_apply, c_bot]
  rfl

theorem pay37_apply (q : Fin 256) : k0_pay37 h w b (ix2 q (0 : Fin 1)) = top (mask1 (logits h w b q)) := by
  have e : k0_pay37 h w b (ix2 q (0 : Fin 1)) = Finset.univ.fold max (Ideal.ofBits .f32 4286578688#32) (fun x : Fin 128 => k0_pay36 h w b (ix2 q x)) := by
    pointwise [k0_pay37]
  rw [e, c_bot]
  unfold top
  exact Finset.fold_congr fun k _ => pay36_apply h w b q k

theorem pay38_apply (q : Fin 256) : k0_pay38 h w b (ix2 q (0 : Fin 1)) = share (logits h w b q) := by
  have e : k0_pay38 h w b (ix2 q (0 : Fin 1)) = Ideal.div 1 (∑ x : Fin 128, Ideal.exp (k0_pay36 h w b (ix2 q x) - k0_pay37 h w b (ix2 q (0 : Fin 1)))) := by
    pointwise [k0_pay38]
  rw [e, pay37_apply]
  unfold share
  simp only [pay36_apply]

theorem pay39_apply (q : Fin 256) (k : Fin 128) : k0_pay39 h w b (ix2 q k) = mask2 (logits h w b q) k := by
  have hl : ∀ x : Fin 128, (if k0_pay36 h w b (ix2 q x) = k0_pay37 h w b (ix2 q (0 : Fin 1)) then (k0_pay35 (F := Ideal)) (ix2 q x) else Ideal.ofBits .f32 1124073472#32)
      = if mask1 (logits h w b q) x = top (mask1 (logits h w b q)) then lane x else ((128 : ℝ) : EReal) := fun x => by
    rw [pay36_apply, pay37_apply, pay35_apply, c_128]
  have ha : Finset.univ.fold min (Ideal.ofBits .f32 2139095040#32) (fun x : Fin 128 => if k0_pay36 h w b (ix2 q x) = k0_pay37 h w b (ix2 q (0 : Fin 1)) then (k0_pay35 (F := Ideal)) (ix2 q x) else Ideal.ofBits .f32 1124073472#32)
      = arg (mask1 (logits h w b q)) := by
    rw [c_top]
    unfold arg
    exact Finset.fold_congr fun k _ => hl k
  have e : k0_pay39 h w b (ix2 q k) = Scalar.select (IntOp.andi
      (BitVec.ofBool (decide (Ideal.ofBits .f32 1082130432#32 + Ideal.ofBits .f32 1090519040#32 * Finset.univ.fold min (Ideal.ofBits .f32 2139095040#32) (fun x : Fin 128 => if k0_pay36 h w b (ix2 q x) = k0_pay37 h w b (ix2 q (0 : Fin 1)) then (k0_pay35 (F := Ideal)) (ix2 q x) else Ideal.ofBits .f32 1124073472#32) ≤ (k0_pay35 (F := Ideal)) (ix2 q k))))
      (BitVec.ofBool (decide ((k0_pay35 (F := Ideal)) (ix2 q k) < Ideal.ofBits .f32 1082130432#32 + Ideal.ofBits .f32 1090519040#32 * Finset.univ.fold min (Ideal.ofBits .f32 2139095040#32) (fun x : Fin 128 => if k0_pay36 h w b (ix2 q x) = k0_pay37 h w b (ix2 q (0 : Fin 1)) then (k0_pay35 (F := Ideal)) (ix2 q x) else Ideal.ofBits .f32 1124073472#32) + Ideal.ofBits .f32 1090519040#32))))
      (k0_pay34 h w b (ix2 q k)) (Ideal.ofBits .f32 4286578688#32) := by
    pointwise [k0_pay39]
  rw [e, sel_and, ha, pay34_apply, pay35_apply, c_bot, c_4, c_8]
  rfl

theorem pay40_apply (q : Fin 256) : k0_pay40 h w b (ix1 q) = top (mask2 (logits h w b q)) := by
  have e : k0_pay40 h w b (ix1 q) = Finset.univ.fold max (Ideal.ofBits .f32 4286578688#32) (fun x : Fin 128 => k0_pay39 h w b (ix2 q x)) := by
    pointwise [k0_pay40]
  rw [e, c_bot]
  unfold top
  exact Finset.fold_congr fun k _ => pay39_apply h w b q k

theorem pay42_apply (q : Fin 256) : k0_pay42 (k0_pay35 (F := Ideal)) (k0_pay39 h w b) (k0_pay40 h w b) (ix2 q (0 : Fin 1)) = arg (mask2 (logits h w b q)) := by
  generalize hL : (k0_pay35 (F := Ideal)) = l
  have e : k0_pay42 l (k0_pay39 h w b) (k0_pay40 h w b) (ix2 q (0 : Fin 1)) = Finset.univ.fold min (Ideal.ofBits .f32 2139095040#32)
      (fun x : Fin 128 => if k0_pay39 h w b (ix2 q x) = k0_pay40 h w b (ix1 q) then l (ix2 q x) else Ideal.ofBits .f32 1124073472#32) := by
    pointwise [k0_pay42, k0_pay41]
  rw [e, c_top]
  unfold arg
  refine Finset.fold_congr fun x _ => ?_
  rw [pay39_apply, pay40_apply, ← hL, pay35_apply, c_128]

theorem pay43_apply (q : Fin 256) (k : Fin 128) : k0_pay43 (k0_pay35 (F := Ideal)) (k0_pay39 h w b) (k0_pay40 h w b) (ix2 q k) = mask3 (logits h w b q) k := by
  have e : k0_pay43 (k0_pay35 (F := Ideal)) (k0_pay39 h w b) (k0_pay40 h w b) (ix2 q k) = if (k0_pay35 (F := Ideal)) (ix2 q k) = k0_pay42 (k0_pay35 (F := Ideal)) (k0_pay39 h w b) (k0_pay40 h w b) (ix2 q (0 : Fin 1))
      then Ideal.ofBits .f32 4286578688#32 else k0_pay39 h w b (ix2 q k) := by
    pointwise [k0_pay43]
  rw [e, pay42_apply, pay35_apply, pay39_apply, c_bot]
  rfl

theorem pay44_apply (q : Fin 256) : k0_pay44 (k0_pay35 (F := Ideal)) (k0_pay39 h w b) (k0_pay40 h w b) (ix2 q (0 : Fin 1)) = top (mask3 (logits h w b q)) := by
  have e : k0_pay44 (k0_pay35 (F := Ideal)) (k0_pay39 h w b) (k0_pay40 h w b) (ix2 q (0 : Fin 1))
      = Finset.univ.fold max (Ideal.ofBits .f32 4286578688#32) (fun x : Fin 128 => k0_pay43 (k0_pay35 (F := Ideal)) (k0_pay39 h w b) (k0_pay40 h w b) (ix2 q x)) := by
    pointwise [k0_pay44]
  rw [e, c_bot]
  unfold top
  exact Finset.fold_congr fun k _ => pay43_apply h w b q k

theorem pay45_apply (q : Fin 256) : k0_pay45 (k0_pay35 (F := Ideal)) (k0_pay39 h w b) (k0_pay40 h w b) (ix2 q (0 : Fin 1)) = arg (mask3 (logits h w b q)) := by
  have e : k0_pay45 (k0_pay35 (F := Ideal)) (k0_pay39 h w b) (k0_pay40 h w b) (ix2 q (0 : Fin 1)) = Finset.univ.fold min (Ideal.ofBits .f32 2139095040#32)
      (fun x : Fin 128 => if k0_pay43 (k0_pay35 (F := Ideal)) (k0_pay39 h w b) (k0_pay40 h w b) (ix2 q x) = k0_pay44 (k0_pay35 (F := Ideal)) (k0_pay39 h w b) (k0_pay40 h w b) (ix2 q (0 : Fin 1))
        then (k0_pay35 (F := Ideal)) (ix2 q x) else Ideal.ofBits .f32 1124073472#32) := by
    pointwise [k0_pay45]
  rw [e, c_top]
  unfold arg
  refine Finset.fold_congr fun x _ => ?_
  rw [pay43_apply, pay44_apply, pay35_apply, c_128]

theorem pay46_apply (q : Fin 256) : k0_pay46 (k0_pay35 (F := Ideal)) (k0_pay39 h w b) (k0_pay40 h w b) (ix2 q (0 : Fin 1)) = gap (logits h w b q) := by
  have e : k0_pay46 (k0_pay35 (F := Ideal)) (k0_pay39 h w b) (k0_pay40 h w b) (ix2 q (0 : Fin 1))
      = Ideal.exp (k0_pay44 (k0_pay35 (F := Ideal)) (k0_pay39 h w b) (k0_pay40 h w b) (ix2 q (0 : Fin 1)) - k0_pay40 h w b (ix1 q)) := by
    pointwise [k0_pay46, k0_pay41]
  rw [e, pay44_apply, pay40_apply]
  rfl

theorem pay47_apply (q : Fin 256) : k0_pay47 (k0_pay35 (F := Ideal)) (k0_pay38 h w b) (k0_pay39 h w b) (k0_pay40 h w b) (ix2 q (0 : Fin 1))
    = Ideal.div (share (logits h w b q)) (1 + gap (logits h w b q)) := by
  have e : k0_pay47 (k0_pay35 (F := Ideal)) (k0_pay38 h w b) (k0_pay39 h w b) (k0_pay40 h w b) (ix2 q (0 : Fin 1))
      = Ideal.div (k0_pay38 h w b (ix2 q (0 : Fin 1))) (1 + k0_pay46 (k0_pay35 (F := Ideal)) (k0_pay39 h w b) (k0_pay40 h w b) (ix2 q (0 : Fin 1))) := by
    pointwise [k0_pay47]
  rw [e, pay38_apply, pay46_apply]

theorem pay48_apply (q : Fin 256) : k0_pay48 (k0_pay35 (F := Ideal)) (k0_pay38 h w b) (k0_pay39 h w b) (k0_pay40 h w b) (ix2 q (0 : Fin 1))
    = Ideal.div (share (logits h w b q) * gap (logits h w b q)) (1 + gap (logits h w b q)) := by
  have e : k0_pay48 (k0_pay35 (F := Ideal)) (k0_pay38 h w b) (k0_pay39 h w b) (k0_pay40 h w b) (ix2 q (0 : Fin 1))
      = Ideal.div (k0_pay38 h w b (ix2 q (0 : Fin 1)) * k0_pay46 (k0_pay35 (F := Ideal)) (k0_pay39 h w b) (k0_pay40 h w b) (ix2 q (0 : Fin 1))) (1 + k0_pay46 (k0_pay35 (F := Ideal)) (k0_pay39 h w b) (k0_pay40 h w b) (ix2 q (0 : Fin 1))) := by
    pointwise [k0_pay48]
  rw [e, pay38_apply, pay46_apply]

/-- What a row of logits puts in the lanes of the two stored results, and in the tally. -/
def eidOf (L : Fin 128 → EReal) (k : Fin 128) : BitVec 32 :=
  FloatOps.fptosi (F := Ideal) (φ := .f32) 32 (if k.val = 0 then arg (mask2 L) - ((4 : ℝ) : EReal) else if k.val = 1 then arg (mask3 L) - ((4 : ℝ) : EReal) else 0)
def ewOf (L : Fin 128 → EReal) (k : Fin 128) : EReal :=
  if k.val = 0 then Ideal.div (share L) (1 + gap L) else if k.val = 1 then Ideal.div (share L * gap L) (1 + gap L) else 0
def hitOf (L : Fin 128 → EReal) (k : Fin 128) : EReal :=
  if lane k = arg (mask2 L) - ((4 : ℝ) : EReal) ∨ lane k = arg (mask3 L) - ((4 : ℝ) : EReal) then 1 else 0

theorem eid_apply (v : IVec S256x128 32) (hv : ∀ q k, v (ix2 q k) = BitVec.ofNat 32 k.val) (q : Fin 256) (k : Fin 128) :
    k0_pay1 (k0_pay49 v (k0_pay35 (F := Ideal)) (k0_pay39 h w b) (k0_pay40 h w b)) (ix2 q k) = eidOf (logits h w b q) k := by
  have e : k0_pay49 v (k0_pay35 (F := Ideal)) (k0_pay39 h w b) (k0_pay40 h w b) (ix2 q k)
      = Scalar.select (IntOp.cmpi .eq (v (ix2 q k)) 0#32) (k0_pay42 (k0_pay35 (F := Ideal)) (k0_pay39 h w b) (k0_pay40 h w b) (ix2 q (0 : Fin 1)) - Ideal.ofBits .f32 1082130432#32)
        (Scalar.select (IntOp.cmpi .eq (v (ix2 q k)) 1#32) (k0_pay45 (k0_pay35 (F := Ideal)) (k0_pay39 h w b) (k0_pay40 h w b) (ix2 q (0 : Fin 1)) - Ideal.ofBits .f32 1082130432#32) 0) := by
    pointwise [k0_pay49]
  have e1 : ∀ y : FVec Ideal S256x128 .f32, k0_pay1 y (ix2 q k) = FloatOps.fptosi (F := Ideal) (φ := .f32) 32 (y (ix2 q k)) := fun y => by
    pointwise [k0_pay1]
  rw [e1, e, hv, sel_eq0, sel_eq1, pay42_apply, pay45_apply, c_4]
  rfl

theorem ew_apply (v : IVec S256x128 32) (hv : ∀ q k, v (ix2 q k) = BitVec.ofNat 32 k.val) (q : Fin 256) (k : Fin 128) :
    k0_pay2 v (k0_pay47 (k0_pay35 (F := Ideal)) (k0_pay38 h w b) (k0_pay39 h w b) (k0_pay40 h w b)) (k0_pay48 (k0_pay35 (F := Ideal)) (k0_pay38 h w b) (k0_pay39 h w b) (k0_pay40 h w b)) (ix2 q k)
      = ewOf (logits h w b q) k := by
  have e : ∀ y z : FVec Ideal S256x1 .f32, k0_pay2 v y z (ix2 q k) = Scalar.select (IntOp.cmpi .eq (v (ix2 q k)) 0#32) (y (ix2 q (0 : Fin 1))) (Scalar.select (IntOp.cmpi .eq (v (ix2 q k)) 1#32) (z (ix2 q (0 : Fin 1))) 0) := fun y z => by
    pointwise [k0_pay2]
  rw [e, hv, sel_eq0, sel_eq1, pay47_apply, pay48_apply]
  rfl

theorem bit_or (p q : Prop) [Decidable p] [Decidable q] :
    (FloatOps.sitofp (F := Ideal) .f32 (BitVec.setWidth 32 (IntOp.ori (BitVec.ofBool (decide p)) (BitVec.ofBool (decide q)))) : EReal) = if p ∨ q then 1 else 0 := by
  show (((BitVec.setWidth 32 (IntOp.ori (BitVec.ofBool (decide p)) (BitVec.ofBool (decide q)))).toInt : ℝ) : EReal) = _
  have h1 : (BitVec.setWidth 32 (IntOp.ori (1#1) (1#1))).toInt = 1 := by decide
  have h2 : (BitVec.setWidth 32 (IntOp.ori (1#1) (0#1))).toInt = 1 := by decide
  have h3 : (BitVec.setWidth 32 (IntOp.ori (0#1) (1#1))).toInt = 1 := by decide
  have h4 : (BitVec.setWidth 32 (IntOp.ori (0#1) (0#1))).toInt = 0 := by decide
  by_cases hp : p <;> by_cases hq : q <;> simp [hp, hq, h1, h2, h3, h4]

theorem tally_apply (y : Vec Ideal S8x128 .f32) (q : Fin 8) (k : Fin 128) :
    k0_pay3 (k0_pay35 (F := Ideal)) (k0_pay45 (k0_pay35 (F := Ideal)) (k0_pay39 h w b) (k0_pay40 h w b)) (k0_pay50 (k0_pay35 (F := Ideal)) (k0_pay39 h w b) (k0_pay40 h w b)) y (ix2 q k)
      = y (ix2 q k) + ∑ x : Fin 256, hitOf (logits h w b x) k := by
  have e : ∀ (l s : FVec Ideal S256x128 .f32) (z : FVec Ideal S256x1 .f32), k0_pay3 l z s y (ix2 q k) = y (ix2 q k) + ∑ x : Fin 256, FloatOps.sitofp (F := Ideal) .f32
      (BitVec.setWidth 32 (IntOp.ori (BitVec.ofBool (decide (l (ix2 x k) = s (ix2 x k)))) (BitVec.ofBool (decide (l (ix2 x k) = z (ix2 x (0 : Fin 1)) - Ideal.ofBits .f32 1082130432#32))))) := fun l s z => by
    pointwise [k0_pay3]
  have e2 : ∀ x : Fin 256, k0_pay50 (k0_pay35 (F := Ideal)) (k0_pay39 h w b) (k0_pay40 h w b) (ix2 x k) = k0_pay42 (k0_pay35 (F := Ideal)) (k0_pay39 h w b) (k0_pay40 h w b) (ix2 x (0 : Fin 1)) - Ideal.ofBits .f32 1082130432#32 := fun x => by
    pointwise [k0_pay50]
  rw [e]
  refine congrArg _ (Finset.sum_congr rfl fun x _ => ?_)
  rw [bit_or, e2, pay35_apply, pay42_apply, pay45_apply, c_4]
  rfl

/-! ## The first half's operations are the second half's -/

section half
variable (g s : FVec Ideal S1x2048 .f32) (y : FVec Ideal S256x2048 .f32) (z : FVec Ideal S256x1 .f32) (w : Vec Ideal S2048x128 .bf16) (c : Vec Ideal S1x128 .f32)

theorem t10 : k0_pay10 g s y z w c = k0_pay34 (k0_pay9 g s y z) w c := rfl
theorem t14 : k0_pay14 g s y z w c = k0_pay38 (k0_pay9 g s y z) w c := rfl
theorem t17 : k0_pay17 (k0_pay10 g s y z w c) k0_pay11 (k0_pay15 g s y z w c) (k0_pay16 g s y z w c) = k0_pay39 (k0_pay9 g s y z) w c := rfl
theorem t19 : k0_pay19 (k0_pay10 g s y z w c) k0_pay11 (k0_pay15 g s y z w c) (k0_pay16 g s y z w c) = k0_pay42 k0_pay35 (k0_pay39 (k0_pay9 g s y z) w c) (k0_pay40 (k0_pay9 g s y z) w c) := rfl
theorem t22 : k0_pay22 (k0_pay10 g s y z w c) k0_pay11 (k0_pay15 g s y z w c) (k0_pay16 g s y z w c) = k0_pay45 k0_pay35 (k0_pay39 (k0_pay9 g s y z) w c) (k0_pay40 (k0_pay9 g s y z) w c) := rfl
theorem t24 : k0_pay24 (k0_pay10 g s y z w c) k0_pay11 (k0_pay14 g s y z w c) (k0_pay15 g s y z w c) (k0_pay16 g s y z w c) = k0_pay47 k0_pay35 (k0_pay38 (k0_pay9 g s y z) w c) (k0_pay39 (k0_pay9 g s y z) w c) (k0_pay40 (k0_pay9 g s y z) w c) := rfl
theorem t25 : k0_pay25 (k0_pay10 g s y z w c) k0_pay11 (k0_pay14 g s y z w c) (k0_pay15 g s y z w c) (k0_pay16 g s y z w c) = k0_pay48 k0_pay35 (k0_pay38 (k0_pay9 g s y z) w c) (k0_pay39 (k0_pay9 g s y z) w c) (k0_pay40 (k0_pay9 g s y z) w c) := rfl
theorem t30 (v : IVec S256x128 32) : k0_pay30 (k0_pay26 v) (k0_pay27 (k0_pay10 g s y z w c) k0_pay11 (k0_pay15 g s y z w c) (k0_pay16 g s y z w c)) (k0_pay28 v) (k0_pay29 (k0_pay10 g s y z w c) k0_pay11 (k0_pay15 g s y z w c) (k0_pay16 g s y z w c)) (FloatOps.ofBits .f32 0x00000000#32)
   = k0_pay1 (k0_pay49 v k0_pay35 (k0_pay39 (k0_pay9 g s y z) w c) (k0_pay40 (k0_pay9 g s y z) w c)) := rfl
theorem t31 (v : IVec S256x128 32) (p q : FVec Ideal S256x1 .f32) : k0_pay31 v p q = k0_pay2 v p q := rfl
theorem t32 (u : Vec Ideal S8x128 .f32) : k0_pay32 k0_pay11 (k0_pay19 (k0_pay10 g s y z w c) k0_pay11 (k0_pay15 g s y z w c) (k0_pay16 g s y z w c)) (k0_pay22 (k0_pay10 g s y z w c) k0_pay11 (k0_pay15 g s y z w c) (k0_pay16 g s y z w c)) u
  = k0_pay3 k0_pay35 (k0_pay45 k0_pay35 (k0_pay39 (k0_pay9 g s y z) w c) (k0_pay40 (k0_pay9 g s y z) w c)) (k0_pay50 k0_pay35 (k0_pay39 (k0_pay9 g s y z) w c) (k0_pay40 (k0_pay9 g s y z) w c)) u := rfl

end half

end Cert.OutProj

end
-- ==== Proof.RouteBlock.lean ====
module

public import proofs.«01_k».proof.Proof.RoutePay
public import Idealize.ShloMosaic.Lib.VecWindow

/-! What one block of rows stores for the router: the ids, the weights, and the counts. -/

@[expose] public section

set_option maxRecDepth 16384

noncomputable section

namespace Cert.OutProj

open Cert.Kernel3Ideal Cert.Kernel3Ideal.Gen
open Idealize.ShloMosaic Idealize.ShloMosaic.TcCoe Idealize.SL.Sem Cert.Route

/-- The logits of a row of a block. -/
def rowL (x0 x1 : Vec Ideal S512x1024 .bf16) (x2 : Vec Ideal S512x2048 .f32) (x3 x4 : Vec Ideal S1024x2048 .bf16) (x5 x6 : Vec Ideal S1x2048 .f32)
    (x7 : Vec Ideal S2048x128 .bf16) (x8 : Vec Ideal S1x128 .f32) (q : Fin 512) (k : Fin 128) : EReal :=
  ∑ x : Fin 2048, blockH x0 x1 x2 x3 x4 x5 x6 (ix2 q x) * x7 (ix2 x k) + x8 (ix2 (0 : Fin 1) k)

section rows
variable (x0 x1 : Vec Ideal S512x1024 .bf16) (x2 : Vec Ideal S512x2048 .f32) (x3 x4 : Vec Ideal S1024x2048 .bf16) (x5 x6 : Vec Ideal S1x2048 .f32)
    (x7 : Vec Ideal S2048x128 .bf16) (x8 : Vec Ideal S1x128 .f32) (a0 a1 : Vec Ideal S256x1024 .bf16) (a2 : Vec Ideal S256x2048 .f32) (q : Fin 256) (r : Fin 512)

theorem top_logits (h0 : ∀ k, a0 (ix2 q k) = x0 (ix2 r k)) (h1 : ∀ k, a1 (ix2 q k) = x1 (ix2 r k)) (h2 : ∀ k, a2 (ix2 q k) = x2 (ix2 r k)) :
    logits (k0_pay9 (k0_pay5 x5) (k0_pay6 x6) (k0_pay7 a0 x3 a1 x4 a2) (k0_pay8 a0 x3 a1 x4 a2)) x7 x8 q = rowL x0 x1 x2 x3 x4 x5 x6 x7 x8 r := by
  funext k
  unfold logits rowL
  refine congrArg (fun s => s + x8 (ix2 (0 : Fin 1) k)) (Finset.sum_congr rfl fun x _ => congrArg (fun s => s * x7 (ix2 x k)) ?_)
  refine (top_apply _ _ _ _ _ _ _ q x).trans ?_
  exact norm_congr (fun l => row_congr h0 h1 (fun k => rfl) (fun k => rfl) (h2 l)) (fun l => rfl) (fun l => rfl) rfl

theorem low_logits (h0 : ∀ k, a0 (ix2 q k) = x0 (ix2 r k)) (h1 : ∀ k, a1 (ix2 q k) = x1 (ix2 r k)) (h2 : ∀ k, a2 (ix2 q k) = x2 (ix2 r k)) :
    logits (k0_pay33 a0 x3 a1 x4 a2 x5 x6) x7 x8 q = rowL x0 x1 x2 x3 x4 x5 x6 x7 x8 r := by
  funext k
  unfold logits rowL
  refine congrArg (fun s => s + x8 (ix2 (0 : Fin 1) k)) (Finset.sum_congr rfl fun x _ => congrArg (fun s => s * x7 (ix2 x k)) ?_)
  refine (low_apply _ _ _ _ _ _ _ q x).trans ?_
  exact norm_congr (fun l => row_congr h0 h1 (fun k => rfl) (fun k => rfl) (h2 l)) (fun l => rfl) (fun l => rfl) rfl
end rows

/-- The ids a block stores. -/
def blockE (x0 x1 : Vec Ideal S512x1024 .bf16) (x2 : Vec Ideal S512x2048 .f32) (x3 x4 : Vec Ideal S1024x2048 .bf16) (x5 x6 : Vec Ideal S1x2048 .f32)
    (x7 : Vec Ideal S2048x128 .bf16) (x8 : Vec Ideal S1x128 .f32) : Vec Ideal S512x128 .i32 :=
  fun j => eidOf (rowL x0 x1 x2 x3 x4 x5 x6 x7 x8 (j 0)) (j 1)

/-- The weights a block stores. -/
def blockW (x0 x1 : Vec Ideal S512x1024 .bf16) (x2 : Vec Ideal S512x2048 .f32) (x3 x4 : Vec Ideal S1024x2048 .bf16) (x5 x6 : Vec Ideal S1x2048 .f32)
    (x7 : Vec Ideal S2048x128 .bf16) (x8 : Vec Ideal S1x128 .f32) : Vec Ideal S512x128 .f32 :=
  fun j => ewOf (rowL x0 x1 x2 x3 x4 x5 x6 x7 x8 (j 0)) (j 1)

/-- What a block adds to the counts. -/
def blockC (x0 x1 : Vec Ideal S512x1024 .bf16) (x2 : Vec Ideal S512x2048 .f32) (x3 x4 : Vec Ideal S1024x2048 .bf16) (x5 x6 : Vec Ideal S1x2048 .f32)
    (x7 : Vec Ideal S2048x128 .bf16) (x8 : Vec Ideal S1x128 .f32) (k : Fin 128) : EReal :=
  ∑ q : Fin 512, hitOf (rowL x0 x1 x2 x3 x4 x5 x6 x7 x8 q) k

theorem blockE_at (x0 x1 : Vec Ideal S512x1024 .bf16) (x2 : Vec Ideal S512x2048 .f32) (x3 x4 : Vec Ideal S1024x2048 .bf16) (x5 x6 : Vec Ideal S1x2048 .f32)
    (x7 : Vec Ideal S2048x128 .bf16) (x8 : Vec Ideal S1x128 .f32) (i : S512x128.Idx) (r : Fin 512) (k : Fin 128) (h0 : r.val = (i 0).val) (h1 : k.val = (i 1).val) :
    eidOf (rowL x0 x1 x2 x3 x4 x5 x6 x7 x8 r) k = blockE x0 x1 x2 x3 x4 x5 x6 x7 x8 i :=
  congrArg₂ (fun a b => eidOf (rowL x0 x1 x2 x3 x4 x5 x6 x7 x8 a) b) (Fin.ext h0) (Fin.ext h1)

theorem blockW_at (x0 x1 : Vec Ideal S512x1024 .bf16) (x2 : Vec Ideal S512x2048 .f32) (x3 x4 : Vec Ideal S1024x2048 .bf16) (x5 x6 : Vec Ideal S1x2048 .f32)
    (x7 : Vec Ideal S2048x128 .bf16) (x8 : Vec Ideal S1x128 .f32) (i : S512x128.Idx) (r : Fin 512) (k : Fin 128) (h0 : r.val = (i 0).val) (h1 : k.val = (i 1).val) :
    ewOf (rowL x0 x1 x2 x3 x4 x5 x6 x7 x8 r) k = blockW x0 x1 x2 x3 x4 x5 x6 x7 x8 i :=
  congrArg₂ (fun a b => ewOf (rowL x0 x1 x2 x3 x4 x5 x6 x7 x8 a) b) (Fin.ext h0) (Fin.ext h1)

section top
variable (g s : FVec Ideal S1x2048 .f32) (y : FVec Ideal S256x2048 .f32) (z : FVec Ideal S256x1 .f32) (w : Vec Ideal S2048x128 .bf16) (c : Vec Ideal S1x128 .f32)

theorem eid_top (v : IVec S256x128 32) (hv : ∀ (q : Fin 256) (k : Fin 128), v (ix2 q k) = BitVec.ofNat 32 k.val) (q : Fin 256) (k : Fin 128) :
    k0_pay30 (k0_pay26 v) (k0_pay27 (k0_pay10 g s y z w c) k0_pay11 (k0_pay15 g s y z w c) (k0_pay16 g s y z w c)) (k0_pay28 v) (k0_pay29 (k0_pay10 g s y z w c) k0_pay11 (k0_pay15 g s y z w c) (k0_pay16 g s y z w c)) (FloatOps.ofBits .f32 0x00000000#32) (ix2 q k)
      = eidOf (logits (k0_pay9 g s y z) w c q) k :=
  (congrFun (t30 g s y z w c v) (ix2 q k)).trans (eid_apply _ w c v hv q k)

theorem ew_top (v : IVec S256x128 32) (hv : ∀ (q : Fin 256) (k : Fin 128), v (ix2 q k) = BitVec.ofNat 32 k.val) (q : Fin 256) (k : Fin 128) :
    k0_pay31 v (k0_pay24 (k0_pay10 g s y z w c) k0_pay11 (k0_pay14 g s y z w c) (k0_pay15 g s y z w c) (k0_pay16 g s y z w c)) (k0_pay25 (k0_pay10 g s y z w c) k0_pay11 (k0_pay14 g s y z w c) (k0_pay15 g s y z w c) (k0_pay16 g s y z w c)) (ix2 q k)
      = ewOf (logits (k0_pay9 g s y z) w c q) k := by
  rw [t31, t24, t25]
  exact ew_apply _ w c v hv q k

theorem tally_top (u : Vec Ideal S8x128 .f32) (q : Fin 8) (k : Fin 128) :
    k0_pay32 k0_pay11 (k0_pay19 (k0_pay10 g s y z w c) k0_pay11 (k0_pay15 g s y z w c) (k0_pay16 g s y z w c)) (k0_pay22 (k0_pay10 g s y z w c) k0_pay11 (k0_pay15 g s y z w c) (k0_pay16 g s y z w c)) u (ix2 q k)
      = u (ix2 q k) + ∑ x : Fin 256, hitOf (logits (k0_pay9 g s y z) w c x) k :=
  (congrFun (t32 g s y z w c u) (ix2 q k)).trans (tally_apply _ w c u q k)
end top

theorem sum_halves (f : Fin 512 → EReal) : (∑ x : Fin 256, f ⟨x.val, by omega⟩) + ∑ x : Fin 256, f ⟨256 + x.val, by omega⟩ = ∑ q : Fin 512, f q :=
  (Fin.sum_univ_add (a := 256) (b := 256) (M := EReal) f).symm

theorem iota_at (q : Fin 256) (k : Fin 128) : iota .tc S256x128 32 [1] iota_S256x128_d1_w32 (ix2 q k) = BitVec.ofNat 32 k.val := by
  pointwise []

theorem zero_at (q : Fin 8) (k : Fin 128) : (k0_pay4 (F := Ideal)) (ix2 q k) = 0 := by
  pointwise [k0_pay4]

theorem out10_A (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x2048 .f32) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x128 .bf16) (harg8 : arg8.IsWhole) (arg9 : Memref sig .tc .vmem S1x128 .f32) (harg9 : arg9.IsWhole) (arg10 : Memref sig .tc .vmem S512x2048 .f32) (harg10 : arg10.IsWhole) (arg11 : Memref sig .tc .vmem S512x128 .i32) (harg11 : arg11.IsWhole) (arg12 : Memref sig .tc .vmem S512x128 .f32) (harg12 : arg12.IsWhole) (arg13 : Memref sig .tc .vmem S8x128 .f32) (harg13 : arg13.IsWhole) (hc0 : cond0_0 i)
    (x0 : Vec Ideal S512x1024 .bf16) (x1 : Vec Ideal S512x1024 .bf16) (x2 : Vec Ideal S512x2048 .f32) (x3 : Vec Ideal S1024x2048 .bf16) (x4 : Vec Ideal S1024x2048 .bf16) (x5 : Vec Ideal S1x2048 .f32) (x6 : Vec Ideal S1x2048 .f32) (x7 : Vec Ideal S2048x128 .bf16) (x8 : Vec Ideal S1x128 .f32) :
    out0_A_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = blockE x0 x1 x2 x3 x4 x5 x6 x7 x8 := by
  unfold out0_A_10
  rw [View.read_writes_junk_eq_canon]
  funext j
  refine View.canon_apply_of_pieces (blockE x0 x1 x2 x3 x4 x5 x6 x7 x8) _ ?_ j (cover0_A_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 j)
  unfold kernelRun0_A
  dsimp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.v50]
  simp only [View.readAt_eq_ld, harg1.read_unread, harg2.read_unread, harg3.read_unread, harg4.read_unread, harg5.read_unread, harg6.read_unread, harg7.read_unread, harg8.read_unread, harg9.read_unread, View.ld_unit_zero (S := S1024x2048) zz, View.ld_unit_zero (S := S1x2048) zz, View.ld_unit_zero (S := S2048x128) zz, View.ld_unit_zero (S := S1x128) zz]
  intro p hp
  rcases List.mem_cons.mp hp with rfl | hp
  · intro t
    obtain ⟨q, d, rfl⟩ : ∃ (q : Fin 256) (d : Fin 128), t = (ix2 q d : S256x128.Idx) := ⟨t (0 : Fin 2), t (1 : Fin 2), eq_ix2 (n0 := 256) (n1 := 128) t⟩
    refine (eid_apply _ _ _ _ iota_at q d).trans ?_
    refine (congrArg (fun L => eidOf L d) (low_logits x0 x1 x2 x3 x4 x5 x6 x7 x8 _ _ _ q ⟨256 + q.val, by omega⟩ (fun k => congrArg x0 (ix2_val _ _ _ (by show 256 + 1 * q.val = 256 + q.val; omega) (by show 0 + 1 * k.val = k.val; omega))) (fun k => congrArg x1 (ix2_val _ _ _ (by show 256 + 1 * q.val = 256 + q.val; omega) (by show 0 + 1 * k.val = k.val; omega))) (fun k => congrArg x2 (ix2_val _ _ _ (by show 256 + 1 * q.val = 256 + q.val; omega) (by show 0 + 1 * k.val = k.val; omega))))).trans ?_
    exact blockE_at x0 x1 x2 x3 x4 x5 x6 x7 x8 _ _ _ (by show 256 + q.val = 256 + 1 * q.val; omega) (by show d.val = 0 + 1 * d.val; omega)
  · rcases List.mem_singleton.mp hp with rfl
    intro t
    obtain ⟨q, d, rfl⟩ : ∃ (q : Fin 256) (d : Fin 128), t = (ix2 q d : S256x128.Idx) := ⟨t (0 : Fin 2), t (1 : Fin 2), eq_ix2 (n0 := 256) (n1 := 128) t⟩
    refine (eid_top _ _ _ _ _ _ _ iota_at q d).trans ?_
    refine (congrArg (fun L => eidOf L d) (top_logits x0 x1 x2 x3 x4 x5 x6 x7 x8 _ _ _ q ⟨q.val, by omega⟩ (fun k => congrArg x0 (ix2_val _ _ _ (by show 0 + 1 * q.val = q.val; omega) (by show 0 + 1 * k.val = k.val; omega))) (fun k => congrArg x1 (ix2_val _ _ _ (by show 0 + 1 * q.val = q.val; omega) (by show 0 + 1 * k.val = k.val; omega))) (fun k => congrArg x2 (ix2_val _ _ _ (by show 0 + 1 * q.val = q.val; omega) (by show 0 + 1 * k.val = k.val; omega))))).trans ?_
    exact blockE_at x0 x1 x2 x3 x4 x5 x6 x7 x8 _ _ _ (by show q.val = 0 + 1 * q.val; omega) (by show d.val = 0 + 1 * d.val; omega)

theorem out10_B (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x2048 .f32) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x128 .bf16) (harg8 : arg8.IsWhole) (arg9 : Memref sig .tc .vmem S1x128 .f32) (harg9 : arg9.IsWhole) (arg10 : Memref sig .tc .vmem S512x2048 .f32) (harg10 : arg10.IsWhole) (arg11 : Memref sig .tc .vmem S512x128 .i32) (harg11 : arg11.IsWhole) (arg12 : Memref sig .tc .vmem S512x128 .f32) (harg12 : arg12.IsWhole) (arg13 : Memref sig .tc .vmem S8x128 .f32) (harg13 : arg13.IsWhole) (hc0 : ¬cond0_0 i)
    (x0 : Vec Ideal S512x1024 .bf16) (x1 : Vec Ideal S512x1024 .bf16) (x2 : Vec Ideal S512x2048 .f32) (x3 : Vec Ideal S1024x2048 .bf16) (x4 : Vec Ideal S1024x2048 .bf16) (x5 : Vec Ideal S1x2048 .f32) (x6 : Vec Ideal S1x2048 .f32) (x7 : Vec Ideal S2048x128 .bf16) (x8 : Vec Ideal S1x128 .f32) (xo12 : Vec Ideal S8x128 .f32) :
    out0_B_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo12 = blockE x0 x1 x2 x3 x4 x5 x6 x7 x8 := by
  unfold out0_B_10
  rw [View.read_writes_junk_eq_canon]
  funext j
  refine View.canon_apply_of_pieces (blockE x0 x1 x2 x3 x4 x5 x6 x7 x8) _ ?_ j (cover0_B_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo12 j)
  unfold kernelRun0_B
  dsimp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.v50]
  simp only [View.readAt_eq_ld, harg1.read_unread, harg2.read_unread, harg3.read_unread, harg4.read_unread, harg5.read_unread, harg6.read_unread, harg7.read_unread, harg8.read_unread, harg9.read_unread, View.ld_unit_zero (S := S1024x2048) zz, View.ld_unit_zero (S := S1x2048) zz, View.ld_unit_zero (S := S2048x128) zz, View.ld_unit_zero (S := S1x128) zz]
  intro p hp
  rcases List.mem_cons.mp hp with rfl | hp
  · intro t
    obtain ⟨q, d, rfl⟩ : ∃ (q : Fin 256) (d : Fin 128), t = (ix2 q d : S256x128.Idx) := ⟨t (0 : Fin 2), t (1 : Fin 2), eq_ix2 (n0 := 256) (n1 := 128) t⟩
    refine (eid_apply _ _ _ _ iota_at q d).trans ?_
    refine (congrArg (fun L => eidOf L d) (low_logits x0 x1 x2 x3 x4 x5 x6 x7 x8 _ _ _ q ⟨256 + q.val, by omega⟩ (fun k => congrArg x0 (ix2_val _ _ _ (by show 256 + 1 * q.val = 256 + q.val; omega) (by show 0 + 1 * k.val = k.val; omega))) (fun k => congrArg x1 (ix2_val _ _ _ (by show 256 + 1 * q.val = 256 + q.val; omega) (by show 0 + 1 * k.val = k.val; omega))) (fun k => congrArg x2 (ix2_val _ _ _ (by show 256 + 1 * q.val = 256 + q.val; omega) (by show 0 + 1 * k.val = k.val; omega))))).trans ?_
    exact blockE_at x0 x1 x2 x3 x4 x5 x6 x7 x8 _ _ _ (by show 256 + q.val = 256 + 1 * q.val; omega) (by show d.val = 0 + 1 * d.val; omega)
  · rcases List.mem_singleton.mp hp with rfl
    intro t
    obtain ⟨q, d, rfl⟩ : ∃ (q : Fin 256) (d : Fin 128), t = (ix2 q d : S256x128.Idx) := ⟨t (0 : Fin 2), t (1 : Fin 2), eq_ix2 (n0 := 256) (n1 := 128) t⟩
    refine (eid_top _ _ _ _ _ _ _ iota_at q d).trans ?_
    refine (congrArg (fun L => eidOf L d) (top_logits x0 x1 x2 x3 x4 x5 x6 x7 x8 _ _ _ q ⟨q.val, by omega⟩ (fun k => congrArg x0 (ix2_val _ _ _ (by show 0 + 1 * q.val = q.val; omega) (by show 0 + 1 * k.val = k.val; omega))) (fun k => congrArg x1 (ix2_val _ _ _ (by show 0 + 1 * q.val = q.val; omega) (by show 0 + 1 * k.val = k.val; omega))) (fun k => congrArg x2 (ix2_val _ _ _ (by show 0 + 1 * q.val = q.val; omega) (by show 0 + 1 * k.val = k.val; omega))))).trans ?_
    exact blockE_at x0 x1 x2 x3 x4 x5 x6 x7 x8 _ _ _ (by show q.val = 0 + 1 * q.val; omega) (by show d.val = 0 + 1 * d.val; omega)

theorem out11_A (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x2048 .f32) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x128 .bf16) (harg8 : arg8.IsWhole) (arg9 : Memref sig .tc .vmem S1x128 .f32) (harg9 : arg9.IsWhole) (arg10 : Memref sig .tc .vmem S512x2048 .f32) (harg10 : arg10.IsWhole) (arg11 : Memref sig .tc .vmem S512x128 .i32) (harg11 : arg11.IsWhole) (arg12 : Memref sig .tc .vmem S512x128 .f32) (harg12 : arg12.IsWhole) (arg13 : Memref sig .tc .vmem S8x128 .f32) (harg13 : arg13.IsWhole) (hc0 : cond0_0 i)
    (x0 : Vec Ideal S512x1024 .bf16) (x1 : Vec Ideal S512x1024 .bf16) (x2 : Vec Ideal S512x2048 .f32) (x3 : Vec Ideal S1024x2048 .bf16) (x4 : Vec Ideal S1024x2048 .bf16) (x5 : Vec Ideal S1x2048 .f32) (x6 : Vec Ideal S1x2048 .f32) (x7 : Vec Ideal S2048x128 .bf16) (x8 : Vec Ideal S1x128 .f32) :
    out0_A_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = blockW x0 x1 x2 x3 x4 x5 x6 x7 x8 := by
  unfold out0_A_11
  rw [View.read_writes_junk_eq_canon]
  funext j
  refine View.canon_apply_of_pieces (blockW x0 x1 x2 x3 x4 x5 x6 x7 x8) _ ?_ j (cover0_A_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 j)
  unfold kernelRun0_A
  dsimp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.v50]
  simp only [View.readAt_eq_ld, harg1.read_unread, harg2.read_unread, harg3.read_unread, harg4.read_unread, harg5.read_unread, harg6.read_unread, harg7.read_unread, harg8.read_unread, harg9.read_unread, View.ld_unit_zero (S := S1024x2048) zz, View.ld_unit_zero (S := S1x2048) zz, View.ld_unit_zero (S := S2048x128) zz, View.ld_unit_zero (S := S1x128) zz]
  intro p hp
  rcases List.mem_cons.mp hp with rfl | hp
  · intro t
    obtain ⟨q, d, rfl⟩ : ∃ (q : Fin 256) (d : Fin 128), t = (ix2 q d : S256x128.Idx) := ⟨t (0 : Fin 2), t (1 : Fin 2), eq_ix2 (n0 := 256) (n1 := 128) t⟩
    refine (ew_apply _ _ _ _ iota_at q d).trans ?_
    refine (congrArg (fun L => ewOf L d) (low_logits x0 x1 x2 x3 x4 x5 x6 x7 x8 _ _ _ q ⟨256 + q.val, by omega⟩ (fun k => congrArg x0 (ix2_val _ _ _ (by show 256 + 1 * q.val = 256 + q.val; omega) (by show 0 + 1 * k.val = k.val; omega))) (fun k => congrArg x1 (ix2_val _ _ _ (by show 256 + 1 * q.val = 256 + q.val; omega) (by show 0 + 1 * k.val = k.val; omega))) (fun k => congrArg x2 (ix2_val _ _ _ (by show 256 + 1 * q.val = 256 + q.val; omega) (by show 0 + 1 * k.val = k.val; omega))))).trans ?_
    exact blockW_at x0 x1 x2 x3 x4 x5 x6 x7 x8 _ _ _ (by show 256 + q.val = 256 + 1 * q.val; omega) (by show d.val = 0 + 1 * d.val; omega)
  · rcases List.mem_singleton.mp hp with rfl
    intro t
    obtain ⟨q, d, rfl⟩ : ∃ (q : Fin 256) (d : Fin 128), t = (ix2 q d : S256x128.Idx) := ⟨t (0 : Fin 2), t (1 : Fin 2), eq_ix2 (n0 := 256) (n1 := 128) t⟩
    refine (ew_top _ _ _ _ _ _ _ iota_at q d).trans ?_
    refine (congrArg (fun L => ewOf L d) (top_logits x0 x1 x2 x3 x4 x5 x6 x7 x8 _ _ _ q ⟨q.val, by omega⟩ (fun k => congrArg x0 (ix2_val _ _ _ (by show 0 + 1 * q.val = q.val; omega) (by show 0 + 1 * k.val = k.val; omega))) (fun k => congrArg x1 (ix2_val _ _ _ (by show 0 + 1 * q.val = q.val; omega) (by show 0 + 1 * k.val = k.val; omega))) (fun k => congrArg x2 (ix2_val _ _ _ (by show 0 + 1 * q.val = q.val; omega) (by show 0 + 1 * k.val = k.val; omega))))).trans ?_
    exact blockW_at x0 x1 x2 x3 x4 x5 x6 x7 x8 _ _ _ (by show q.val = 0 + 1 * q.val; omega) (by show d.val = 0 + 1 * d.val; omega)

theorem out11_B (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x2048 .f32) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x128 .bf16) (harg8 : arg8.IsWhole) (arg9 : Memref sig .tc .vmem S1x128 .f32) (harg9 : arg9.IsWhole) (arg10 : Memref sig .tc .vmem S512x2048 .f32) (harg10 : arg10.IsWhole) (arg11 : Memref sig .tc .vmem S512x128 .i32) (harg11 : arg11.IsWhole) (arg12 : Memref sig .tc .vmem S512x128 .f32) (harg12 : arg12.IsWhole) (arg13 : Memref sig .tc .vmem S8x128 .f32) (harg13 : arg13.IsWhole) (hc0 : ¬cond0_0 i)
    (x0 : Vec Ideal S512x1024 .bf16) (x1 : Vec Ideal S512x1024 .bf16) (x2 : Vec Ideal S512x2048 .f32) (x3 : Vec Ideal S1024x2048 .bf16) (x4 : Vec Ideal S1024x2048 .bf16) (x5 : Vec Ideal S1x2048 .f32) (x6 : Vec Ideal S1x2048 .f32) (x7 : Vec Ideal S2048x128 .bf16) (x8 : Vec Ideal S1x128 .f32) (xo12 : Vec Ideal S8x128 .f32) :
    out0_B_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo12 = blockW x0 x1 x2 x3 x4 x5 x6 x7 x8 := by
  unfold out0_B_11
  rw [View.read_writes_junk_eq_canon]
  funext j
  refine View.canon_apply_of_pieces (blockW x0 x1 x2 x3 x4 x5 x6 x7 x8) _ ?_ j (cover0_B_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo12 j)
  unfold kernelRun0_B
  dsimp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.v50]
  simp only [View.readAt_eq_ld, harg1.read_unread, harg2.read_unread, harg3.read_unread, harg4.read_unread, harg5.read_unread, harg6.read_unread, harg7.read_unread, harg8.read_unread, harg9.read_unread, View.ld_unit_zero (S := S1024x2048) zz, View.ld_unit_zero (S := S1x2048) zz, View.ld_unit_zero (S := S2048x128) zz, View.ld_unit_zero (S := S1x128) zz]
  intro p hp
  rcases List.mem_cons.mp hp with rfl | hp
  · intro t
    obtain ⟨q, d, rfl⟩ : ∃ (q : Fin 256) (d : Fin 128), t = (ix2 q d : S256x128.Idx) := ⟨t (0 : Fin 2), t (1 : Fin 2), eq_ix2 (n0 := 256) (n1 := 128) t⟩
    refine (ew_apply _ _ _ _ iota_at q d).trans ?_
    refine (congrArg (fun L => ewOf L d) (low_logits x0 x1 x2 x3 x4 x5 x6 x7 x8 _ _ _ q ⟨256 + q.val, by omega⟩ (fun k => congrArg x0 (ix2_val _ _ _ (by show 256 + 1 * q.val = 256 + q.val; omega) (by show 0 + 1 * k.val = k.val; omega))) (fun k => congrArg x1 (ix2_val _ _ _ (by show 256 + 1 * q.val = 256 + q.val; omega) (by show 0 + 1 * k.val = k.val; omega))) (fun k => congrArg x2 (ix2_val _ _ _ (by show 256 + 1 * q.val = 256 + q.val; omega) (by show 0 + 1 * k.val = k.val; omega))))).trans ?_
    exact blockW_at x0 x1 x2 x3 x4 x5 x6 x7 x8 _ _ _ (by show 256 + q.val = 256 + 1 * q.val; omega) (by show d.val = 0 + 1 * d.val; omega)
  · rcases List.mem_singleton.mp hp with rfl
    intro t
    obtain ⟨q, d, rfl⟩ : ∃ (q : Fin 256) (d : Fin 128), t = (ix2 q d : S256x128.Idx) := ⟨t (0 : Fin 2), t (1 : Fin 2), eq_ix2 (n0 := 256) (n1 := 128) t⟩
    refine (ew_top _ _ _ _ _ _ _ iota_at q d).trans ?_
    refine (congrArg (fun L => ewOf L d) (top_logits x0 x1 x2 x3 x4 x5 x6 x7 x8 _ _ _ q ⟨q.val, by omega⟩ (fun k => congrArg x0 (ix2_val _ _ _ (by show 0 + 1 * q.val = q.val; omega) (by show 0 + 1 * k.val = k.val; omega))) (fun k => congrArg x1 (ix2_val _ _ _ (by show 0 + 1 * q.val = q.val; omega) (by show 0 + 1 * k.val = k.val; omega))) (fun k => congrArg x2 (ix2_val _ _ _ (by show 0 + 1 * q.val = q.val; omega) (by show 0 + 1 * k.val = k.val; omega))))).trans ?_
    exact blockW_at x0 x1 x2 x3 x4 x5 x6 x7 x8 _ _ _ (by show q.val = 0 + 1 * q.val; omega) (by show d.val = 0 + 1 * d.val; omega)

theorem out12_A (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x2048 .f32) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x128 .bf16) (harg8 : arg8.IsWhole) (arg9 : Memref sig .tc .vmem S1x128 .f32) (harg9 : arg9.IsWhole) (arg10 : Memref sig .tc .vmem S512x2048 .f32) (harg10 : arg10.IsWhole) (arg11 : Memref sig .tc .vmem S512x128 .i32) (harg11 : arg11.IsWhole) (arg12 : Memref sig .tc .vmem S512x128 .f32) (harg12 : arg12.IsWhole) (arg13 : Memref sig .tc .vmem S8x128 .f32) (harg13 : arg13.IsWhole) (hc0 : cond0_0 i)
    (x0 : Vec Ideal S512x1024 .bf16) (x1 : Vec Ideal S512x1024 .bf16) (x2 : Vec Ideal S512x2048 .f32) (x3 : Vec Ideal S1024x2048 .bf16) (x4 : Vec Ideal S1024x2048 .bf16) (x5 : Vec Ideal S1x2048 .f32) (x6 : Vec Ideal S1x2048 .f32) (x7 : Vec Ideal S2048x128 .bf16) (x8 : Vec Ideal S1x128 .f32) (j : S8x128.Idx) :
    out0_A_12 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 j = 0 + blockC x0 x1 x2 x3 x4 x5 x6 x7 x8 (j 1) := by
  obtain ⟨q, d, rfl⟩ : ∃ (q : Fin 8) (d : Fin 128), j = (ix2 q d : S8x128.Idx) := ⟨j (0 : Fin 2), j (1 : Fin 2), eq_ix2 (n0 := 8) (n1 := 128) j⟩
  unfold out0_A_12
  rw [View.read_writes_junk_eq_canon]
  unfold kernelRun0_A
  dsimp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.v50, kernelRun0_A.sl.v312, kernelRun0_A.sl.H12_1, kernelRun0_A.sl.H12_2, kernelRun0_A.sl.v155]
  rw [View.canon_cons_unit_zero zz]
  simp only [View.readAt_eq_ld, harg1.read_unread, harg2.read_unread, harg3.read_unread, harg4.read_unread, harg5.read_unread, harg6.read_unread, harg7.read_unread, harg8.read_unread, harg9.read_unread, View.ld_unit_zero (S := S1024x2048) zz, View.ld_unit_zero (S := S1x2048) zz, View.ld_unit_zero (S := S2048x128) zz, View.ld_unit_zero (S := S1x128) zz]
  refine (tally_apply _ _ _ _ q d).trans ?_
  have hl : ∀ r : Fin 256, hitOf (logits _ _ _ r) d = _ := fun r => congrArg (fun L => hitOf L d) (low_logits x0 x1 x2 x3 x4 x5 x6 x7 x8 (View.ld x0 (Rect.unit ![256, 0] ![256, 1024] inb_S512x1024_S256x1024_256_0)) (View.ld x1 (Rect.unit ![256, 0] ![256, 1024] inb_S512x1024_S256x1024_256_0)) (View.ld x2 (Rect.unit ![256, 0] ![256, 2048] inb_S512x2048_S256x2048_256_0)) r ⟨256 + r.val, by omega⟩ (fun k => congrArg x0 (ix2_val _ _ _ (by show 256 + 1 * r.val = 256 + r.val; omega) (by show 0 + 1 * k.val = k.val; omega))) (fun k => congrArg x1 (ix2_val _ _ _ (by show 256 + 1 * r.val = 256 + r.val; omega) (by show 0 + 1 * k.val = k.val; omega))) (fun k => congrArg x2 (ix2_val _ _ _ (by show 256 + 1 * r.val = 256 + r.val; omega) (by show 0 + 1 * k.val = k.val; omega))))
  have ht : ∀ r : Fin 256, hitOf (logits _ _ _ r) d = _ := fun r => congrArg (fun L => hitOf L d) (top_logits x0 x1 x2 x3 x4 x5 x6 x7 x8 (View.ld x0 (Rect.unit ![0, 0] ![256, 1024] inb_S512x1024_S256x1024_0_0)) (View.ld x1 (Rect.unit ![0, 0] ![256, 1024] inb_S512x1024_S256x1024_0_0)) (View.ld x2 (Rect.unit ![0, 0] ![256, 2048] inb_S512x2048_S256x2048_0_0)) r ⟨r.val, by omega⟩ (fun k => congrArg x0 (ix2_val _ _ _ (by show 0 + 1 * r.val = r.val; omega) (by show 0 + 1 * k.val = k.val; omega))) (fun k => congrArg x1 (ix2_val _ _ _ (by show 0 + 1 * r.val = r.val; omega) (by show 0 + 1 * k.val = k.val; omega))) (fun k => congrArg x2 (ix2_val _ _ _ (by show 0 + 1 * r.val = r.val; omega) (by show 0 + 1 * k.val = k.val; omega))))
  refine (congrArg₂ (· + ·) ((congrFun (View.readCov_full (s := S8x128) _ _ _ _ _) (ix2 q d)).trans ((tally_top _ _ _ _ _ _ _ q d).trans (congrArg₂ (· + ·) ((congrFun (View.readCov_full (s := S8x128) _ _ _ _ _) (ix2 q d)).trans (zero_at q d)) (Finset.sum_congr rfl fun r _ => ht r)))) (Finset.sum_congr rfl fun r _ => hl r)).trans ?_
  rw [add_assoc]
  exact congrArg _ (sum_halves (fun r => hitOf (rowL x0 x1 x2 x3 x4 x5 x6 x7 x8 r) d))

theorem out12_B (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x2048 .f32) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x128 .bf16) (harg8 : arg8.IsWhole) (arg9 : Memref sig .tc .vmem S1x128 .f32) (harg9 : arg9.IsWhole) (arg10 : Memref sig .tc .vmem S512x2048 .f32) (harg10 : arg10.IsWhole) (arg11 : Memref sig .tc .vmem S512x128 .i32) (harg11 : arg11.IsWhole) (arg12 : Memref sig .tc .vmem S512x128 .f32) (harg12 : arg12.IsWhole) (arg13 : Memref sig .tc .vmem S8x128 .f32) (harg13 : arg13.IsWhole) (hc0 : ¬cond0_0 i)
    (x0 : Vec Ideal S512x1024 .bf16) (x1 : Vec Ideal S512x1024 .bf16) (x2 : Vec Ideal S512x2048 .f32) (x3 : Vec Ideal S1024x2048 .bf16) (x4 : Vec Ideal S1024x2048 .bf16) (x5 : Vec Ideal S1x2048 .f32) (x6 : Vec Ideal S1x2048 .f32) (x7 : Vec Ideal S2048x128 .bf16) (x8 : Vec Ideal S1x128 .f32) (xo12 : Vec Ideal S8x128 .f32) (j : S8x128.Idx) :
    out0_B_12 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo12 j = xo12 j + blockC x0 x1 x2 x3 x4 x5 x6 x7 x8 (j 1) := by
  obtain ⟨q, d, rfl⟩ : ∃ (q : Fin 8) (d : Fin 128), j = (ix2 q d : S8x128.Idx) := ⟨j (0 : Fin 2), j (1 : Fin 2), eq_ix2 (n0 := 8) (n1 := 128) j⟩
  unfold out0_B_12
  rw [View.read_writes_junk_eq_canon]
  unfold kernelRun0_B
  dsimp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.v50, kernelRun0_B.sl.v312, kernelRun0_B.sl.H12_1]
  rw [View.canon_cons_unit_zero zz]
  simp only [View.readAt_eq_ld, harg1.read_unread, harg2.read_unread, harg3.read_unread, harg4.read_unread, harg5.read_unread, harg6.read_unread, harg7.read_unread, harg8.read_unread, harg9.read_unread, View.ld_unit_zero (S := S1024x2048) zz, View.ld_unit_zero (S := S1x2048) zz, View.ld_unit_zero (S := S2048x128) zz, View.ld_unit_zero (S := S1x128) zz, harg13.read_unread, View.ld_unit_zero (S := S8x128) zz]
  refine (tally_apply _ _ _ _ q d).trans ?_
  have hl : ∀ r : Fin 256, hitOf (logits _ _ _ r) d = _ := fun r => congrArg (fun L => hitOf L d) (low_logits x0 x1 x2 x3 x4 x5 x6 x7 x8 (View.ld x0 (Rect.unit ![256, 0] ![256, 1024] inb_S512x1024_S256x1024_256_0)) (View.ld x1 (Rect.unit ![256, 0] ![256, 1024] inb_S512x1024_S256x1024_256_0)) (View.ld x2 (Rect.unit ![256, 0] ![256, 2048] inb_S512x2048_S256x2048_256_0)) r ⟨256 + r.val, by omega⟩ (fun k => congrArg x0 (ix2_val _ _ _ (by show 256 + 1 * r.val = 256 + r.val; omega) (by show 0 + 1 * k.val = k.val; omega))) (fun k => congrArg x1 (ix2_val _ _ _ (by show 256 + 1 * r.val = 256 + r.val; omega) (by show 0 + 1 * k.val = k.val; omega))) (fun k => congrArg x2 (ix2_val _ _ _ (by show 256 + 1 * r.val = 256 + r.val; omega) (by show 0 + 1 * k.val = k.val; omega))))
  have ht : ∀ r : Fin 256, hitOf (logits _ _ _ r) d = _ := fun r => congrArg (fun L => hitOf L d) (top_logits x0 x1 x2 x3 x4 x5 x6 x7 x8 (View.ld x0 (Rect.unit ![0, 0] ![256, 1024] inb_S512x1024_S256x1024_0_0)) (View.ld x1 (Rect.unit ![0, 0] ![256, 1024] inb_S512x1024_S256x1024_0_0)) (View.ld x2 (Rect.unit ![0, 0] ![256, 2048] inb_S512x2048_S256x2048_0_0)) r ⟨r.val, by omega⟩ (fun k => congrArg x0 (ix2_val _ _ _ (by show 0 + 1 * r.val = r.val; omega) (by show 0 + 1 * k.val = k.val; omega))) (fun k => congrArg x1 (ix2_val _ _ _ (by show 0 + 1 * r.val = r.val; omega) (by show 0 + 1 * k.val = k.val; omega))) (fun k => congrArg x2 (ix2_val _ _ _ (by show 0 + 1 * r.val = r.val; omega) (by show 0 + 1 * k.val = k.val; omega))))
  refine (congrArg₂ (· + ·) ((congrFun (View.readCov_full (s := S8x128) _ _ _ _ _) (ix2 q d)).trans ((tally_top _ _ _ _ _ _ _ q d).trans (congrArg₂ (· + ·) (rfl) (Finset.sum_congr rfl fun r _ => ht r)))) (Finset.sum_congr rfl fun r _ => hl r)).trans ?_
  rw [add_assoc]
  exact congrArg _ (sum_halves (fun r => hitOf (rowL x0 x1 x2 x3 x4 x5 x6 x7 x8 r) d))

end Cert.OutProj

end
-- ==== Proof.RouteValue.lean ====
module

public import proofs.«01_k».proof.Proof.OutProjValue
public import proofs.«01_k».proof.Proof.RouteBlock

/-! The router's results at the ideal values: what the kernel leaves, row by row. -/

@[expose] public section

set_option maxRecDepth 16384

noncomputable section

namespace Cert.OutProj

open Cert.Kernel3Ideal Cert.Kernel3Ideal.Gen
open Idealize.ShloMosaic Idealize.ShloMosaic.TcCoe Idealize.SL.Sem Cert.Route

variable (m : (ℓ : Loc nD τ sig) → Buf (Elt Ideal) ℓ)

/-- The logits a token's row gives, by lane. -/
def lanes (c : Dev nD) (r : Fin 32768) (k : Fin 128) : EReal :=
  ∑ x : Fin 2048, (valH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (ix2 r x) * (V m c main_v13 : Vec Ideal S2048x128 .bf16) (ix2 x k) + (V m c main_v19 : Vec Ideal S1x128 .f32) (ix2 (0 : Fin 1) k)

theorem iblk7_apply (c : Dev nD) (t : Fin cfg0.N) (k : Fin 2048) (l : Fin 128) :
    (iblk m c 7 t : Vec Ideal S2048x128 .bf16) (ix2 k l) = (V m c main_v13 : Vec Ideal S2048x128 .bf16) (ix2 k l) := by
  unfold iblk
  refine (View.read_apply _ _).trans ((cast_eq _ _).trans ?_)
  have hr := Pipeline.Window.rect_emb_val (cfg0.win 7) t (ix2 k l : S2048x128.Idx)
  have hi : ((cfg0.win 7).rect t).emb (ix2 k l : S2048x128.Idx) = (ix2 k l : S2048x128.Idx) := by
    refine ix2_val _ k l ((hr (0 : Fin 2)).trans ?_) ((hr (1 : Fin 2)).trans ?_)
    · show 0 * 2048 + k.val = k.val
      rw [Nat.zero_mul, Nat.zero_add]
    · show 0 * 128 + l.val = l.val
      rw [Nat.zero_mul, Nat.zero_add]
  exact congrArg (V m c main_v13 : Vec Ideal S2048x128 .bf16) hi

theorem iblk8_apply (c : Dev nD) (t : Fin cfg0.N) (k : Fin 1) (l : Fin 128) :
    (iblk m c 8 t : Vec Ideal S1x128 .f32) (ix2 k l) = (V m c main_v19 : Vec Ideal S1x128 .f32) (ix2 k l) := by
  unfold iblk
  refine (View.read_apply _ _).trans ((cast_eq _ _).trans ?_)
  have hr := Pipeline.Window.rect_emb_val (cfg0.win 8) t (ix2 k l : S1x128.Idx)
  have hi : ((cfg0.win 8).rect t).emb (ix2 k l : S1x128.Idx) = (ix2 k l : S1x128.Idx) := by
    refine ix2_val _ k l ((hr (0 : Fin 2)).trans ?_) ((hr (1 : Fin 2)).trans ?_)
    · show 0 * 1 + k.val = k.val
      rw [Nat.zero_mul, Nat.zero_add]
    · show 0 * 128 + l.val = l.val
      rw [Nat.zero_mul, Nat.zero_add]
  exact congrArg (V m c main_v19 : Vec Ideal S1x128 .f32) hi

theorem rowL_at (c : Dev nD) (t : Fin cfg0.N) (a : Fin 64) (ha : (grid0.coords t 0).val = a.val) (q : Fin 512) :
    rowL (iblk m c 0 t) (iblk m c 1 t) (iblk m c 2 t) (iblk m c 3 t) (iblk m c 4 t) (iblk m c 5 t) (iblk m c 6 t) (iblk m c 7 t) (iblk m c 8 t) q = lanes m c (⟨a.val * 512 + q.val, by omega⟩ : Fin 32768) := by
  funext k
  unfold rowL lanes
  exact congrArg₂ (· + ·) (Finset.sum_congr rfl fun x _ => congrArg₂ (· * ·) (block_at m c t a ha q x) (iblk7_apply m c t x k)) (iblk8_apply m c t 0 k)

theorem coord_of (t : Fin cfg0.N) : (grid0.coords t 0).val = t.val := by
  have hN : grid0.N = 64 := N_0
  have ht : t.val < grid0.N := t.isLt
  rw [Pipeline.Grid.coords_val (G := grid0) _ 0 (S := 1) (B := 64) (by decide) (by decide)]
  show t.val / 1 % 64 = t.val
  omega

/-- What the router's ids are, from the logits. -/
def valE (c : Dev nD) : Vec Ideal S32768x128 .i32 := fun i => eidOf (lanes m c (i 0)) (i 1)

theorem tf10 (i : grid0.Coords) (a : Fin 64) (ha : (i 0).val = a.val) : cc0_transform_10 i 0 = a.val ∧ cc0_transform_10 i 1 = 0 := by
  have h := a.isLt
  refine ⟨?_, rfl⟩
  show (BitVec.ofNat 32 (i 0).val).toNat = a.val
  rw [BitVec.toNat_ofNat, ha]
  exact Nat.mod_eq_of_lt (by omega)

theorem rect10 (t : Fin cfg0.N) (a : Fin 64) (ha : (grid0.coords t 0).val = a.val) (q : Fin 512) (d : Fin 128) :
    (((cfg0.win 10).rect t).emb (ix2 q d : S512x128.Idx) : S32768x128.Idx) = ix2 (⟨a.val * 512 + q.val, by omega⟩ : Fin 32768) d := by
  obtain ⟨h0, h1⟩ := tf10 (grid0.coords t) a ha
  have hr := Pipeline.Window.rect_emb_val (cfg0.win 10) t (ix2 q d : S512x128.Idx)
  refine ix2_val _ _ d ((hr (0 : Fin 2)).trans ?_) ((hr (1 : Fin 2)).trans ?_)
  · show cc0_transform_10 (grid0.coords t) 0 * 512 + q.val = a.val * 512 + q.val
    rw [h0]
  · show cc0_transform_10 (grid0.coords t) 1 * 128 + d.val = d.val
    rw [h1, Nat.zero_mul, Nat.zero_add]

theorem block10_eq (c : Dev nD) (t : Fin cfg0.N) :
    (cfg0.win 10).cut (grid0.coords t) (blockE (iblk m c 0 t) (iblk m c 1 t) (iblk m c 2 t) (iblk m c 3 t) (iblk m c 4 t) (iblk m c 5 t) (iblk m c 6 t) (iblk m c 7 t) (iblk m c 8 t))
      = ((cfg0.win 10).blk t).view.read (Elt Ideal) (valE m c) := by
  have ha : (grid0.coords t 0).val < 64 := (grid0.coords t 0).isLt
  have hb : ∀ (q : Fin 512) (d : Fin 128), blockE (iblk m c 0 t) (iblk m c 1 t) (iblk m c 2 t) (iblk m c 3 t) (iblk m c 4 t) (iblk m c 5 t) (iblk m c 6 t) (iblk m c 7 t) (iblk m c 8 t) (ix2 q d) = valE m c (ix2 (⟨(grid0.coords t 0).val * 512 + q.val, by omega⟩ : Fin 32768) d) := fun q d =>
    congrArg (fun L => eidOf L d) (rowL_at m c t ⟨(grid0.coords t 0).val, ha⟩ rfl q)
  generalize blockE (iblk m c 0 t) (iblk m c 1 t) (iblk m c 2 t) (iblk m c 3 t) (iblk m c 4 t) (iblk m c 5 t) (iblk m c 6 t) (iblk m c 7 t) (iblk m c 8 t) = X at hb ⊢
  generalize valE m c = Y at hb ⊢
  funext j
  obtain ⟨q, d, rfl⟩ : ∃ (q : Fin 512) (d : Fin 128), j = (ix2 q d : S512x128.Idx) := ⟨j (0 : Fin 2), j (1 : Fin 2), eq_ix2 (n0 := 512) (n1 := 128) j⟩
  refine Eq.trans (b := X (ix2 q d)) rfl ?_
  refine Eq.trans ?_ ((View.read_apply _ _).trans (cast_eq _ _)).symm
  refine Eq.trans ?_ (congrArg Y (rect10 t ⟨(grid0.coords t 0).val, ha⟩ rfl q d).symm)
  exact hb q d

theorem flushed10_eq (c : Dev nD) (t : Fin cfg0.N) :
    (dats m 0 c).flushed 10 t = ((cfg0.win 10).blk t).view.read (Elt Ideal) (valE m c) := by
  by_cases h : t.val % 64 = 0
  · refine (Cert.Kernel3Ideal.Value.flushed10_A m c t h).trans ?_
    rw [out10_A]
    exact block10_eq m c t
  · refine (Cert.Kernel3Ideal.Value.flushed10_B m c t h).trans ?_
    rw [out10_B]
    exact block10_eq m c t

theorem cover10 (i : S32768x128.Idx) : ∃ t : Fin cfg0.N, (cfg0.win 10).flush t = true ∧ i ∈ ((cfg0.win 10).blk t).view.set := by
  have hi : (i 0).val < 32768 := (i 0).isLt
  obtain ⟨t, hc⟩ := point_of_row (i 0).val hi
  refine ⟨t, flush0_10 t, ?_⟩
  obtain ⟨h0, h1⟩ := tf10 (grid0.coords t) ⟨(i 0).val / 512, by omega⟩ hc
  show i ∈ ((View.whole main_v24_1).slice ((cfg0.win 10).rect t)).set
  erw [View.set_slice_whole]
  refine (Pipeline.Window.mem_rect_iff (cfg0.win 10) t i (by rfl)).mpr fun b => ?_
  have hb : b = (0 : Fin 2) ∨ b = (1 : Fin 2) := by
    match b with
    | ⟨0, _⟩ => exact .inl rfl
    | ⟨1, _⟩ => exact .inr rfl
  rcases hb with rfl | rfl
  · show cc0_transform_10 (grid0.coords t) 0 * 512 ≤ (i 0).val ∧ (i 0).val < cc0_transform_10 (grid0.coords t) 0 * 512 + 512
    rw [h0]
    show (i 0).val / 512 * 512 ≤ (i 0).val ∧ (i 0).val < (i 0).val / 512 * 512 + 512
    omega
  · show cc0_transform_10 (grid0.coords t) 1 * 128 ≤ (i 1).val ∧ (i 1).val < cc0_transform_10 (grid0.coords t) 1 * 128 + 128
    have : (i 1).val < 128 := (i 1).isLt
    rw [h1]
    omega

theorem final10 (c : Dev nD) : (dats m 0 c).arrAt 10 cfg0.N = valE m c :=
  (dats m 0 c).arrAt_eq_of_cover 10 _ (fun t _ => flushed10_eq m c t) cover10

/-- What the router's weights are, from the logits. -/
def valW (c : Dev nD) : Vec Ideal S32768x128 .f32 := fun i => ewOf (lanes m c (i 0)) (i 1)

theorem tf11 (i : grid0.Coords) (a : Fin 64) (ha : (i 0).val = a.val) : cc0_transform_11 i 0 = a.val ∧ cc0_transform_11 i 1 = 0 := by
  have h := a.isLt
  refine ⟨?_, rfl⟩
  show (BitVec.ofNat 32 (i 0).val).toNat = a.val
  rw [BitVec.toNat_ofNat, ha]
  exact Nat.mod_eq_of_lt (by omega)

theorem rect11 (t : Fin cfg0.N) (a : Fin 64) (ha : (grid0.coords t 0).val = a.val) (q : Fin 512) (d : Fin 128) :
    (((cfg0.win 11).rect t).emb (ix2 q d : S512x128.Idx) : S32768x128.Idx) = ix2 (⟨a.val * 512 + q.val, by omega⟩ : Fin 32768) d := by
  obtain ⟨h0, h1⟩ := tf11 (grid0.coords t) a ha
  have hr := Pipeline.Window.rect_emb_val (cfg0.win 11) t (ix2 q d : S512x128.Idx)
  refine ix2_val _ _ d ((hr (0 : Fin 2)).trans ?_) ((hr (1 : Fin 2)).trans ?_)
  · show cc0_transform_11 (grid0.coords t) 0 * 512 + q.val = a.val * 512 + q.val
    rw [h0]
  · show cc0_transform_11 (grid0.coords t) 1 * 128 + d.val = d.val
    rw [h1, Nat.zero_mul, Nat.zero_add]

theorem block11_eq (c : Dev nD) (t : Fin cfg0.N) :
    (cfg0.win 11).cut (grid0.coords t) (blockW (iblk m c 0 t) (iblk m c 1 t) (iblk m c 2 t) (iblk m c 3 t) (iblk m c 4 t) (iblk m c 5 t) (iblk m c 6 t) (iblk m c 7 t) (iblk m c 8 t))
      = ((cfg0.win 11).blk t).view.read (Elt Ideal) (valW m c) := by
  have ha : (grid0.coords t 0).val < 64 := (grid0.coords t 0).isLt
  have hb : ∀ (q : Fin 512) (d : Fin 128), blockW (iblk m c 0 t) (iblk m c 1 t) (iblk m c 2 t) (iblk m c 3 t) (iblk m c 4 t) (iblk m c 5 t) (iblk m c 6 t) (iblk m c 7 t) (iblk m c 8 t) (ix2 q d) = valW m c (ix2 (⟨(grid0.coords t 0).val * 512 + q.val, by omega⟩ : Fin 32768) d) := fun q d =>
    congrArg (fun L => ewOf L d) (rowL_at m c t ⟨(grid0.coords t 0).val, ha⟩ rfl q)
  generalize blockW (iblk m c 0 t) (iblk m c 1 t) (iblk m c 2 t) (iblk m c 3 t) (iblk m c 4 t) (iblk m c 5 t) (iblk m c 6 t) (iblk m c 7 t) (iblk m c 8 t) = X at hb ⊢
  generalize valW m c = Y at hb ⊢
  funext j
  obtain ⟨q, d, rfl⟩ : ∃ (q : Fin 512) (d : Fin 128), j = (ix2 q d : S512x128.Idx) := ⟨j (0 : Fin 2), j (1 : Fin 2), eq_ix2 (n0 := 512) (n1 := 128) j⟩
  refine Eq.trans (b := X (ix2 q d)) rfl ?_
  refine Eq.trans ?_ ((View.read_apply _ _).trans (cast_eq _ _)).symm
  refine Eq.trans ?_ (congrArg Y (rect11 t ⟨(grid0.coords t 0).val, ha⟩ rfl q d).symm)
  exact hb q d

theorem flushed11_eq (c : Dev nD) (t : Fin cfg0.N) :
    (dats m 0 c).flushed 11 t = ((cfg0.win 11).blk t).view.read (Elt Ideal) (valW m c) := by
  by_cases h : t.val % 64 = 0
  · refine (Cert.Kernel3Ideal.Value.flushed11_A m c t h).trans ?_
    rw [out11_A]
    exact block11_eq m c t
  · refine (Cert.Kernel3Ideal.Value.flushed11_B m c t h).trans ?_
    rw [out11_B]
    exact block11_eq m c t

theorem cover11 (i : S32768x128.Idx) : ∃ t : Fin cfg0.N, (cfg0.win 11).flush t = true ∧ i ∈ ((cfg0.win 11).blk t).view.set := by
  have hi : (i 0).val < 32768 := (i 0).isLt
  obtain ⟨t, hc⟩ := point_of_row (i 0).val hi
  refine ⟨t, flush0_11 t, ?_⟩
  obtain ⟨h0, h1⟩ := tf11 (grid0.coords t) ⟨(i 0).val / 512, by omega⟩ hc
  show i ∈ ((View.whole main_v24_2).slice ((cfg0.win 11).rect t)).set
  erw [View.set_slice_whole]
  refine (Pipeline.Window.mem_rect_iff (cfg0.win 11) t i (by rfl)).mpr fun b => ?_
  have hb : b = (0 : Fin 2) ∨ b = (1 : Fin 2) := by
    match b with
    | ⟨0, _⟩ => exact .inl rfl
    | ⟨1, _⟩ => exact .inr rfl
  rcases hb with rfl | rfl
  · show cc0_transform_11 (grid0.coords t) 0 * 512 ≤ (i 0).val ∧ (i 0).val < cc0_transform_11 (grid0.coords t) 0 * 512 + 512
    rw [h0]
    show (i 0).val / 512 * 512 ≤ (i 0).val ∧ (i 0).val < (i 0).val / 512 * 512 + 512
    omega
  · show cc0_transform_11 (grid0.coords t) 1 * 128 ≤ (i 1).val ∧ (i 1).val < cc0_transform_11 (grid0.coords t) 1 * 128 + 128
    have : (i 1).val < 128 := (i 1).isLt
    rw [h1]
    omega

theorem final11 (c : Dev nD) : (dats m 0 c).arrAt 11 cfg0.N = valW m c :=
  (dats m 0 c).arrAt_eq_of_cover 11 _ (fun t _ => flushed11_eq m c t) cover11

/-- Whether a row picks an expert's lane, for any row number. -/
def hitN (c : Dev nD) (k : Fin 128) (n : Nat) : EReal := if h : n < 32768 then hitOf (lanes m c ⟨n, h⟩) k else 0

theorem blockC_at (c : Dev nD) (t : Fin cfg0.N) (k : Fin 128) :
    blockC (iblk m c 0 t) (iblk m c 1 t) (iblk m c 2 t) (iblk m c 3 t) (iblk m c 4 t) (iblk m c 5 t) (iblk m c 6 t) (iblk m c 7 t) (iblk m c 8 t) k = ∑ x ∈ Finset.range 512, hitN m c k (512 * t.val + x) := by
  have hN : grid0.N = 64 := N_0
  have ht : t.val < grid0.N := t.isLt
  rw [Finset.sum_range]
  unfold blockC
  refine Finset.sum_congr rfl fun q _ => ?_
  have hq := q.isLt
  rw [rowL_at m c t ⟨t.val, by omega⟩ (coord_of t) q]
  unfold hitN
  rw [dif_pos (show 512 * t.val + q.val < 32768 by omega)]
  exact congrArg (fun r => hitOf (lanes m c r) k) (Fin.ext (by show t.val * 512 + q.val = 512 * t.val + q.val; omega))

theorem counts_at (c : Dev nD) : ∀ (n : Nat) (hn : n < cfg0.N) (j : S8x128.Idx),
    (outsAt0 m c n hn).2.2.2 j = ∑ x ∈ Finset.range (512 * (n + 1)), hitN m c (j 1) x
  | 0, hn, j => by
    refine (congrFun (congrArg (fun p => p.2.2.2) (outsAt0_A m c ⟨0, hn⟩ rfl)) j).trans ?_
    dsimp only
    rw [out12_A]
    rw [blockC_at m c ⟨0, hn⟩ (j 1), zero_add]
    exact Finset.sum_congr rfl fun x _ => congrArg _ (by show 512 * 0 + x = x; omega)
  | n + 1, hn, j => by
    have hN : grid0.N = 64 := N_0
    have hn' : n + 1 < grid0.N := hn
    refine (congrFun (congrArg (fun p => p.2.2.2) (outsAt0_B m c ⟨n + 1, hn⟩ (by show ¬ (n + 1) % 64 = 0; omega))) j).trans ?_
    dsimp only
    rw [out12_B]
    rw [blockC_at m c ⟨n + 1, hn⟩ (j 1), show 512 * (n + 1 + 1) = 512 * (n + 1) + 512 by omega, Finset.sum_range_add]
    exact congrArg (· + _) (counts_at c n (Nat.lt_of_succ_lt hn) j)

/-- What the counts are, from the logits. -/
def valC (c : Dev nD) : Vec Ideal S8x128 .f32 := fun i => ∑ r : Fin 32768, hitOf (lanes m c r) (i 1)

theorem rect12 (t : Fin cfg0.N) (q : Fin 8) (d : Fin 128) :
    (((cfg0.win 12).rect t).emb (ix2 q d : S8x128.Idx) : S8x128.Idx) = ix2 q d := by
  have hr := Pipeline.Window.rect_emb_val (cfg0.win 12) t (ix2 q d : S8x128.Idx)
  refine ix2_val _ _ d ((hr (0 : Fin 2)).trans ?_) ((hr (1 : Fin 2)).trans ?_)
  · show 0 * 8 + q.val = q.val
    omega
  · show 0 * 128 + d.val = d.val
    omega

theorem flushed12_eq (c : Dev nD) (t : Fin cfg0.N) (hf : (cfg0.win 12).flush t = true) :
    (dats m 0 c).flushed 12 t = ((cfg0.win 12).blk t).view.read (Elt Ideal) (valC m c) := by
  have hN : grid0.N = 64 := N_0
  have ht : t.val < grid0.N := t.isLt
  have h63 := (flush0_12 t).mp hf
  refine (Cert.Kernel3Ideal.Value.flushed12 m c t).trans ?_
  have hb : ∀ (q : Fin 8) (d : Fin 128), (outsAt0 m c t.val t.isLt).2.2.2 (ix2 q d) = valC m c (ix2 q d) := fun q d => by
    refine (counts_at m c t.val t.isLt (ix2 q d)).trans ?_
    rw [show 512 * (t.val + 1) = 32768 by omega, Finset.sum_range]
    exact Finset.sum_congr rfl fun r _ => dif_pos r.isLt
  generalize (outsAt0 m c t.val t.isLt).2.2.2 = X at hb ⊢
  generalize valC m c = Y at hb ⊢
  funext j
  obtain ⟨q, d, rfl⟩ : ∃ (q : Fin 8) (d : Fin 128), j = (ix2 q d : S8x128.Idx) := ⟨j (0 : Fin 2), j (1 : Fin 2), eq_ix2 (n0 := 8) (n1 := 128) j⟩
  refine Eq.trans (b := X (ix2 q d)) rfl ?_
  refine Eq.trans ?_ ((View.read_apply _ _).trans (cast_eq _ _)).symm
  refine Eq.trans ?_ (congrArg Y (rect12 t q d).symm)
  exact hb q d

theorem cover12 (i : S8x128.Idx) : ∃ t : Fin cfg0.N, (cfg0.win 12).flush t = true ∧ i ∈ ((cfg0.win 12).blk t).view.set := by
  have hN : grid0.N = 64 := N_0
  refine ⟨⟨63, by show _ < grid0.N; omega⟩, (flush0_12 _).mpr rfl, ?_⟩
  generalize (⟨63, _⟩ : Fin cfg0.N) = t
  show i ∈ ((View.whole main_v24_3).slice ((cfg0.win 12).rect t)).set
  erw [View.set_slice_whole]
  refine (Pipeline.Window.mem_rect_iff (cfg0.win 12) t i (by rfl)).mpr fun b => ?_
  have hb : b = (0 : Fin 2) ∨ b = (1 : Fin 2) := by
    match b with
    | ⟨0, _⟩ => exact .inl rfl
    | ⟨1, _⟩ => exact .inr rfl
  rcases hb with rfl | rfl
  · show 0 * 8 ≤ (i 0).val ∧ (i 0).val < 0 * 8 + 8
    have : (i 0).val < 8 := (i 0).isLt
    omega
  · show 0 * 128 ≤ (i 1).val ∧ (i 1).val < 0 * 128 + 128
    have : (i 1).val < 128 := (i 1).isLt
    omega

theorem final12 (c : Dev nD) : (dats m 0 c).arrAt 12 cfg0.N = valC m c :=
  (dats m 0 c).arrAt_eq_of_cover 12 _ (flushed12_eq m c) cover12

end Cert.OutProj

end
-- ==== Proof.RouteHost.lean ====
module

public import proofs.«01_k».proof.Proof.RouteValue
public import Idealize.ShloMosaic.Lib.KernelVsHost

/-! The router's joined weights and biases, lane by lane. -/

@[expose] public section

set_option maxRecDepth 16384

noncomputable section

namespace Cert.OutProj

open Cert.Kernel3Ideal Cert.Kernel3Ideal.Gen
open Idealize.ShloMosaic Idealize.ShloMosaic.TcCoe Idealize.SL.Sem Cert.Route

variable (m : (ℓ : Loc nD τ sig) → Buf (Elt Ideal) ℓ)

/-- The joined router weights, padded to a full row of lanes. -/
def wpad (x6 : Vec Ideal S1x2048x4 .f32) (x8 : Vec Ideal S1x4x2048x8 .f32) : FVec Ideal S2048x128 .f32 :=
  pad S2048x128 ![0, 0] ![0, 92] ![0, 0]
    (concatenate S2048x36 1 [⟨S2048x4, (shapeCast S2048x4 x6 shapeCasts_S1x2048x4_S2048x4 : FVec Ideal S2048x4 .f32)⟩,
      ⟨S2048x32, (shapeCast S2048x32 (transpose S2048x4x8 [1, 0, 2] (shapeCast S4x2048x8 x8 shapeCasts_S1x4x2048x8_S4x2048x8 : FVec Ideal S4x2048x8 .f32) transposes_S4x2048x8_S2048x4x8_1_0_2 : FVec Ideal S2048x4x8 .f32) shapeCasts_S2048x4x8_S2048x32 : FVec Ideal S2048x32 .f32)⟩] concatenates_S2048x4_S2048x32_S2048x36_d1 : FVec Ideal S2048x36 .f32)
    (sitofp .f32 (constantI S_ 32 0#32) : FVec Ideal S_ .f32) pads_S2048x36_S2048x128_000_0920 h_S_

/-- The same, rounded. -/
def wcat (x6 : Vec Ideal S1x2048x4 .f32) (x8 : Vec Ideal S1x4x2048x8 .f32) : FVec Ideal S2048x128 .bf16 :=
  truncf .bf16 (wpad x6 x8) bitsLt_bf16_f32

/-- The joined router biases, padded to a full row of lanes. -/
def bcat (x7 : Vec Ideal S1x4 .f32) (x9 : Vec Ideal S1x4x8 .f32) : FVec Ideal S1x128 .f32 :=
  pad S1x128 ![0, 0] ![0, 92] ![0, 0]
    (shapeCast S1x36 (concatenate S36 0 [⟨S4, (shapeCast S4 x7 shapeCasts_S1x4_S4 : FVec Ideal S4 .f32)⟩,
      ⟨S32, (shapeCast S32 (shapeCast S4x8 x9 shapeCasts_S1x4x8_S4x8 : FVec Ideal S4x8 .f32) shapeCasts_S4x8_S32 : FVec Ideal S32 .f32)⟩] concatenates_S4_S32_S36_d0 : FVec Ideal S36 .f32) shapeCasts_S36_S1x36 : FVec Ideal S1x36 .f32)
    (sitofp .f32 (constantI S_ 32 0#32) : FVec Ideal S_ .f32) pads_S1x36_S1x128_000_0920 h_S_

theorem V_v13 (c : Dev nD) : V m c main_v13 = wcat (m ((c : Thread nD τ).loc main_arg6)) (m ((c : Thread nD τ).loc main_arg8)) := by
  simp only [V, hostOps0, hostOps0_1, hostOps0_2, hostOps0_3, hostOps0_4, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  rfl

theorem V_v19 (c : Dev nD) : V m c main_v19 = bcat (m ((c : Thread nD τ).loc main_arg7)) (m ((c : Thread nD τ).loc main_arg9)) := by
  simp only [V, hostOps0, hostOps0_1, hostOps0_2, hostOps0_3, hostOps0_4, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  rfl

theorem ix2_pad {n0 n1 n2 : Nat} (q : Fin n0) (k : Fin n1) (l : Fin n2) (h : k.val = l.val) :
    ∀ a : Fin 2, ((ix2 q l : (⟨2, ![n0, n2]⟩ : Shape).Idx) a).val = (![0, 0] : Fin 2 → Nat) a + ((ix2 q k : (⟨2, ![n0, n1]⟩ : Shape).Idx) a).val * ((![0, 0] : Fin 2 → Nat) a + 1)
  | ⟨0, _⟩ => by show q.val = 0 + q.val * (0 + 1); omega
  | ⟨1, _⟩ => by show l.val = 0 + k.val * (0 + 1); omega

theorem wpad_lo (x6 : Vec Ideal S1x2048x4 .f32) (x8 : Vec Ideal S1x4x2048x8 .f32) (x : Fin 2048) (k : Fin 4) :
    wpad x6 x8 (ix2 x (⟨k.val, by omega⟩ : Fin 128)) = x6 (ix3 (0 : Fin 1) x k) := by
  unfold wpad
  refine (pad_apply_of_inside _ _ _ _ _ _ _ _ (ix2 x (⟨k.val, by omega⟩ : Fin 36) : S2048x36.Idx) (ix2_pad x (⟨k.val, by omega⟩ : Fin 36) (⟨k.val, by omega⟩ : Fin 128) rfl)).trans ?_
  refine (concatenate_pair_apply_left (t := S2048x36) (s₁ := S2048x4) 1 _ _ _ _ rfl (ix2 x k : S2048x4.Idx) (fun b => ?_)).trans ?_
  · match b with
    | ⟨0, _⟩ => rfl
    | ⟨1, _⟩ => rfl
  refine shapeCast_apply x6 shapeCasts_S1x2048x4_S2048x4 (ix2 x k) (ix3 (0 : Fin 1) x k) ?_
  simp only [Shape.rowMajor_val_three, Shape.rowMajor_val_two]
  show (0 * 2048 + x.val) * 4 + k.val = x.val * 4 + k.val
  omega

theorem wpad_hi (x6 : Vec Ideal S1x2048x4 .f32) (x8 : Vec Ideal S1x4x2048x8 .f32) (x : Fin 2048) (p : Fin 4) (k : Fin 8) :
    wpad x6 x8 (ix2 x (⟨4 + 8 * p.val + k.val, by omega⟩ : Fin 128)) = x8 (ix4 (0 : Fin 1) p x k) := by
  unfold wpad
  refine (pad_apply_of_inside _ _ _ _ _ _ _ _ (ix2 x (⟨4 + 8 * p.val + k.val, by omega⟩ : Fin 36) : S2048x36.Idx) (ix2_pad x (⟨4 + 8 * p.val + k.val, by omega⟩ : Fin 36) (⟨4 + 8 * p.val + k.val, by omega⟩ : Fin 128) rfl)).trans ?_
  refine (concatenate_pair_apply_right (t := S2048x36) (s₁ := S2048x4) (s₂ := S2048x32) 1 _ _ _ _ rfl rfl (ix2 x (⟨8 * p.val + k.val, by omega⟩ : Fin 32) : S2048x32.Idx) (fun b hb => ?_) ?_).trans ?_
  · match b with
    | ⟨0, _⟩ => rfl
    | ⟨1, _⟩ => exact absurd rfl hb
  · show 8 * p.val + k.val + 4 = 4 + 8 * p.val + k.val
    omega
  refine (shapeCast_apply _ shapeCasts_S2048x4x8_S2048x32 (ix2 x (⟨8 * p.val + k.val, by omega⟩ : Fin 32)) (ix3 x p k) ?_).trans ?_
  · simp only [Shape.rowMajor_val_three, Shape.rowMajor_val_two]
    show (x.val * 4 + p.val) * 8 + k.val = x.val * 32 + (8 * p.val + k.val)
    omega
  refine (transpose_apply [1, 0, 2] _ transposes_S4x2048x8_S2048x4x8_1_0_2 (ix3 x p k) (ix3 p x k) (fun b => ?_)).trans ?_
  · match b with
    | ⟨0, _⟩ => rfl
    | ⟨1, _⟩ => rfl
    | ⟨2, _⟩ => rfl
  refine shapeCast_apply x8 shapeCasts_S1x4x2048x8_S4x2048x8 (ix3 p x k) (ix4 (0 : Fin 1) p x k) ?_
  simp only [Shape.rowMajor_val_three, Shape.rowMajor_val_four]
  show ((0 * 4 + p.val) * 2048 + x.val) * 8 + k.val = (p.val * 2048 + x.val) * 8 + k.val
  omega

theorem bcat_at (x7 : Vec Ideal S1x4 .f32) (x9 : Vec Ideal S1x4x8 .f32) (k : Fin 36) (l : Fin 128) (h : k.val = l.val) :
    bcat x7 x9 (ix2 (0 : Fin 1) l) = (concatenate S36 0 [⟨S4, (shapeCast S4 x7 shapeCasts_S1x4_S4 : FVec Ideal S4 .f32)⟩,
      ⟨S32, (shapeCast S32 (shapeCast S4x8 x9 shapeCasts_S1x4x8_S4x8 : FVec Ideal S4x8 .f32) shapeCasts_S4x8_S32 : FVec Ideal S32 .f32)⟩] concatenates_S4_S32_S36_d0 : FVec Ideal S36 .f32) (ix1 k) := by
  unfold bcat
  refine (pad_apply_of_inside _ _ _ _ _ _ _ _ (ix2 (0 : Fin 1) k : S1x36.Idx) (ix2_pad (0 : Fin 1) k l h)).trans ?_
  refine shapeCast_apply _ shapeCasts_S36_S1x36 (ix2 (0 : Fin 1) k) (ix1 k) ?_
  simp only [Shape.rowMajor_val_one, Shape.rowMajor_val_two]
  show k.val = 0 * 36 + k.val
  omega

theorem bcat_lo (x7 : Vec Ideal S1x4 .f32) (x9 : Vec Ideal S1x4x8 .f32) (k : Fin 4) :
    bcat x7 x9 (ix2 (0 : Fin 1) (⟨k.val, by omega⟩ : Fin 128)) = x7 (ix2 (0 : Fin 1) k) := by
  refine (bcat_at x7 x9 ⟨k.val, by omega⟩ _ rfl).trans ?_
  refine (concatenate_pair_apply_left (t := S36) (s₁ := S4) 0 _ _ _ _ rfl (ix1 k : S4.Idx) (fun b => ?_)).trans ?_
  · match b with
    | ⟨0, _⟩ => rfl
  refine shapeCast_apply x7 shapeCasts_S1x4_S4 (ix1 k) (ix2 (0 : Fin 1) k) ?_
  simp only [Shape.rowMajor_val_one, Shape.rowMajor_val_two]
  show 0 * 4 + k.val = k.val
  omega

theorem bcat_hi (x7 : Vec Ideal S1x4 .f32) (x9 : Vec Ideal S1x4x8 .f32) (p : Fin 4) (k : Fin 8) :
    bcat x7 x9 (ix2 (0 : Fin 1) (⟨4 + 8 * p.val + k.val, by omega⟩ : Fin 128)) = x9 (ix3 (0 : Fin 1) p k) := by
  refine (bcat_at x7 x9 ⟨4 + 8 * p.val + k.val, by omega⟩ _ rfl).trans ?_
  refine (concatenate_pair_apply_right (t := S36) (s₁ := S4) (s₂ := S32) 0 _ _ _ _ rfl rfl (ix1 (⟨8 * p.val + k.val, by omega⟩ : Fin 32) : S32.Idx) (fun b hb => ?_) ?_).trans ?_
  · match b with
    | ⟨0, _⟩ => exact absurd rfl hb
  · show 8 * p.val + k.val + 4 = 4 + 8 * p.val + k.val
    omega
  refine (shapeCast_apply _ shapeCasts_S4x8_S32 (ix1 (⟨8 * p.val + k.val, by omega⟩ : Fin 32)) (ix2 p k) ?_).trans ?_
  · simp only [Shape.rowMajor_val_one, Shape.rowMajor_val_two]
    show p.val * 8 + k.val = 8 * p.val + k.val
    omega
  refine shapeCast_apply x9 shapeCasts_S1x4x8_S4x8 (ix2 p k) (ix3 (0 : Fin 1) p k) ?_
  simp only [Shape.rowMajor_val_three, Shape.rowMajor_val_two]
  show (0 * 4 + p.val) * 8 + k.val = p.val * 8 + k.val
  omega

/-- A row's logits for the groups, and for a group's experts. -/
def gOf (h : Vec Ideal S32768x2048 .f32) (x6 : Vec Ideal S1x2048x4 .f32) (x7 : Vec Ideal S1x4 .f32) (r : Fin 32768) (k : Fin 4) : EReal :=
  ∑ x : Fin 2048, h (ix2 r x) * x6 (ix3 (0 : Fin 1) x k) + x7 (ix2 (0 : Fin 1) k)
def eOf (h : Vec Ideal S32768x2048 .f32) (x8 : Vec Ideal S1x4x2048x8 .f32) (x9 : Vec Ideal S1x4x8 .f32) (r : Fin 32768) (p : Fin 4) (k : Fin 8) : EReal :=
  ∑ x : Fin 2048, h (ix2 r x) * x8 (ix4 (0 : Fin 1) p x k) + x9 (ix3 (0 : Fin 1) p k)

theorem lanes_lo (c : Dev nD) (r : Fin 32768) (k : Fin 4) :
    lanes m c r ⟨k.val, by omega⟩ = gOf (valH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) (m ((c : Thread nD τ).loc main_arg7)) r k := by
  unfold lanes gOf
  rw [V_v13, V_v19]
  exact congrArg₂ (· + ·) (Finset.sum_congr rfl fun x _ => congrArg _ (wpad_lo _ _ x k)) (bcat_lo _ _ k)

theorem lanes_hi (c : Dev nD) (r : Fin 32768) (p : Fin 4) (k : Fin 8) :
    lanes m c r ⟨4 + 8 * p.val + k.val, by omega⟩ = eOf (valH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg8)) (m ((c : Thread nD τ).loc main_arg9)) r p k := by
  unfold lanes eOf
  rw [V_v13, V_v19]
  exact congrArg₂ (· + ·) (Finset.sum_congr rfl fun x _ => congrArg _ (wpad_hi _ _ x p k)) (bcat_hi _ _ p k)

end Cert.OutProj

end
-- ==== Proof.RouteRef.lean ====
module

public import proofs.«01_k».proof.Proof.RouteHost

@[expose] public section

set_option maxRecDepth 16384

noncomputable section

namespace Cert.OutProj

open Cert.Reference3Ideal Cert.Reference3Ideal.Gen
open Cert.Reference3Ideal.Read
open Idealize.ShloMosaic Idealize.ShloMosaic.TcCoe Idealize.SL.Sem Cert.Route

theorem word_int (n : Nat) (h : n < 2147483648) : (BitVec.ofNat 32 n).toInt.toNat = n := by
  rw [BitVec.toInt_eq_toNat_of_lt (by rw [BitVec.toNat_ofNat, Nat.mod_eq_of_lt (by omega)]; omega), BitVec.toNat_ofNat, Nat.mod_eq_of_lt (by omega)]
  rfl

theorem cmp_gt (x y : EReal) : ((FloatOps.cmpfTotal (F := Ideal) (φ := .f32) .gt x y) == 1#1) = decide (y < x) := by
  show ((Ideal.cmp .ogt x y) == 1#1) = _
  unfold Ideal.cmp
  by_cases h : y < x <;> simp [h]

theorem topK_read {n w j' : Nat} (x : (⟨2, ![n, w]⟩ : Shape).Idx → EReal) (h : (⟨2, ![n, w]⟩ : Shape).Slices (fun _ => 0) ⟨2, ![n, j']⟩) (r : Fin n) (j : Fin j') (k : Fin w) (hk : k.val = j.val) :
    (Host.topK ⟨2, ![n, j']⟩ 1 (FloatOps.cmpfTotal (F := Ideal) (φ := .f32) .gt) x h).1 (ix2 r j)
        = x (ix2 r (sortedFrom (fun p q => decide (x (ix2 r q) < x (ix2 r p))) k))
      ∧ (Host.topK ⟨2, ![n, j']⟩ 1 (FloatOps.cmpfTotal (F := Ideal) (φ := .f32) .gt) x h).2 (ix2 r j)
        = BitVec.ofNat 32 (sortedFrom (fun p q => decide (x (ix2 r q) < x (ix2 r p))) k).val := by
  have hal : ∀ p : Fin w, (ix2 r k : (⟨2, ![n, w]⟩ : Shape).Idx).along (1 : Fin 2) p = ix2 r p := fun p =>
    ix2_val _ r p rfl rfl
  have hs : ∀ {α : Type} (z : (⟨2, ![n, w]⟩ : Shape).Idx → α), extractStridedSlice ⟨2, ![n, j']⟩ (fun _ => 0) z h (ix2 r j) = z (ix2 r k) := fun z =>
    extractStridedSlice_apply _ _ _ _ (ix2 r k) fun a => match a with
      | ⟨0, _⟩ => by show r.val = 0 + r.val; omega
      | ⟨1, _⟩ => by show k.val = 0 + j.val; omega
  unfold Host.topK
  dsimp only
  rw [hs, hs]
  unfold Host.sort2
  rw [dif_pos (show 1 < (⟨2, ![n, w]⟩ : Shape).rank from Nat.one_lt_two)]
  have hR : (fun p q => FloatOps.cmpfTotal (F := Ideal) (φ := .f32) .gt (x ((ix2 r k : (⟨2, ![n, w]⟩ : Shape).Idx).along (1 : Fin 2) p)) (x ((ix2 r k : (⟨2, ![n, w]⟩ : Shape).Idx).along (1 : Fin 2) q)) == 1#1)
      = fun p q : Fin w => decide (x (ix2 r q) < x (ix2 r p)) := by
    funext p q
    exact (cmp_gt _ _).trans (congrArg₂ (fun a b => decide (a < b)) (congrArg x (hal q)) (congrArg x (hal p)))
  refine ⟨(congrArg x (hal _)).trans (congrArg (fun f => x (ix2 r (sortedFrom f k))) hR), ?_⟩
  exact (congrArg (fun f => BitVec.ofNat 32 (sortedFrom f k).val) hR)

section group
variable (x0 x1 : (⟨S32768x1024, .bf16⟩ : BufTy).Contents (Elt Ideal)) (x2 : (⟨S4x8192x2048, .f32⟩ : BufTy).Contents (Elt Ideal)) (x3 : (⟨S1x2048x2048, .f32⟩ : BufTy).Contents (Elt Ideal))
  (x4 x5 : (⟨S1x2048, .f32⟩ : BufTy).Contents (Elt Ideal)) (x6 : (⟨S1x2048x4, .f32⟩ : BufTy).Contents (Elt Ideal)) (x7 : (⟨S1x4, .f32⟩ : BufTy).Contents (Elt Ideal))
  (x8 : (⟨S1x4x2048x8, .f32⟩ : BufTy).Contents (Elt Ideal)) (x9 : (⟨S1x4x8, .f32⟩ : BufTy).Contents (Elt Ideal))

theorem r41 (r : Fin 32768) : val_main_v41 x0 x1 x2 x3 x4 x5 x6 x7 (ix1 r) = Finset.univ.fold max ⊥ (fun k : Fin 4 => val_main_v40 x0 x1 x2 x3 x4 x5 x6 x7 (ix2 r k)) := by
  have e : val_main_v41 x0 x1 x2 x3 x4 x5 x6 x7 (ix1 r) = Finset.univ.fold max (val_main_cst_5 (F := Ideal) (Shape.Idx.first h_S_)) (fun k : Fin 4 => val_main_v40 x0 x1 x2 x3 x4 x5 x6 x7 (ix2 r k)) := by
    pointwise [val_main_v41]
  rw [e, val_main_cst_5_apply]
  exact congrArg (fun b => Finset.univ.fold max b _) c_bot

theorem r40 (r : Fin 32768) (k : Fin 4) : val_main_v40 x0 x1 x2 x3 x4 x5 x6 x7 (ix2 r k) = gOf (valH x0 x1 x2 x3 x4 x5) x6 x7 r k := by
  rw [val_main_v40_apply]
  unfold gOf
  refine congrArg₂ (· + ·) ?_ ?_
  · rw [val_main_v36_apply, ref34_eq]
    refine Finset.sum_congr rfl fun x _ => congrArg₂ (· * ·) (congrArg _ ?_) ?_
    · exact ix2_val _ _ _ rfl rfl
    · pointwise [val_main_v35]
      rfl
  · pointwise [val_main_v39, val_main_v38, val_main_v37]
theorem r59 (r : Fin 32768) (p : Fin 4) (k : Fin 8) : val_main_v59 x0 x1 x2 x3 x4 x5 x8 x9 (ix3 r p k) = eOf (valH x0 x1 x2 x3 x4 x5) x8 x9 r p k := by
  rw [val_main_v59_apply]
  unfold eOf
  refine congrArg₂ (· + ·) ?_ ?_
  · rw [val_main_v55_apply, ref34_eq]
    refine Finset.sum_congr rfl fun x _ => congrArg₂ (· * ·) (congrArg _ ?_) ?_
    · exact ix2_val _ _ _ rfl rfl
    · pointwise [val_main_v54]
      rfl
  · pointwise [val_main_v58, val_main_v57, val_main_v56]
theorem r74 (r : Fin 32768) (a : Fin 4) (k : Fin 8) (h0 : val_main_v73 x0 x1 x2 x3 x4 x5 x6 x7 (ix2 r (0 : Fin 2)) = BitVec.ofNat 32 r.val)
   (h1 : val_main_v73 x0 x1 x2 x3 x4 x5 x6 x7 (ix2 r (1 : Fin 2)) = BitVec.ofNat 32 a.val) :
    val_main_v74 x0 x1 x2 x3 x4 x5 x6 x7 x8 x9 (ix2 r k) = val_main_v59 x0 x1 x2 x3 x4 x5 x8 x9 (ix3 r a k) := by
  unfold val_main_v74
  generalize val_main_v73 x0 x1 x2 x3 x4 x5 x6 x7 = idx at h0 h1 ⊢
  generalize val_main_v59 x0 x1 x2 x3 x4 x5 x8 x9 = x
  have hr := r.isLt
  have ha := a.isLt
  have hs0 : gather_S32768x4x8_S32768x2_S32768x8_1_01_n_n_01_1_118.siIdx (ix2 r k) (0 : Fin 2) = ix2 r (0 : Fin 2) := ix2_val _ _ _ rfl rfl
  have hs1 : gather_S32768x4x8_S32768x2_S32768x8_1_01_n_n_01_1_118.siIdx (ix2 r k) (1 : Fin 2) = ix2 r (1 : Fin 2) := ix2_val _ _ _ rfl rfl
  unfold Host.gather
  refine congrArg x (funext fun b => Fin.ext ?_)
  match b with
  | ⟨0, _⟩ =>
    show min (idx (gather_S32768x4x8_S32768x2_S32768x8_1_01_n_n_01_1_118.siIdx (ix2 r k) (0 : Fin 2))).toInt.toNat (32768 - 1) + 0 + 0 = r.val
    rw [hs0, h0, word_int r.val (by omega)]
    omega
  | ⟨1, _⟩ =>
    show min (idx (gather_S32768x4x8_S32768x2_S32768x8_1_01_n_n_01_1_118.siIdx (ix2 r k) (1 : Fin 2))).toInt.toNat (4 - 1) + 0 + 0 = a.val
    rw [hs1, h1, word_int a.val (by omega)]
    omega
  | ⟨2, _⟩ =>
    show 0 + 0 + k.val = k.val
    omega
/-! ## One row whose logits are real -/

section rows
variable {r : Fin 32768} {g : Fin 4 → ℝ} {e : Fin 4 → Fin 8 → ℝ} {a : Fin 4} {b c : Fin 8}

theorem r43 (hg : ∀ k : Fin 4, val_main_v40 x0 x1 x2 x3 x4 x5 x6 x7 (ix2 r k) = ((g k : ℝ) : EReal)) (ha : First (gl g) a) : val_main_v43 x0 x1 x2 x3 x4 x5 x6 x7 (ix1 r) = ((g a : ℝ) : EReal) := by
  rw [val_main_v43_apply, val_main_v42_apply, val_main_cst_6_apply, r41]
  refine (congrArg (fun z => max z _) c_bot).trans ?_
  rw [max_bot_left]
  simp only [hg]
  exact le_antisymm ((Finset.fold_max_le _).mpr ⟨bot_le, fun k _ => ha.1 k⟩) ((Finset.le_fold_max _).mpr (.inr ⟨a, Finset.mem_univ _, le_refl _⟩))

theorem r47 (hg : ∀ k : Fin 4, val_main_v40 x0 x1 x2 x3 x4 x5 x6 x7 (ix2 r k) = ((g k : ℝ) : EReal)) (ha : First (gl g) a) (k : Fin 4) : val_main_v47 x0 x1 x2 x3 x4 x5 x6 x7 (ix2 r k) = ((Real.exp (g k - g a) : ℝ) : EReal) := by
  have h45 : val_main_v45 x0 x1 x2 x3 x4 x5 x6 x7 (ix2 r k) = val_main_v43 x0 x1 x2 x3 x4 x5 x6 x7 (ix1 r) := by pointwise [val_main_v45, val_main_v44]
  rw [val_main_v47_apply, val_main_v46_apply, hg, h45, r43 x0 x1 x2 x3 x4 x5 x6 x7 hg ha]
  rfl

theorem r48 (hg : ∀ k : Fin 4, val_main_v40 x0 x1 x2 x3 x4 x5 x6 x7 (ix2 r k) = ((g k : ℝ) : EReal)) (ha : First (gl g) a) : val_main_v48 x0 x1 x2 x3 x4 x5 x6 x7 (ix1 r) = ((∑ k : Fin 4, Real.exp (g k - g a) : ℝ) : EReal) := by
  rw [val_main_v48_apply, val_main_cst_7_apply, zero_const, zero_add]
  refine (Finset.sum_congr rfl fun k _ => (congrArg (val_main_v47 x0 x1 x2 x3 x4 x5 x6 x7) (ix2_val _ r k rfl rfl)).trans (r47 x0 x1 x2 x3 x4 x5 x6 x7 hg ha k)).trans ?_
  simp only [Fin.sum_univ_four]
  push_cast
  rfl

theorem sum_pos4 (g : Fin 4 → ℝ) (a : Fin 4) : 0 < ∑ k : Fin 4, Real.exp (g k - g a) := Finset.sum_pos (fun k _ => Real.exp_pos _) Finset.univ_nonempty

theorem r51 (hg : ∀ k : Fin 4, val_main_v40 x0 x1 x2 x3 x4 x5 x6 x7 (ix2 r k) = ((g k : ℝ) : EReal)) (ha : First (gl g) a) (k : Fin 4) : val_main_v51 x0 x1 x2 x3 x4 x5 x6 x7 (ix2 r k) = ((Real.exp (g k - g a) * (1 / ∑ k : Fin 4, Real.exp (g k - g a)) : ℝ) : EReal) := by
  have h50 : val_main_v50 x0 x1 x2 x3 x4 x5 x6 x7 (ix2 r k) = val_main_v48 x0 x1 x2 x3 x4 x5 x6 x7 (ix1 r) := by pointwise [val_main_v50, val_main_v49]
  rw [val_main_v51_apply, h50, r47 x0 x1 x2 x3 x4 x5 x6 x7 hg ha, r48 x0 x1 x2 x3 x4 x5 x6 x7 hg ha]
  exact (Ideal.div_coe (ne_of_gt (sum_pos4 g a)) _).trans (EReal.coe_mul _ _).symm

theorem first51 (hg : ∀ k : Fin 4, val_main_v40 x0 x1 x2 x3 x4 x5 x6 x7 (ix2 r k) = ((g k : ℝ) : EReal)) (ha : First (gl g) a) : First (fun k : Fin 4 => val_main_v51 x0 x1 x2 x3 x4 x5 x6 x7 (ix2 r k)) a := by
  have hp : 0 < 1 / ∑ k : Fin 4, Real.exp (g k - g a) := one_div_pos.mpr (sum_pos4 g a)
  refine ⟨fun k => ?_, fun k hk => ?_⟩
  · have h := EReal.coe_le_coe_iff.mp (ha.1 k)
    simp only [r51 x0 x1 x2 x3 x4 x5 x6 x7 hg ha]
    exact EReal.coe_le_coe_iff.mpr (mul_le_mul_of_nonneg_right (Real.exp_le_exp.mpr (by linarith)) hp.le)
  · have h := EReal.coe_lt_coe_iff.mp (ha.2 k hk)
    simp only [r51 x0 x1 x2 x3 x4 x5 x6 x7 hg ha]
    exact EReal.coe_lt_coe_iff.mpr (mul_lt_mul_of_pos_right (Real.exp_lt_exp.mpr (by linarith)) hp)

theorem r52 (hg : ∀ k : Fin 4, val_main_v40 x0 x1 x2 x3 x4 x5 x6 x7 (ix2 r k) = ((g k : ℝ) : EReal)) (ha : First (gl g) a) : val_main_v52 x0 x1 x2 x3 x4 x5 x6 x7 (ix1 r) = (((∑ k : Fin 4, Real.exp (g k - g a))⁻¹ : ℝ) : EReal) ∧ val_main_v53 x0 x1 x2 x3 x4 x5 x6 x7 (ix1 r) = BitVec.ofNat 32 a.val := by
  have t := topK_read (val_main_v51 x0 x1 x2 x3 x4 x5 x6 x7) sliceFits_S32768x4_S32768x1 r (0 : Fin 1) (0 : Fin 4) rfl
  rw [sorted_one (fun k : Fin 4 => val_main_v51 x0 x1 x2 x3 x4 x5 x6 x7 (ix2 r k)) _ (fun k k' => rfl) (first51 x0 x1 x2 x3 x4 x5 x6 x7 hg ha) 0 rfl] at t
  have h1 : val_main_v52 x0 x1 x2 x3 x4 x5 x6 x7 (ix1 r) = val_main_values x0 x1 x2 x3 x4 x5 x6 x7 (ix2 r (0 : Fin 1)) := by pointwise [val_main_v52]
  have h2 : val_main_v53 x0 x1 x2 x3 x4 x5 x6 x7 (ix1 r) = val_main_indices x0 x1 x2 x3 x4 x5 x6 x7 (ix2 r (0 : Fin 1)) := by pointwise [val_main_v53]
  refine ⟨h1.trans (t.1.trans ?_), h2.trans t.2⟩
  rw [r51 x0 x1 x2 x3 x4 x5 x6 x7 hg ha, sub_self, Real.exp_zero, one_mul, one_div]

theorem slt_nat (n : Nat) (h : n < 2147483648) : IntOp.cmpi .slt (BitVec.ofNat 32 n) 0#32 = 0#1 := by
  have e : (BitVec.ofNat 32 n).slt 0#32 = false := by
    rw [BitVec.slt_eq_decide, BitVec.toInt_eq_toNat_of_lt (by rw [BitVec.toNat_ofNat, Nat.mod_eq_of_lt (by omega)]; omega)]
    simp
    omega
  show BitVec.ofBool ((BitVec.ofNat 32 n).slt 0#32) = 0#1
  rw [e]
  rfl

theorem r73 (hg : ∀ k : Fin 4, val_main_v40 x0 x1 x2 x3 x4 x5 x6 x7 (ix2 r k) = ((g k : ℝ) : EReal)) (ha : First (gl g) a) : val_main_v73 x0 x1 x2 x3 x4 x5 x6 x7 (ix2 r (0 : Fin 2)) = BitVec.ofNat 32 r.val ∧ val_main_v73 x0 x1 x2 x3 x4 x5 x6 x7 (ix2 r (1 : Fin 2)) = BitVec.ofNat 32 a.val := by
  have hr := r.isLt
  have hl := a.isLt
  have h53 := (r52 x0 x1 x2 x3 x4 x5 x6 x7 hg ha).2
  unfold val_main_v73
  constructor
  · refine (concatenate_pair_apply_left (t := S32768x2) (s₁ := S32768x1) 1 _ _ _ _ rfl (ix2 r (0 : Fin 1) : S32768x1.Idx) (fun b => ?_)).trans ?_
    · match b with
      | ⟨0, _⟩ => rfl
      | ⟨1, _⟩ => rfl
    have h : val_main_v71 (F := Ideal) (ix2 r (0 : Fin 1)) = val_main_v65 (F := Ideal) (ix1 r) := by pointwise [val_main_v71]
    rw [h, val_main_v65_apply, val_main_v62_apply, val_main_v61_apply, val_main_v60_apply]
    refine (congrArg (fun z => Scalar.select z _ _) (slt_nat r.val (by omega))).trans rfl
  · refine (concatenate_pair_apply_right (t := S32768x2) (s₁ := S32768x1) (s₂ := S32768x1) 1 _ _ _ _ rfl rfl (ix2 r (0 : Fin 1) : S32768x1.Idx) (fun b hb => ?_) ?_).trans ?_
    · match b with
      | ⟨0, _⟩ => rfl
      | ⟨1, _⟩ => exact absurd rfl hb
    · rfl
    have h : val_main_v72 x0 x1 x2 x3 x4 x5 x6 x7 (ix2 r (0 : Fin 1)) = val_main_v70 x0 x1 x2 x3 x4 x5 x6 x7 (ix1 r) := by pointwise [val_main_v72]
    rw [h, val_main_v70_apply, val_main_v67_apply, val_main_v66_apply, h53]
    refine (congrArg (fun z => Scalar.select z _ _) (slt_nat a.val (by omega))).trans rfl

theorem s74 (hg : ∀ k : Fin 4, val_main_v40 x0 x1 x2 x3 x4 x5 x6 x7 (ix2 r k) = ((g k : ℝ) : EReal)) (ha : First (gl g) a) (he : ∀ (p : Fin 4) (k : Fin 8), val_main_v59 x0 x1 x2 x3 x4 x5 x8 x9 (ix3 r p k) = ((e p k : ℝ) : EReal)) (k : Fin 8) : val_main_v74 x0 x1 x2 x3 x4 x5 x6 x7 x8 x9 (ix2 r k) = xl (e a) k := by
  rw [r74 x0 x1 x2 x3 x4 x5 x6 x7 x8 x9 r a k (r73 x0 x1 x2 x3 x4 x5 x6 x7 hg ha).1 (r73 x0 x1 x2 x3 x4 x5 x6 x7 hg ha).2, he]
  rfl

theorem r11 (hg : ∀ k : Fin 4, val_main_v40 x0 x1 x2 x3 x4 x5 x6 x7 (ix2 r k) = ((g k : ℝ) : EReal)) (he : ∀ (p : Fin 4) (k : Fin 8), val_main_v59 x0 x1 x2 x3 x4 x5 x8 x9 (ix3 r p k) = ((e p k : ℝ) : EReal)) (ha : First (gl g) a) (hb : First (xl (e a)) b) (hc : First (xl2 (e a) b) c) : (val_main_values_11 x0 x1 x2 x3 x4 x5 x6 x7 x8 x9 (ix2 r (0 : Fin 2)) = ((e a b : ℝ) : EReal) ∧ val_main_values_11 x0 x1 x2 x3 x4 x5 x6 x7 x8 x9 (ix2 r (1 : Fin 2)) = ((e a c : ℝ) : EReal))
    ∧ val_main_indices_12 x0 x1 x2 x3 x4 x5 x6 x7 x8 x9 (ix2 r (0 : Fin 2)) = BitVec.ofNat 32 b.val ∧ val_main_indices_12 x0 x1 x2 x3 x4 x5 x6 x7 x8 x9 (ix2 r (1 : Fin 2)) = BitVec.ofNat 32 c.val := by
  have t0 := topK_read (val_main_v74 x0 x1 x2 x3 x4 x5 x6 x7 x8 x9) sliceFits_S32768x8_S32768x2 r (0 : Fin 2) (0 : Fin 8) rfl
  have t1 := topK_read (val_main_v74 x0 x1 x2 x3 x4 x5 x6 x7 x8 x9) sliceFits_S32768x8_S32768x2 r (1 : Fin 2) (1 : Fin 8) rfl
  have hs := sorted_two (e a) (fun p q => decide (val_main_v74 x0 x1 x2 x3 x4 x5 x6 x7 x8 x9 (ix2 r q) < val_main_v74 x0 x1 x2 x3 x4 x5 x6 x7 x8 x9 (ix2 r p)))
    (fun k k' => by simp only [s74 x0 x1 x2 x3 x4 x5 x6 x7 x8 x9 hg ha he]) hb hc
  rw [hs.1, s74 x0 x1 x2 x3 x4 x5 x6 x7 x8 x9 hg ha he] at t0
  rw [hs.2, s74 x0 x1 x2 x3 x4 x5 x6 x7 x8 x9 hg ha he] at t1
  exact ⟨⟨t0.1, t1.1⟩, t0.2, t1.2⟩

theorem r75 (r : Fin 32768) : val_main_v75 x0 x1 x2 x3 x4 x5 x6 x7 x8 x9 (ix1 r) = Finset.univ.fold max ⊥ (fun k : Fin 2 => val_main_values_11 x0 x1 x2 x3 x4 x5 x6 x7 x8 x9 (ix2 r k)) := by
  have e : val_main_v75 x0 x1 x2 x3 x4 x5 x6 x7 x8 x9 (ix1 r) = Finset.univ.fold max (val_main_cst_13 (F := Ideal) (Shape.Idx.first h_S_)) (fun k : Fin 2 => val_main_values_11 x0 x1 x2 x3 x4 x5 x6 x7 x8 x9 (ix2 r k)) := by
    pointwise [val_main_v75]
  rw [e, val_main_cst_13_apply]
  exact congrArg (fun b => Finset.univ.fold max b _) c_bot

theorem r77 (hg : ∀ k : Fin 4, val_main_v40 x0 x1 x2 x3 x4 x5 x6 x7 (ix2 r k) = ((g k : ℝ) : EReal)) (he : ∀ (p : Fin 4) (k : Fin 8), val_main_v59 x0 x1 x2 x3 x4 x5 x8 x9 (ix3 r p k) = ((e p k : ℝ) : EReal)) (ha : First (gl g) a) (hb : First (xl (e a)) b) (hc : First (xl2 (e a) b) c) : val_main_v77 x0 x1 x2 x3 x4 x5 x6 x7 x8 x9 (ix1 r) = ((e a b : ℝ) : EReal) := by
  have h := r11 x0 x1 x2 x3 x4 x5 x6 x7 x8 x9 hg he ha hb hc
  rw [val_main_v77_apply, val_main_v76_apply, val_main_cst_14_apply, r75]
  refine (congrArg (fun z => max z _) c_bot).trans ?_
  rw [max_bot_left]
  refine le_antisymm ((Finset.fold_max_le _).mpr ⟨bot_le, fun k _ => ?_⟩) ((Finset.le_fold_max _).mpr (.inr ⟨0, Finset.mem_univ _, le_of_eq h.1.1.symm⟩))
  match k with
  | ⟨0, _⟩ => exact le_of_eq h.1.1
  | ⟨1, _⟩ => exact (le_of_eq h.1.2).trans (hb.1 c)

theorem r81 (hg : ∀ k : Fin 4, val_main_v40 x0 x1 x2 x3 x4 x5 x6 x7 (ix2 r k) = ((g k : ℝ) : EReal)) (he : ∀ (p : Fin 4) (k : Fin 8), val_main_v59 x0 x1 x2 x3 x4 x5 x8 x9 (ix3 r p k) = ((e p k : ℝ) : EReal)) (ha : First (gl g) a) (hb : First (xl (e a)) b) (hc : First (xl2 (e a) b) c) : val_main_v81 x0 x1 x2 x3 x4 x5 x6 x7 x8 x9 (ix2 r (0 : Fin 2)) = ((1 : ℝ) : EReal) ∧ val_main_v81 x0 x1 x2 x3 x4 x5 x6 x7 x8 x9 (ix2 r (1 : Fin 2)) = ((Real.exp (e a c - e a b) : ℝ) : EReal) := by
  have h := r11 x0 x1 x2 x3 x4 x5 x6 x7 x8 x9 hg he ha hb hc
  have h79 : ∀ k : Fin 2, val_main_v79 x0 x1 x2 x3 x4 x5 x6 x7 x8 x9 (ix2 r k) = val_main_v77 x0 x1 x2 x3 x4 x5 x6 x7 x8 x9 (ix1 r) := fun k => by pointwise [val_main_v79, val_main_v78]
  constructor
  · rw [val_main_v81_apply, val_main_v80_apply, h79, h.1.1, r77 x0 x1 x2 x3 x4 x5 x6 x7 x8 x9 hg he ha hb hc]
    refine Eq.trans (b := ((Real.exp (e a b - e a b) : ℝ) : EReal)) rfl ?_
    rw [sub_self, Real.exp_zero]
  · rw [val_main_v81_apply, val_main_v80_apply, h79, h.1.2, r77 x0 x1 x2 x3 x4 x5 x6 x7 x8 x9 hg he ha hb hc]
    rfl

theorem r82 (hg : ∀ k : Fin 4, val_main_v40 x0 x1 x2 x3 x4 x5 x6 x7 (ix2 r k) = ((g k : ℝ) : EReal)) (he : ∀ (p : Fin 4) (k : Fin 8), val_main_v59 x0 x1 x2 x3 x4 x5 x8 x9 (ix3 r p k) = ((e p k : ℝ) : EReal)) (ha : First (gl g) a) (hb : First (xl (e a)) b) (hc : First (xl2 (e a) b) c) : val_main_v82 x0 x1 x2 x3 x4 x5 x6 x7 x8 x9 (ix1 r) = ((1 + Real.exp (e a c - e a b) : ℝ) : EReal) := by
  have h := r81 x0 x1 x2 x3 x4 x5 x6 x7 x8 x9 hg he ha hb hc
  rw [val_main_v82_apply, val_main_cst_15_apply, zero_const, zero_add]
  refine (Finset.sum_congr rfl fun k _ => congrArg (val_main_v81 x0 x1 x2 x3 x4 x5 x6 x7 x8 x9) (ix2_val _ r k rfl rfl)).trans ?_
  rw [Fin.sum_univ_two, h.1, h.2, ← EReal.coe_add]

theorem one_exp_pos (x : ℝ) : 0 < 1 + Real.exp x := by
  have := Real.exp_pos x
  linarith

theorem r88 (hg : ∀ k : Fin 4, val_main_v40 x0 x1 x2 x3 x4 x5 x6 x7 (ix2 r k) = ((g k : ℝ) : EReal)) (he : ∀ (p : Fin 4) (k : Fin 8), val_main_v59 x0 x1 x2 x3 x4 x5 x8 x9 (ix3 r p k) = ((e p k : ℝ) : EReal)) (ha : First (gl g) a) (hb : First (xl (e a)) b) (hc : First (xl2 (e a) b) c) : val_main_v88 x0 x1 x2 x3 x4 x5 x6 x7 x8 x9 (ix2 r (0 : Fin 2)) = ((1 * (1 / (1 + Real.exp (e a c - e a b))) * (∑ k : Fin 4, Real.exp (g k - g a))⁻¹ : ℝ) : EReal)
    ∧ val_main_v88 x0 x1 x2 x3 x4 x5 x6 x7 x8 x9 (ix2 r (1 : Fin 2)) = ((Real.exp (e a c - e a b) * (1 / (1 + Real.exp (e a c - e a b))) * (∑ k : Fin 4, Real.exp (g k - g a))⁻¹ : ℝ) : EReal) := by
  have h := r81 x0 x1 x2 x3 x4 x5 x6 x7 x8 x9 hg he ha hb hc
  have h84 : ∀ k : Fin 2, val_main_v84 x0 x1 x2 x3 x4 x5 x6 x7 x8 x9 (ix2 r k) = val_main_v82 x0 x1 x2 x3 x4 x5 x6 x7 x8 x9 (ix1 r) := fun k => by pointwise [val_main_v84, val_main_v83]
  have h87 : ∀ k : Fin 2, val_main_v87 x0 x1 x2 x3 x4 x5 x6 x7 (ix2 r k) = val_main_v52 x0 x1 x2 x3 x4 x5 x6 x7 (ix1 r) := fun k => by pointwise [val_main_v87, val_main_v86]
  constructor
  · rw [val_main_v88_apply, val_main_v85_apply, h84, h87, h.1, r82 x0 x1 x2 x3 x4 x5 x6 x7 x8 x9 hg he ha hb hc, (r52 x0 x1 x2 x3 x4 x5 x6 x7 hg ha).1]
    refine (congrArg (fun z => z * _) ((Ideal.div_coe (ne_of_gt (one_exp_pos _)) _).trans (EReal.coe_mul _ _).symm)).trans (EReal.coe_mul _ _).symm
  · rw [val_main_v88_apply, val_main_v85_apply, h84, h87, h.2, r82 x0 x1 x2 x3 x4 x5 x6 x7 x8 x9 hg he ha hb hc, (r52 x0 x1 x2 x3 x4 x5 x6 x7 hg ha).1]
    refine (congrArg (fun z => z * _) ((Ideal.div_coe (ne_of_gt (one_exp_pos _)) _).trans (EReal.coe_mul _ _).symm)).trans (EReal.coe_mul _ _).symm

theorem word_id (p q : Nat) (hp : p < 4) (hq : q < 8) : IntOp.addi (IntOp.muli (BitVec.ofNat 32 p) 8#32) (BitVec.ofNat 32 q) = BitVec.ofNat 32 (8 * p + q) := by
  show BitVec.ofNat 32 p * 8#32 + BitVec.ofNat 32 q = _
  apply BitVec.eq_of_toNat_eq
  simp
  omega

theorem r93 (hg : ∀ k : Fin 4, val_main_v40 x0 x1 x2 x3 x4 x5 x6 x7 (ix2 r k) = ((g k : ℝ) : EReal)) (he : ∀ (p : Fin 4) (k : Fin 8), val_main_v59 x0 x1 x2 x3 x4 x5 x8 x9 (ix3 r p k) = ((e p k : ℝ) : EReal)) (ha : First (gl g) a) (hb : First (xl (e a)) b) (hc : First (xl2 (e a) b) c) : val_main_v93 x0 x1 x2 x3 x4 x5 x6 x7 x8 x9 (ix2 r (0 : Fin 2)) = BitVec.ofNat 32 (8 * a.val + b.val) ∧ val_main_v93 x0 x1 x2 x3 x4 x5 x6 x7 x8 x9 (ix2 r (1 : Fin 2)) = BitVec.ofNat 32 (8 * a.val + c.val) := by
  have h := r11 x0 x1 x2 x3 x4 x5 x6 x7 x8 x9 hg he ha hb hc
  have h92 : ∀ k : Fin 2, val_main_v92 x0 x1 x2 x3 x4 x5 x6 x7 (ix2 r k) = IntOp.muli (BitVec.ofNat 32 a.val) 8#32 := fun k => by
    have h1 : val_main_v92 x0 x1 x2 x3 x4 x5 x6 x7 (ix2 r k) = val_main_v91 x0 x1 x2 x3 x4 x5 x6 x7 (ix2 r (0 : Fin 1)) := by pointwise [val_main_v92]
    have h2 : val_main_v89 x0 x1 x2 x3 x4 x5 x6 x7 (ix2 r (0 : Fin 1)) = val_main_v53 x0 x1 x2 x3 x4 x5 x6 x7 (ix1 r) := by pointwise [val_main_v89]
    rw [h1, val_main_v91_apply, h2, (r52 x0 x1 x2 x3 x4 x5 x6 x7 hg ha).2]
    rfl
  constructor
  · rw [val_main_v93_apply, h92, h.2.1, word_id _ _ a.isLt b.isLt]
  · rw [val_main_v93_apply, h92, h.2.2, word_id _ _ a.isLt c.isLt]

theorem id2 {L : Fin 128 → EReal} (hg' : ∀ k : Fin 4, L ⟨k.val, by omega⟩ = g k) (he' : ∀ (p : Fin 4) (k : Fin 8), L ⟨4 + 8 * p.val + k.val, by omega⟩ = e p k) (ha : First (gl g) a) (hb : First (xl (e a)) b) : arg (mask2 L) - ((4 : ℝ) : EReal) = (((8 * a.val + b.val : ℕ) : ℝ) : EReal) := by
  rw [arg2_eq hg' he' ha hb, ← EReal.coe_sub]
  congr 1
  push_cast
  ring

theorem id3 {L : Fin 128 → EReal} (hg' : ∀ k : Fin 4, L ⟨k.val, by omega⟩ = g k) (he' : ∀ (p : Fin 4) (k : Fin 8), L ⟨4 + 8 * p.val + k.val, by omega⟩ = e p k) (ha : First (gl g) a) (hb : First (xl (e a)) b) (hc : First (xl2 (e a) b) c) : arg (mask3 L) - ((4 : ℝ) : EReal) = (((8 * a.val + c.val : ℕ) : ℝ) : EReal) := by
  rw [arg3_eq hg' he' ha hb hc, ← EReal.coe_sub]
  congr 1
  push_cast
  ring

theorem ix2_tail {n0 n1 n2 : Nat} (q : Fin n0) (k : Fin n1) (l : Fin n2) (h : k.val = l.val) :
    ∀ a : Fin 2, ((ix2 q l : (⟨2, ![n0, n2]⟩ : Shape).Idx) a).val = (![0, 0] : Fin 2 → Nat) a + ((ix2 q k : (⟨2, ![n0, n1]⟩ : Shape).Idx) a).val * ((![0, 0] : Fin 2 → Nat) a + 1)
  | ⟨0, _⟩ => by show q.val = 0 + q.val * (0 + 1); omega
  | ⟨1, _⟩ => by show l.val = 0 + k.val * (0 + 1); omega

theorem r103 {L : Fin 128 → EReal} (hg' : ∀ k : Fin 4, L ⟨k.val, by omega⟩ = g k) (he' : ∀ (p : Fin 4) (k : Fin 8), L ⟨4 + 8 * p.val + k.val, by omega⟩ = e p k) (hg : ∀ k : Fin 4, val_main_v40 x0 x1 x2 x3 x4 x5 x6 x7 (ix2 r k) = ((g k : ℝ) : EReal)) (he : ∀ (p : Fin 4) (k : Fin 8), val_main_v59 x0 x1 x2 x3 x4 x5 x8 x9 (ix3 r p k) = ((e p k : ℝ) : EReal)) (ha : First (gl g) a) (hb : First (xl (e a)) b) (hc : First (xl2 (e a) b) c) (k : Fin 128) : val_main_v103 x0 x1 x2 x3 x4 x5 x6 x7 x8 x9 (ix2 r k) = eidOf L k := by
  have h := r93 x0 x1 x2 x3 x4 x5 x6 x7 x8 x9 hg he ha hb hc
  have hl := a.isLt
  have hl2 := b.isLt
  have hl3 := c.isLt
  unfold eidOf
  by_cases h0 : k.val = 0
  · rw [if_pos h0, id2 hg' he' ha hb, word_of _ (by omega), ← h.1]
    exact pad_apply_of_inside _ _ _ _ _ _ _ _ (ix2 r (0 : Fin 2) : S32768x2.Idx) (ix2_tail r (0 : Fin 2) k (by rw [h0]; rfl))
  rw [if_neg h0]
  by_cases h1 : k.val = 1
  · rw [if_pos h1, id3 hg' he' ha hb hc, word_of _ (by omega), ← h.2]
    exact pad_apply_of_inside _ _ _ _ _ _ _ _ (ix2 r (1 : Fin 2) : S32768x2.Idx) (ix2_tail r (1 : Fin 2) k (by rw [h1]; rfl))
  rw [if_neg h1]
  refine (pad_apply_of_not_inside _ _ _ _ _ _ _ _ (1 : Fin 2) (fun hin => ?_)).trans ?_
  · have h3 := hin.2.2
    change (k.val - 0) / (0 + 1) < 2 at h3
    omega
  · have hz := word_of 0 (by omega)
    rw [Nat.cast_zero, EReal.coe_zero] at hz
    exact hz.symm

theorem r104 {L : Fin 128 → EReal} (hg' : ∀ k : Fin 4, L ⟨k.val, by omega⟩ = g k) (he' : ∀ (p : Fin 4) (k : Fin 8), L ⟨4 + 8 * p.val + k.val, by omega⟩ = e p k) (hg : ∀ k : Fin 4, val_main_v40 x0 x1 x2 x3 x4 x5 x6 x7 (ix2 r k) = ((g k : ℝ) : EReal)) (he : ∀ (p : Fin 4) (k : Fin 8), val_main_v59 x0 x1 x2 x3 x4 x5 x8 x9 (ix3 r p k) = ((e p k : ℝ) : EReal)) (ha : First (gl g) a) (hb : First (xl (e a)) b) (hc : First (xl2 (e a) b) c) (k : Fin 128) : val_main_v104 x0 x1 x2 x3 x4 x5 x6 x7 x8 x9 (ix2 r k) = ewOf L k := by
  have h := r88 x0 x1 x2 x3 x4 x5 x6 x7 x8 x9 hg he ha hb hc
  have hd : (1 : EReal) + gap L = ((1 + Real.exp (e a c - e a b) : ℝ) : EReal) := by
    rw [gap_eq hg' he' ha hb hc, EReal.coe_add, EReal.coe_one]
  unfold ewOf
  rw [hd, share_eq hg' ha, gap_eq hg' he' ha hb hc]
  by_cases h0 : k.val = 0
  · rw [if_pos h0, Ideal.div_coe (ne_of_gt (one_exp_pos _)), ← EReal.coe_mul]
    refine (pad_apply_of_inside _ _ _ _ _ _ _ _ (ix2 r (0 : Fin 2) : S32768x2.Idx) (ix2_tail r (0 : Fin 2) k (by rw [h0]; rfl))).trans (h.1.trans ?_)
    congr 1
    ring
  rw [if_neg h0]
  by_cases h1 : k.val = 1
  · rw [if_pos h1, Ideal.div_coe (ne_of_gt (one_exp_pos _)), ← EReal.coe_mul, ← EReal.coe_mul]
    refine (pad_apply_of_inside _ _ _ _ _ _ _ _ (ix2 r (1 : Fin 2) : S32768x2.Idx) (ix2_tail r (1 : Fin 2) k (by rw [h1]; rfl))).trans (h.2.trans ?_)
    congr 1
    ring
  rw [if_neg h1]
  refine (pad_apply_of_not_inside _ _ _ _ _ _ _ _ (1 : Fin 2) (fun hin => ?_)).trans ?_
  · have h3 := hin.2.2
    change (k.val - 0) / (0 + 1) < 2 at h3
    omega
  · show (((0#32 : BitVec 32).toInt : ℝ) : EReal) = 0
    simp

theorem hit_one (n : Nat) (hn : n < 128) (k : Fin 128) : FloatOps.uitofp (F := Ideal) .f32 (IntOp.cmpi .eq (BitVec.ofNat 32 n) (BitVec.ofNat 32 k.val)) = if n = k.val then (1 : EReal) else 0 := by
  have hk := k.isLt
  by_cases h : n = k.val
  · rw [if_pos h, h]
    have e : IntOp.cmpi .eq (BitVec.ofNat 32 k.val) (BitVec.ofNat 32 k.val) = 1#1 := by
      show BitVec.ofBool (BitVec.ofNat 32 k.val == BitVec.ofNat 32 k.val) = 1#1
      rw [beq_self_eq_true]
      rfl
    rw [e]
    show (((1#1 : BitVec 1).toNat : ℝ) : EReal) = 1
    simp
  · rw [if_neg h]
    have e : IntOp.cmpi .eq (BitVec.ofNat 32 n) (BitVec.ofNat 32 k.val) = 0#1 := by
      show BitVec.ofBool (BitVec.ofNat 32 n == BitVec.ofNat 32 k.val) = 0#1
      have hne : BitVec.ofNat 32 n ≠ BitVec.ofNat 32 k.val := fun he => h (by
        have := congrArg BitVec.toNat he
        simp only [BitVec.toNat_ofNat] at this
        omega)
      rw [beq_false_of_ne hne]
      rfl
    rw [e]
    show (((0#1 : BitVec 1).toNat : ℝ) : EReal) = 0
    simp

theorem r101 {L : Fin 128 → EReal} (hg' : ∀ k : Fin 4, L ⟨k.val, by omega⟩ = g k) (he' : ∀ (p : Fin 4) (k : Fin 8), L ⟨4 + 8 * p.val + k.val, by omega⟩ = e p k) (hg : ∀ k : Fin 4, val_main_v40 x0 x1 x2 x3 x4 x5 x6 x7 (ix2 r k) = ((g k : ℝ) : EReal)) (he : ∀ (p : Fin 4) (k : Fin 8), val_main_v59 x0 x1 x2 x3 x4 x5 x8 x9 (ix3 r p k) = ((e p k : ℝ) : EReal)) (ha : First (gl g) a) (hb : First (xl (e a)) b) (hc : First (xl2 (e a) b) c) (k : Fin 128) : val_main_v101 x0 x1 x2 x3 x4 x5 x6 x7 x8 x9 (ix2 r k) = hitOf L k := by
  have h := r93 x0 x1 x2 x3 x4 x5 x6 x7 x8 x9 hg he ha hb hc
  have hl := a.isLt
  have hl2 := b.isLt
  have hl3 := c.isLt
  have hne : c.val ≠ b.val := fun hh => xl2_ne hc (Fin.ext hh)
  have h97 : ∀ j : Fin 2, val_main_v97 x0 x1 x2 x3 x4 x5 x6 x7 x8 x9 (ix3 r j k) = val_main_v93 x0 x1 x2 x3 x4 x5 x6 x7 x8 x9 (ix2 r j) := fun j => by pointwise [val_main_v97, val_main_v94]
  have h98 : ∀ j : Fin 2, val_main_v98 (F := Ideal) (ix3 r j k) = BitVec.ofNat 32 k.val := fun j => by pointwise [val_main_v98, val_main_v96, val_main_v95]
  have hi : ∀ j : Fin 2, val_main_v100 x0 x1 x2 x3 x4 x5 x6 x7 x8 x9 (idx_main_v101 (ix2 r k) j) = FloatOps.uitofp (F := Ideal) .f32 (IntOp.cmpi .eq (val_main_v93 x0 x1 x2 x3 x4 x5 x6 x7 x8 x9 (ix2 r j)) (BitVec.ofNat 32 k.val)) := fun j => by
    have hx : idx_main_v101 (ix2 r k) j = ix3 r j k := by
      funext t
      match t with
      | ⟨0, _⟩ => rfl
      | ⟨1, _⟩ => rfl
      | ⟨2, _⟩ => rfl
    rw [hx, val_main_v100_apply, val_main_v99_apply, h97, h98]
  rw [val_main_v101_apply, val_main_cst_17_apply, zero_const, zero_add, Fin.sum_univ_two, hi, hi, h.1, h.2, hit_one _ (by omega), hit_one _ (by omega)]
  unfold hitOf lane
  rw [id2 hg' he' ha hb, id3 hg' he' ha hb hc]
  simp only [EReal.coe_eq_coe_iff, Nat.cast_inj]
  by_cases p1 : 8 * a.val + b.val = k.val
  · have p2 : ¬ 8 * a.val + c.val = k.val := by omega
    rw [if_pos p1, if_neg p2, if_pos (.inl p1.symm), add_zero]
  · by_cases p2 : 8 * a.val + c.val = k.val
    · rw [if_neg p1, if_pos p2, if_pos (.inr p2.symm), zero_add]
    · rw [if_neg p1, if_neg p2, if_neg (by rintro (q | q); exacts [p1 q.symm, p2 q.symm]), add_zero]

theorem r106 (q : Fin 8) (k : Fin 128) : val_main_v106 x0 x1 x2 x3 x4 x5 x6 x7 x8 x9 (ix2 q k) = ∑ r : Fin 32768, val_main_v101 x0 x1 x2 x3 x4 x5 x6 x7 x8 x9 (ix2 r k) := by
  have h1 : val_main_v106 x0 x1 x2 x3 x4 x5 x6 x7 x8 x9 (ix2 q k) = val_main_v102 x0 x1 x2 x3 x4 x5 x6 x7 x8 x9 (ix1 k) := by pointwise [val_main_v106, val_main_v105]
  rw [h1, val_main_v102_apply, val_main_cst_18_apply, zero_const, zero_add]
  exact Finset.sum_congr rfl fun r _ => congrArg (val_main_v101 x0 x1 x2 x3 x4 x5 x6 x7 x8 x9) (ix2_val _ r k rfl rfl)

end rows
end group
end Cert.OutProj
end
-- ==== Proof.RouteReal.lean ====
/- Where the norm's scale and shift and the router's weights are numbers, the rows and the logits are numbers. -/
module

public import proofs.«01_k».proof.Proof.RouteHost
public import proofs.«01_k».proof.Pre_finite3

@[expose] public section

set_option maxRecDepth 16384

noncomputable section

namespace Cert.OutProj

open Cert.Kernel3Ideal Cert.Kernel3Ideal.Gen
open Idealize.ShloMosaic Idealize.ShloMosaic.TcCoe Idealize.SL.Sem Cert.Route

/-- A value that is neither infinity. -/
def IsReal (x : EReal) : Prop := ∃ r : ℝ, x = (r : EReal)

theorem IsReal.add {x y : EReal} (hx : IsReal x) (hy : IsReal y) : IsReal (x + y) := by
  obtain ⟨r, rfl⟩ := hx
  obtain ⟨s, rfl⟩ := hy
  exact ⟨r + s, (EReal.coe_add r s).symm⟩
theorem IsReal.sub {x y : EReal} (hx : IsReal x) (hy : IsReal y) : IsReal (x - y) := by
  obtain ⟨r, rfl⟩ := hx
  obtain ⟨s, rfl⟩ := hy
  exact ⟨r - s, (EReal.coe_sub r s).symm⟩
theorem IsReal.mul {x y : EReal} (hx : IsReal x) (hy : IsReal y) : IsReal (x * y) := by
  obtain ⟨r, rfl⟩ := hx
  obtain ⟨s, rfl⟩ := hy
  exact ⟨r * s, (EReal.coe_mul r s).symm⟩

theorem sum_coe {n : Nat} (f : Fin n → ℝ) : ∑ k, ((f k : ℝ) : EReal) = ((∑ k, f k : ℝ) : EReal) := by
  induction n with
  | zero => simp
  | succ n ih => rw [Fin.sum_univ_castSucc, Fin.sum_univ_castSucc, ih, EReal.coe_add]

theorem IsReal.sum {n : Nat} {f : Fin n → EReal} (h : ∀ k, IsReal (f k)) : IsReal (∑ k, f k) := by
  choose g hg using h
  exact ⟨∑ k, g k, by rw [← sum_coe]; exact Finset.sum_congr rfl fun k _ => hg k⟩

theorem c_2048 : Ideal.ofBits .f32 1157627904#32 = ((2048 : ℝ) : EReal) := by
  simp [Ideal.ofBits, Ideal.ieee, -EReal.coe_mul]
  try norm_num
theorem c_eps : Ideal.ofBits .f32 925353388#32 = ((10995116 / 2 ^ 40 : ℝ) : EReal) := by
  simp [Ideal.ofBits, Ideal.ieee, -EReal.coe_mul]
  try norm_num
theorem mean_coe (f : Fin 2048 → ℝ) : mean (fun k => ((f k : ℝ) : EReal)) = (((∑ k, f k) * (1 / 2048) : ℝ) : EReal) := by
  unfold mean
  rw [sum_coe, c_2048]
  exact (Ideal.div_coe (by norm_num) _).trans (EReal.coe_mul _ _).symm

theorem rsqrt_real {x : ℝ} (h : 0 < x) : IsReal (Ideal.rsqrt ((x : ℝ) : EReal)) := by
  refine ⟨(Real.sqrt x)⁻¹, ?_⟩
  show (if x < 0 then (⊥ : EReal) else if x = 0 then ⊤ else (((Real.sqrt x)⁻¹ : ℝ) : EReal)) = _
  rw [if_neg (not_lt.mpr h.le), if_neg (ne_of_gt h)]

theorem norm_real_of {r g b : Fin 2048 → EReal} (hr : ∀ k, IsReal (r k)) (hg : ∀ k, IsReal (g k)) (hb : ∀ k, IsReal (b k)) (d : Fin 2048) : IsReal (norm r g b d) := by
  choose s hs using hr
  obtain rfl : r = fun k => ((s k : ℝ) : EReal) := funext hs
  unfold norm
  rw [mean_coe]
  refine (((IsReal.sub ⟨_, rfl⟩ ⟨_, rfl⟩).mul ?_).mul (hg d)).add (hb d)
  have hv : mean (fun k => (((s k : ℝ) : EReal) - (((∑ k, s k) * (1 / 2048) : ℝ) : EReal)) * (((s k : ℝ) : EReal) - (((∑ k, s k) * (1 / 2048) : ℝ) : EReal)))
      = (((∑ k, (s k - (∑ k, s k) * (1 / 2048)) * (s k - (∑ k, s k) * (1 / 2048))) * (1 / 2048) : ℝ) : EReal) := by
    refine Eq.trans (congrArg mean (funext fun k => ?_)) (mean_coe fun k => (s k - (∑ k, s k) * (1 / 2048)) * (s k - (∑ k, s k) * (1 / 2048)))
    rw [← EReal.coe_sub, ← EReal.coe_mul]
  rw [hv, c_eps, ← EReal.coe_add]
  refine rsqrt_real (add_pos_of_nonneg_of_pos (mul_nonneg (Finset.sum_nonneg fun k _ => mul_self_nonneg _) (by norm_num)) (by norm_num))

theorem sum_bot {n : Nat} {f : Fin n → EReal} {k : Fin n} (h : f k = ⊥) : ∑ k, f k = ⊥ := by
  rw [← Finset.add_sum_erase Finset.univ f (Finset.mem_univ k), h, EReal.bot_add]

theorem sum_top {n : Nat} {f : Fin n → EReal} (hb : ∀ k, f k ≠ ⊥) {k : Fin n} (h : f k = ⊤) : ∑ k, f k = ⊤ := by
  rw [← Finset.add_sum_erase Finset.univ f (Finset.mem_univ k), h]
  refine EReal.top_add_of_ne_bot (Finset.sum_induction f (fun x => x ≠ ⊥) (fun x y hx hy hxy => ?_) EReal.zero_ne_bot fun k _ => hb k)
  rcases EReal.add_eq_bot_iff.mp hxy with h | h
  exacts [hx h, hy h]

theorem mean_bot {f : Fin 2048 → EReal} {k : Fin 2048} (h : f k = ⊥) : mean f = ⊥ := by
  unfold mean
  rw [sum_bot h, c_2048]
  exact (Ideal.div_coe (by norm_num) _).trans (EReal.bot_mul_coe_of_pos (by norm_num))

theorem mean_top {f : Fin 2048 → EReal} (hb : ∀ k, f k ≠ ⊥) {k : Fin 2048} (h : f k = ⊤) : mean f = ⊤ := by
  unfold mean
  rw [sum_top hb h, c_2048]
  exact (Ideal.div_coe (by norm_num) _).trans (EReal.top_mul_coe_of_pos (by norm_num))

/-- A row whose mean is infinite is normalised to the shift. -/
theorem norm_inf {r g b : Fin 2048 → EReal} (h : ∀ k, (r k - mean r) * (r k - mean r) = ⊤) (d : Fin 2048) : norm r g b d = b d := by
  unfold norm
  have hm : mean (fun k => (r k - mean r) * (r k - mean r)) = ⊤ := mean_top (k := 0) (fun k hk => by rw [h k] at hk; exact absurd hk (by simp)) (h 0)
  rw [hm, c_eps, EReal.top_add_coe, Ideal.rsqrt_top, mul_zero, zero_mul, zero_add]

/-- A normalised row is real where its scale and its shift are, whatever the row holds. -/
theorem norm_real {r g b : Fin 2048 → EReal} (hg : ∀ k, IsReal (g k)) (hb : ∀ k, IsReal (b k)) (d : Fin 2048) : IsReal (norm r g b d) := by
  by_cases h1 : ∃ k, r k = ⊥
  · obtain ⟨k, hk⟩ := h1
    rw [norm_inf (fun l => ?_) d]
    · exact hb d
    rw [mean_bot hk]
    by_cases hl : r l = ⊥
    · rw [hl]
      rfl
    · rw [sub_eq_add_neg, EReal.neg_bot, EReal.add_top_of_ne_bot hl]
      rfl
  have h1' : ∀ k, r k ≠ ⊥ := fun k hk => h1 ⟨k, hk⟩
  by_cases h2 : ∃ k, r k = ⊤
  · obtain ⟨k, hk⟩ := h2
    rw [norm_inf (fun l => ?_) d]
    · exact hb d
    rw [mean_top h1' hk, sub_eq_add_neg, EReal.neg_top, EReal.add_bot]
    rfl
  · refine norm_real_of (fun k => ?_) hg hb d
    exact ⟨(r k).toReal, (EReal.coe_toReal (fun hk => h2 ⟨k, hk⟩) (h1' k)).symm⟩

theorem valH_real {x0 x1 : Vec Ideal S32768x1024 .bf16} {x2 : Vec Ideal S4x8192x2048 .f32} {x3 : Vec Ideal S1x2048x2048 .f32} {x4 x5 : Vec Ideal S1x2048 .f32}
    (h4 : ∀ i, IsReal (x4 i)) (h5 : ∀ i, IsReal (x5 i)) (i : S32768x2048.Idx) :
    IsReal (valH x0 x1 x2 x3 x4 x5 i) := by
  unfold valH
  exact norm_real (fun _ => h4 _) (fun _ => h5 _) _

/-- What the comparison with infinity says of an entry. -/
theorem real_of_abs {x t : EReal} (ht : t = ⊤) (h : Ideal.cmp .olt (max x (-x)) t = 1#1) : IsReal x := by
  subst ht
  have hlt : max x (-x) < ⊤ := by
    by_contra hn
    unfold Ideal.cmp at h
    simp [hn] at h
  induction x with
  | bot => simp at hlt
  | top => simp at hlt
  | coe r => exact ⟨r, rfl⟩

theorem gOf_real {h : Vec Ideal S32768x2048 .f32} {x6 : Vec Ideal S1x2048x4 .f32} {x7 : Vec Ideal S1x4 .f32} (hh : ∀ i, IsReal (h i)) (h6 : ∀ i, IsReal (x6 i)) (h7 : ∀ i, IsReal (x7 i))
    (r : Fin 32768) (k : Fin 4) : IsReal (gOf h x6 x7 r k) := by
  unfold gOf
  exact (IsReal.sum fun x => (hh _).mul (h6 _)).add (h7 _)
theorem eOf_real {h : Vec Ideal S32768x2048 .f32} {x8 : Vec Ideal S1x4x2048x8 .f32} {x9 : Vec Ideal S1x4x8 .f32} (hh : ∀ i, IsReal (h i)) (h8 : ∀ i, IsReal (x8 i)) (h9 : ∀ i, IsReal (x9 i))
    (r : Fin 32768) (p : Fin 4) (k : Fin 8) : IsReal (eOf h x8 x9 r p k) := by
  unfold eOf
  exact (IsReal.sum fun x => (hh _).mul (h8 _)).add (h9 _)

/-- The shapes the precondition's constants are spread over. -/
theorem pre_facts : Cert.Pre_finite3.Facts := by
  constructor <;> decide

section inputs
variable [Cert.Pre_finite3.Facts] {x0 : Vec Ideal S32768x1024 .bf16} {x1 : Vec Ideal S32768x1024 .bf16} {x2 : Vec Ideal S4x8192x2048 .f32} {x3 : Vec Ideal S1x2048x2048 .f32} {x4 : Vec Ideal S1x2048 .f32} {x5 : Vec Ideal S1x2048 .f32} {x6 : Vec Ideal S1x2048x4 .f32} {x7 : Vec Ideal S1x4 .f32} {x8 : Vec Ideal S1x4x2048x8 .f32} {x9 : Vec Ideal S1x4x8 .f32}

theorem real4 (h : (Cert.Pre_finite3.fn (F := Ideal) x0 x1 x2 x3 x4 x5 x6 x7 x8 x9).1 = fun _ => 1#1) (i : (S1x2048 : Shape).Idx) : IsReal (x4 i) :=
  real_of_abs c_top (congrFun h i)
theorem real5 (h : (Cert.Pre_finite3.fn (F := Ideal) x0 x1 x2 x3 x4 x5 x6 x7 x8 x9).2.1 = fun _ => 1#1) (i : (S1x2048 : Shape).Idx) : IsReal (x5 i) :=
  real_of_abs c_top (congrFun h i)
theorem real6 (h : (Cert.Pre_finite3.fn (F := Ideal) x0 x1 x2 x3 x4 x5 x6 x7 x8 x9).2.2.1 = fun _ => 1#1) (i : (S1x2048x4 : Shape).Idx) : IsReal (x6 i) :=
  real_of_abs c_top (congrFun h i)
theorem real7 (h : (Cert.Pre_finite3.fn (F := Ideal) x0 x1 x2 x3 x4 x5 x6 x7 x8 x9).2.2.2.1 = fun _ => 1#1) (i : (S1x4 : Shape).Idx) : IsReal (x7 i) :=
  real_of_abs c_top (congrFun h i)
theorem real8 (h : (Cert.Pre_finite3.fn (F := Ideal) x0 x1 x2 x3 x4 x5 x6 x7 x8 x9).2.2.2.2.1 = fun _ => 1#1) (i : (S1x4x2048x8 : Shape).Idx) : IsReal (x8 i) :=
  real_of_abs c_top (congrFun h i)
theorem real9 (h : (Cert.Pre_finite3.fn (F := Ideal) x0 x1 x2 x3 x4 x5 x6 x7 x8 x9).2.2.2.2.2 = fun _ => 1#1) (i : (S1x4x8 : Shape).Idx) : IsReal (x9 i) :=
  real_of_abs c_top (congrFun h i)
end inputs

end Cert.OutProj

end
-- ==== Proof.OutProjClaim.lean ====
/- The value claim of the output projection, and its reference's frame. -/
module

public import proofs.«01_k».proof.Proof.OutProjValue
public import proofs.«01_k».proof.Proof.RouteValue
public import proofs.«01_k».proof.Proof.RouteHost
public import proofs.«01_k».proof.Proof.RouteRef
public import proofs.«01_k».proof.Proof.RouteReal
public import proofs.«01_k».proof.Proof.Gen.Reference3Ideal.Run
public import proofs.«01_k».proof.Defs
public import Idealize.ShloMosaic.Lib.Quiescent

@[expose] public section

set_option maxRecDepth 16384

noncomputable section

namespace Cert.OutProj

open Idealize.ShloMosaic Idealize.ShloMosaic.TcCoe
open Idealize.SL Idealize.SL.Sem

theorem frame_reference : Cert.quiescent_Reference3Ideal := fun m ρ _ =>
  (θ_run Cert.Reference3Ideal.defs _ _).mono (fun r h => ⟨fun c => (h c).2.2.2.2, Idealize.ShloMosaic.sem_eq_zero_of_no_sems (by decide) r.2⟩)
    (Cert.Reference3Ideal.Value.run m ρ)

open Cert.Route

/-- A row of lanes that holds the logits is routed as the reference routes it. -/
theorem rows (x0 : Vec Ideal Cert.Kernel3Ideal.S32768x1024 .bf16) (x1 : Vec Ideal Cert.Kernel3Ideal.S32768x1024 .bf16) (x2 : Vec Ideal Cert.Kernel3Ideal.S4x8192x2048 .f32) (x3 : Vec Ideal Cert.Kernel3Ideal.S1x2048x2048 .f32) (x4 : Vec Ideal Cert.Kernel3Ideal.S1x2048 .f32) (x5 : Vec Ideal Cert.Kernel3Ideal.S1x2048 .f32) (x6 : Vec Ideal Cert.Kernel3Ideal.S1x2048x4 .f32) (x7 : Vec Ideal Cert.Kernel3Ideal.S1x4 .f32) (x8 : Vec Ideal Cert.Kernel3Ideal.S1x4x2048x8 .f32) (x9 : Vec Ideal Cert.Kernel3Ideal.S1x4x8 .f32) (h4 : ∀ i, IsReal (x4 i)) (h5 : ∀ i, IsReal (x5 i)) (h6 : ∀ i, IsReal (x6 i)) (h7 : ∀ i, IsReal (x7 i)) (h8 : ∀ i, IsReal (x8 i)) (h9 : ∀ i, IsReal (x9 i))
    (r : Fin 32768) (L : Fin 128 → EReal) (hlo : ∀ k : Fin 4, L ⟨k.val, by omega⟩ = gOf (valH x0 x1 x2 x3 x4 x5) x6 x7 r k)
    (hhi : ∀ (p : Fin 4) (k : Fin 8), L ⟨4 + 8 * p.val + k.val, by omega⟩ = eOf (valH x0 x1 x2 x3 x4 x5) x8 x9 r p k) (k : Fin 128) :
    Cert.Reference3Ideal.Read.val_main_v103 (F := Ideal) x0 x1 x2 x3 x4 x5 x6 x7 x8 x9 (ix2 r k) = eidOf L k ∧ Cert.Reference3Ideal.Read.val_main_v104 (F := Ideal) x0 x1 x2 x3 x4 x5 x6 x7 x8 x9 (ix2 r k) = ewOf L k
      ∧ Cert.Reference3Ideal.Read.val_main_v101 (F := Ideal) x0 x1 x2 x3 x4 x5 x6 x7 x8 x9 (ix2 r k) = hitOf L k := by
  have hh := valH_real (x0 := x0) (x1 := x1) (x2 := x2) (x3 := x3) h4 h5
  choose g hg using gOf_real hh h6 h7 r
  choose e he using eOf_real hh h8 h9 r
  obtain ⟨a, ha⟩ := exists_first (n := 3) (gl g)
  obtain ⟨b, hb⟩ := exists_first (n := 7) (xl (e a))
  obtain ⟨c, hc⟩ := exists_first (n := 7) (xl2 (e a) b)
  have kg := fun k => (hlo k).trans (hg k)
  have ke := fun p k => (hhi p k).trans (he p k)
  have rg := fun k => (r40 x0 x1 x2 x3 x4 x5 x6 x7 r k).trans (hg k)
  have re := fun p k => (r59 x0 x1 x2 x3 x4 x5 x8 x9 r p k).trans (he p k)
  exact ⟨r103 x0 x1 x2 x3 x4 x5 x6 x7 x8 x9 kg ke rg re ha hb hc k, r104 x0 x1 x2 x3 x4 x5 x6 x7 x8 x9 kg ke rg re ha hb hc k, r101 x0 x1 x2 x3 x4 x5 x6 x7 x8 x9 kg ke rg re ha hb hc k⟩

/-- At the ideal values the output projection's four results are the reference's, where the norm's scale and shift and the router's weights and biases are numbers. -/
theorem algebraic [Cert.Pre_finite3.Facts] : Cert.algebraic_Kernel3Ideal_Reference3Ideal_pre_finite3 := by
  intro m ρ m' ρ' hpre hagree
  refine ⟨fun c => valH (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)) (m ((c : Thread Cert.Kernel3Ideal.nD Cert.Kernel3Ideal.τ).loc Cert.Kernel3Ideal.main_arg3)) (m ((c : Thread Cert.Kernel3Ideal.nD Cert.Kernel3Ideal.τ).loc Cert.Kernel3Ideal.main_arg4)) (m ((c : Thread Cert.Kernel3Ideal.nD Cert.Kernel3Ideal.τ).loc Cert.Kernel3Ideal.main_arg5)), fun c => valE m c, fun c => valW m c, fun c => valC m c, ?_, ?_⟩
  · refine (θ_run Cert.Kernel3Ideal.defs _ _).mono (fun r h c => ?_) (Cert.Kernel3Ideal.Value.run_blocks m ρ)
    exact ⟨(h c).1.trans (final9 m c), (h c).2.1.trans (final10 m c), (h c).2.2.1.trans (final11 m c), (h c).2.2.2.1.trans (final12 m c), (h c).2.2.2.2⟩
  · refine (θ_run Cert.Reference3Ideal.defs _ _).mono (fun r h c => ?_) (Cert.Reference3Ideal.Value.run m' ρ')
    obtain ⟨h0, h1, h2, h3, h4, h5, h6, h7, h8, h9⟩ := hagree c
    obtain ⟨p4, p5, p6, p7, p8, p9⟩ := hpre c
    have hrow := fun r k => rows (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)) (m ((c : Thread Cert.Kernel3Ideal.nD Cert.Kernel3Ideal.τ).loc Cert.Kernel3Ideal.main_arg3)) (m ((c : Thread Cert.Kernel3Ideal.nD Cert.Kernel3Ideal.τ).loc Cert.Kernel3Ideal.main_arg4)) (m ((c : Thread Cert.Kernel3Ideal.nD Cert.Kernel3Ideal.τ).loc Cert.Kernel3Ideal.main_arg5)) (m ((c : Thread Cert.Kernel3Ideal.nD Cert.Kernel3Ideal.τ).loc Cert.Kernel3Ideal.main_arg6)) (m ((c : Thread Cert.Kernel3Ideal.nD Cert.Kernel3Ideal.τ).loc Cert.Kernel3Ideal.main_arg7)) (m ((c : Thread Cert.Kernel3Ideal.nD Cert.Kernel3Ideal.τ).loc Cert.Kernel3Ideal.main_arg8)) (m ((c : Thread Cert.Kernel3Ideal.nD Cert.Kernel3Ideal.τ).loc Cert.Kernel3Ideal.main_arg9))
      (real4 p4) (real5 p5) (real6 p6) (real7 p7) (real8 p8) (real9 p9) r (lanes m c r) (lanes_lo m c r) (lanes_hi m c r) k
    clear p4 p5 p6 p7 p8 p9
    refine ⟨(h c).1.trans ?_, (h c).2.1.trans ?_, (h c).2.2.1.trans ?_, (h c).2.2.2.1.trans ?_, (h c).2.2.2.2⟩
    · refine (Cert.Reference3Ideal.Read.val_main_v34_eq _).trans ?_
      show Cert.Reference3Ideal.Read.val_main_v34 (F := Ideal) (m' ((c : Thread Cert.Reference3Ideal.nD Cert.Reference3Ideal.τ).loc Cert.Reference3Ideal.main_arg0)) (m' ((c : Thread Cert.Reference3Ideal.nD Cert.Reference3Ideal.τ).loc Cert.Reference3Ideal.main_arg1)) (m' ((c : Thread Cert.Reference3Ideal.nD Cert.Reference3Ideal.τ).loc Cert.Reference3Ideal.main_arg2)) (m' ((c : Thread Cert.Reference3Ideal.nD Cert.Reference3Ideal.τ).loc Cert.Reference3Ideal.main_arg3)) (m' ((c : Thread Cert.Reference3Ideal.nD Cert.Reference3Ideal.τ).loc Cert.Reference3Ideal.main_arg4)) (m' ((c : Thread Cert.Reference3Ideal.nD Cert.Reference3Ideal.τ).loc Cert.Reference3Ideal.main_arg5)) = _
      rw [h0, h1, h2, h3, h4, h5]
      exact ref34_eq _ _ _ _ _ _
    · refine (Cert.Reference3Ideal.Read.val_main_v103_eq _).trans ?_
      show Cert.Reference3Ideal.Read.val_main_v103 (F := Ideal) (m' ((c : Thread Cert.Reference3Ideal.nD Cert.Reference3Ideal.τ).loc Cert.Reference3Ideal.main_arg0)) (m' ((c : Thread Cert.Reference3Ideal.nD Cert.Reference3Ideal.τ).loc Cert.Reference3Ideal.main_arg1)) (m' ((c : Thread Cert.Reference3Ideal.nD Cert.Reference3Ideal.τ).loc Cert.Reference3Ideal.main_arg2)) (m' ((c : Thread Cert.Reference3Ideal.nD Cert.Reference3Ideal.τ).loc Cert.Reference3Ideal.main_arg3)) (m' ((c : Thread Cert.Reference3Ideal.nD Cert.Reference3Ideal.τ).loc Cert.Reference3Ideal.main_arg4)) (m' ((c : Thread Cert.Reference3Ideal.nD Cert.Reference3Ideal.τ).loc Cert.Reference3Ideal.main_arg5)) (m' ((c : Thread Cert.Reference3Ideal.nD Cert.Reference3Ideal.τ).loc Cert.Reference3Ideal.main_arg6)) (m' ((c : Thread Cert.Reference3Ideal.nD Cert.Reference3Ideal.τ).loc Cert.Reference3Ideal.main_arg7)) (m' ((c : Thread Cert.Reference3Ideal.nD Cert.Reference3Ideal.τ).loc Cert.Reference3Ideal.main_arg8)) (m' ((c : Thread Cert.Reference3Ideal.nD Cert.Reference3Ideal.τ).loc Cert.Reference3Ideal.main_arg9)) = _
      rw [h0, h1, h2, h3, h4, h5, h6, h7, h8, h9]
      funext i
      obtain ⟨r, k, rfl⟩ : ∃ (r : Fin 32768) (k : Fin 128), i = ix2 r k := ⟨i 0, i 1, ix2_val _ _ _ rfl rfl⟩
      exact (hrow r k).1
    · refine (Cert.Reference3Ideal.Read.val_main_v104_eq _).trans ?_
      show Cert.Reference3Ideal.Read.val_main_v104 (F := Ideal) (m' ((c : Thread Cert.Reference3Ideal.nD Cert.Reference3Ideal.τ).loc Cert.Reference3Ideal.main_arg0)) (m' ((c : Thread Cert.Reference3Ideal.nD Cert.Reference3Ideal.τ).loc Cert.Reference3Ideal.main_arg1)) (m' ((c : Thread Cert.Reference3Ideal.nD Cert.Reference3Ideal.τ).loc Cert.Reference3Ideal.main_arg2)) (m' ((c : Thread Cert.Reference3Ideal.nD Cert.Reference3Ideal.τ).loc Cert.Reference3Ideal.main_arg3)) (m' ((c : Thread Cert.Reference3Ideal.nD Cert.Reference3Ideal.τ).loc Cert.Reference3Ideal.main_arg4)) (m' ((c : Thread Cert.Reference3Ideal.nD Cert.Reference3Ideal.τ).loc Cert.Reference3Ideal.main_arg5)) (m' ((c : Thread Cert.Reference3Ideal.nD Cert.Reference3Ideal.τ).loc Cert.Reference3Ideal.main_arg6)) (m' ((c : Thread Cert.Reference3Ideal.nD Cert.Reference3Ideal.τ).loc Cert.Reference3Ideal.main_arg7)) (m' ((c : Thread Cert.Reference3Ideal.nD Cert.Reference3Ideal.τ).loc Cert.Reference3Ideal.main_arg8)) (m' ((c : Thread Cert.Reference3Ideal.nD Cert.Reference3Ideal.τ).loc Cert.Reference3Ideal.main_arg9)) = _
      rw [h0, h1, h2, h3, h4, h5, h6, h7, h8, h9]
      funext i
      obtain ⟨r, k, rfl⟩ : ∃ (r : Fin 32768) (k : Fin 128), i = ix2 r k := ⟨i 0, i 1, ix2_val _ _ _ rfl rfl⟩
      exact (hrow r k).2.1
    · refine (Cert.Reference3Ideal.Read.val_main_v106_eq _).trans ?_
      show Cert.Reference3Ideal.Read.val_main_v106 (F := Ideal) (m' ((c : Thread Cert.Reference3Ideal.nD Cert.Reference3Ideal.τ).loc Cert.Reference3Ideal.main_arg0)) (m' ((c : Thread Cert.Reference3Ideal.nD Cert.Reference3Ideal.τ).loc Cert.Reference3Ideal.main_arg1)) (m' ((c : Thread Cert.Reference3Ideal.nD Cert.Reference3Ideal.τ).loc Cert.Reference3Ideal.main_arg2)) (m' ((c : Thread Cert.Reference3Ideal.nD Cert.Reference3Ideal.τ).loc Cert.Reference3Ideal.main_arg3)) (m' ((c : Thread Cert.Reference3Ideal.nD Cert.Reference3Ideal.τ).loc Cert.Reference3Ideal.main_arg4)) (m' ((c : Thread Cert.Reference3Ideal.nD Cert.Reference3Ideal.τ).loc Cert.Reference3Ideal.main_arg5)) (m' ((c : Thread Cert.Reference3Ideal.nD Cert.Reference3Ideal.τ).loc Cert.Reference3Ideal.main_arg6)) (m' ((c : Thread Cert.Reference3Ideal.nD Cert.Reference3Ideal.τ).loc Cert.Reference3Ideal.main_arg7)) (m' ((c : Thread Cert.Reference3Ideal.nD Cert.Reference3Ideal.τ).loc Cert.Reference3Ideal.main_arg8)) (m' ((c : Thread Cert.Reference3Ideal.nD Cert.Reference3Ideal.τ).loc Cert.Reference3Ideal.main_arg9)) = _
      rw [h0, h1, h2, h3, h4, h5, h6, h7, h8, h9]
      funext i
      obtain ⟨q, k, rfl⟩ : ∃ (q : Fin 8) (k : Fin 128), i = ix2 q k := ⟨i 0, i 1, ix2_val _ _ _ rfl rfl⟩
      exact (r106 _ _ _ _ _ _ _ _ _ _ q k).trans (Finset.sum_congr rfl fun r _ => (hrow r k).2.2)

end Cert.OutProj

end
-- ==== Proof.PosMath.lean ====
/- The dispatch positions' arithmetic: one-hots, padded counts, the running sum over the lanes, ranks over the rows. -/
module

public import Idealize.ShloMosaic.Lib.Pointwise

@[expose] public section

noncomputable section

namespace Cert.Pos

open Idealize.ShloMosaic

/-- One where a word is an expert's number, zero elsewhere. -/
def hit (b : BitVec 32) (e : Fin 128) : EReal := if b = BitVec.ofNat 32 e.val then 1 else 0

theorem sitofp_inj (a b : BitVec 32) : (FloatOps.sitofp (F := Ideal) .f32 a : EReal) = FloatOps.sitofp (F := Ideal) .f32 b ↔ a = b := by
  show ((((a.toInt : ℤ) : ℝ)) : EReal) = (((b.toInt : ℤ) : ℝ) : EReal) ↔ a = b
  rw [EReal.coe_eq_coe_iff, Int.cast_inj, BitVec.toInt_inj]

theorem flag (p : Prop) [Decidable p] : (FloatOps.sitofp (F := Ideal) .f32 (BitVec.setWidth 32 (BitVec.ofBool (decide p))) : EReal) = if p then 1 else 0 := by
  show ((((BitVec.setWidth 32 (BitVec.ofBool (decide p))).toInt : ℤ) : ℝ) : EReal) = _
  by_cases h : p <;> simp [h]

theorem flagU (p : Prop) [Decidable p] : (FloatOps.uitofp (F := Ideal) .f32 (BitVec.ofBool (decide p)) : EReal) = if p then 1 else 0 := by
  show ((((BitVec.ofBool (decide p)).toNat : ℝ)) : EReal) = _
  by_cases h : p <;> simp [h]

theorem flagB (p : Prop) [Decidable p] : (FloatOps.uitofp (F := Ideal) .bf16 (BitVec.ofBool (decide p)) : EReal) = if p then 1 else 0 := by
  show ((((BitVec.ofBool (decide p)).toNat : ℝ)) : EReal) = _
  by_cases h : p <;> simp [h]

theorem hit_of (b : BitVec 32) (e : Fin 128) (s : EReal) (hs : s = FloatOps.sitofp (F := Ideal) .f32 b) :
    (FloatOps.sitofp (F := Ideal) .f32 (BitVec.setWidth 32 (BitVec.ofBool (decide (FloatOps.sitofp (F := Ideal) .f32 (BitVec.ofNat 32 e.val) = s)))) : EReal) = hit b e := by
  subst hs
  rw [flag]
  unfold hit
  by_cases h : b = BitVec.ofNat 32 e.val
  · rw [if_pos h, if_pos ((sitofp_inj _ _).mpr h.symm)]
  · rw [if_neg h, if_neg fun h' => h ((sitofp_inj _ _).mp h').symm]

theorem cmp_eq (a b : BitVec 32) : IntOp.cmpi .eq a b = BitVec.ofBool (decide (a = b)) := by
  unfold IntOp.cmpi
  by_cases h : a = b
  · simp [h]
  · have h' : (a == b) = false := beq_eq_false_iff_ne.mpr h
    simp [h, h']

theorem toInt_small (n : Nat) (h : n < 32768) : (BitVec.ofNat 32 n).toInt = (n : ℤ) := by
  rw [BitVec.toInt_ofNat']
  simp [Int.bmod]
  omega

theorem cmp_sgt (a b : Nat) (ha : a < 32768) (hb : b < 32768) : IntOp.cmpi .sgt (BitVec.ofNat 32 a) (BitVec.ofNat 32 b) = BitVec.ofBool (decide (b < a)) := by
  unfold IntOp.cmpi
  simp only [BitVec.slt, toInt_small _ ha, toInt_small _ hb]
  by_cases h : b < a <;> simp [h]

theorem cmp_sge (a b : Nat) (ha : a < 32768) (hb : b < 32768) : IntOp.cmpi .sge (BitVec.ofNat 32 a) (BitVec.ofNat 32 b) = BitVec.ofBool (decide (b ≤ a)) := by
  unfold IntOp.cmpi
  simp only [BitVec.sle, toInt_small _ ha, toInt_small _ hb]
  by_cases h : b ≤ a <;> simp [h]

theorem sel_if {α : Type} (p : Prop) [Decidable p] (x y : α) : Scalar.select (BitVec.ofBool (decide p)) x y = if p then x else y := by
  unfold Scalar.select
  by_cases h : p <;> simp [h]

theorem pick (f : Fin 128 → EReal) (n : Fin 128) : ∑ x : Fin 128, Scalar.select (IntOp.cmpi .eq (BitVec.ofNat 32 x.val) (BitVec.ofNat 32 n.val)) (f x) 0 = f n := by
  have h : ∀ x : Fin 128, Scalar.select (IntOp.cmpi .eq (BitVec.ofNat 32 x.val) (BitVec.ofNat 32 n.val)) (f x) 0 = if x = n then f x else 0 := fun x => by
    rw [cmp_eq, sel_if]
    have hx := x.isLt
    have hn := n.isLt
    have e : BitVec.ofNat 32 x.val = BitVec.ofNat 32 n.val ↔ x = n := by
      constructor
      · intro h
        have h2 := congrArg BitVec.toNat h
        rw [BitVec.toNat_ofNat, BitVec.toNat_ofNat] at h2
        exact Fin.ext (by omega)
      · intro h; rw [h]
    simp only [e]
  rw [Finset.sum_congr rfl fun x _ => h x]
  simp

/-! ## Padded counts -/

theorem c_511 : Ideal.ofBits .f32 1140817920#32 = ((511 : ℝ) : EReal) := by
  simp [Ideal.ofBits, Ideal.ieee, -EReal.coe_mul]
  try norm_num
theorem c_512 : Ideal.ofBits .f32 1140850688#32 = ((512 : ℝ) : EReal) := by
  simp [Ideal.ofBits, Ideal.ieee, -EReal.coe_mul]
  try norm_num
theorem c_512th : Ideal.ofBits .f32 989855744#32 = ((1 / 512 : ℝ) : EReal) := by
  simp [Ideal.ofBits, Ideal.ieee, -EReal.coe_mul]
  try norm_num

/-- A count rounded up to whole blocks of 512. -/
def padOf (c : EReal) : EReal := Ideal.liftRound Int.floor (Ideal.div (c + ((511 : ℝ) : EReal)) ((512 : ℝ) : EReal)) * ((512 : ℝ) : EReal)

theorem padOf_mul (c : EReal) : Ideal.liftRound Int.floor ((c + Ideal.ofBits .f32 1140817920#32) * Ideal.ofBits .f32 989855744#32) * Ideal.ofBits .f32 1140850688#32 = padOf c := by
  unfold padOf
  rw [c_511, c_512, c_512th, Ideal.div_coe (by norm_num)]

/-! ## The running sum over the lanes -/

/-- A function's sum over the `w` places up to `e`. -/
def win (g : Nat → EReal) (w e : Nat) : EReal := ∑ j ∈ Finset.range w, if j ≤ e then g (e - j) else 0

theorem win_one (g : Nat → EReal) (e : Nat) : win g 1 e = g e := by simp [win]

theorem win_double (g : Nat → EReal) (k e : Nat) : win g (k + k) e = win g k e + if k ≤ e then win g k (e - k) else 0 := by
  unfold win
  rw [Finset.sum_range_add]
  refine congrArg _ ?_
  by_cases h : k ≤ e
  · rw [if_pos h]
    refine Finset.sum_congr rfl fun j _ => ?_
    by_cases h' : k + j ≤ e
    · rw [if_pos h', if_pos (by omega), Nat.sub_sub]
    · rw [if_neg h', if_neg (by omega)]
  · rw [if_neg h]
    exact Finset.sum_eq_zero fun j _ => if_neg (by omega)

theorem sum_upto (h : Nat → EReal) (n e : Nat) (he : e ≤ n) : ∑ j ∈ Finset.range n, (if j < e then h j else 0) = ∑ j ∈ Finset.range e, h j := by
  rw [← Finset.sum_filter]
  refine Finset.sum_congr (Finset.ext fun j => ?_) fun _ _ => rfl
  simp only [Finset.mem_filter, Finset.mem_range]
  omega

theorem win_all (g : Nat → EReal) (n e : Nat) (he : e < n) : win g n e = ∑ j ∈ Finset.range n, if j ≤ e then g j else 0 := by
  unfold win
  have h1 := sum_upto (fun j => g (e - j)) n (e + 1) he
  have h2 := sum_upto g n (e + 1) he
  simp only [Nat.lt_succ_iff] at h1 h2
  rw [h1, h2]
  have h3 := Finset.sum_range_reflect g (e + 1)
  rw [← h3]
  refine Finset.sum_congr rfl fun j _ => congrArg g ?_
  omega

/-! ## Ranks over the rows -/

/-- The sum over the rows before a block and over the block's rows before a row is the sum over the rows before it. -/
theorem rank_split (G : Nat → EReal) (n q : Nat) (hn : n < 32) (hq : q < 1024) :
    ∑ s ∈ Finset.range (n * 1024), G s + ∑ s ∈ Finset.range 1024, (if s < q then G (n * 1024 + s) else 0)
      = ∑ s ∈ Finset.range 32768, if s < n * 1024 + q then G s else 0 := by
  rw [sum_upto (fun s => G (n * 1024 + s)) 1024 q (by omega), sum_upto G 32768 (n * 1024 + q) (by omega), Finset.sum_range_add]

theorem run_succ (G : Nat → EReal) (n : Nat) :
    ∑ s ∈ Finset.range ((n + 1) * 1024), G s = ∑ s ∈ Finset.range (n * 1024), G s + ∑ s ∈ Finset.range 1024, G (n * 1024 + s) := by
  rw [Nat.succ_mul, Finset.sum_range_add]

end Cert.Pos

end
-- ==== Proof.PosRun.lean ====
/- The row positions' call: its body run once at the first point and once at a later one, what its two results and its two
   carried scratches hold point by point, and its run. -/
module

public import proofs.«01_k».proof.Proof.Gen.Kernel4Ideal.Launch
public import proofs.«01_k».proof.Proof.Gen.Kernel4Ideal.Skeleton
public import Idealize.ShloMosaic.Lib.Pipeline.FrameBody
public import Idealize.ShloMosaic.Lib.Pipeline.TableIdle
public import Idealize.ShloMosaic.Lib.Pipeline.Value
public import Idealize.ShloMosaic.Lib.Pipeline.ValueKit
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel4Ideal.Pos

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource the separation logic's propositions are over. -/
abbrev Res (F : FTy → Type) := MT nD τ sig Unit (Elt F) ℕ (UR sig nD τ) ℕ

/-- The first row of the segments' starts, from the counts. -/
def pstart (x2 : Vec F S8x128 .f32) : Vec F S1x128 .f32 :=
  k0_pay12 (k0_pay3 x2) (iota .tc S8x128 32 [1] iota_S8x128_d1_w32) (k0_pay4 x2) 32#32
/-- The second result: the segments' ends and the second row of the counts. -/
def pend (x2 : Vec F S8x128 .f32) : Vec F S8x128 .f32 :=
  k0_pay11 x2 (iota .tc S8x128 32 [1] iota_S8x128_d1_w32) (k0_pay4 x2) 32#32
/-- One block of the first result, from the starts and the run of the counts so far. -/
def dest (x0 : Vec F S1024x128 .i32) (x1 : Vec F S1024x1024 .bf16) (ps : Vec F S1x128 .f32) (r : Vec F S1x128 .f32) : Vec F S1x8x1024 .i32 :=
  k0_pay1 (iota .tc S1024x128 32 [1] iota_S1024x128_d1_w32) (k0_pay8 x0) (k0_pay14 x0 x1 ps r) (k0_pay15 x0 x1 ps r)
/-- The run after a block. -/
def next (x0 : Vec F S1024x128 .i32) (r : Vec F S1x128 .f32) : Vec F S1x128 .f32 := k0_pay2 (k0_pay9 x0) r

theorem hz2 : (![0, 0] : Fin 2 → Nat) = fun _ => 0 := by decide
theorem hz3 : (![0, 0, 0] : Fin 3 → Nat) = fun _ => 0 := by decide

/-- Reading back a buffer written whole gives the payload. -/
theorem read_whole {S : Shape} {e : EltTy} (V : View sig .tc .vmem S e) (f) {off : Fin S.rank → Nat} (hz : off = fun _ => 0) (hb)
    (v : Vec F S e) (L : List (View.Piece (Elt F) S e)) :
    V.read (Elt F) (V.writes (Elt F) f ((⟨Rect.unit (s := S) off S.size hb, v⟩ : View.Piece (Elt F) S e) :: L)) = v := by
  rw [View.read_writes_eq_canon _ _ _ (fun y => ⟨_, List.mem_cons_self, by
    have e : (Rect.unit (s := S) off S.size hb).set = Finset.univ := by
      ext z; simp only [Rect.mem_set_unit, Finset.mem_univ, iff_true]
      exact fun a => by rw [hz]; exact ⟨Nat.zero_le _, by rw [Nat.zero_add]; exact (z a).isLt⟩
    rw [e]; exact Finset.mem_univ _⟩), View.canon_cons_unit_zero hz]

set_option maxHeartbeats 2000000 in
/-- The body at the first point. -/
theorem run_A (c : Dev nD) (i : grid0.Coords) (arg1 : Memref sig .tc .vmem S1024x128 .i32) (harg1 : arg1.IsWhole) (arg2 : Memref sig .tc .vmem S1024x1024 .bf16) (harg2 : arg2.IsWhole) (arg3 : Memref sig .tc .vmem S8x128 .f32) (harg3 : arg3.IsWhole) (arg4 : Memref sig .tc .vmem S1x8x1024 .i32) (harg4 : arg4.IsWhole) (arg5 : Memref sig .tc .vmem S8x128 .f32) (harg5 : arg5.IsWhole) (arg6 : Memref sig .tc .vmem S1x128 .f32) (harg6 : arg6.IsWhole) (arg7 : Memref sig .tc .vmem S1x128 .f32) (harg7 : arg7.IsWhole) (hc0 : k0_cond1 i = 1#1)
    (x0 : Vec F S1024x128 .i32) (x1 : Vec F S1024x1024 .bf16) (x2 : Vec F S8x128 .f32) (E : Set ℕ) (K : PUnit → sProp (Res F)) :
    iprop(owns (c : Thread nD τ) arg1 fullShare (x0) ∗ owns (c : Thread nD τ) arg2 fullShare (x1) ∗ owns (c : Thread nD τ) arg3 fullShare (x2) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (iprop(owns (c : Thread nD τ) arg1 fullShare (x0) ∗ owns (c : Thread nD τ) arg2 fullShare (x1) ∗ owns (c : Thread nD τ) arg3 fullShare (x2) ∗ owns (c : Thread nD τ) arg4 fullShare (dest x0 x1 (pstart x2) k0_pay13) ∗ owns (c : Thread nD τ) arg5 fullShare (pend x2) ∗ owns (c : Thread nD τ) arg6 fullShare (next x0 k0_pay13) ∗ owns (c : Thread nD τ) arg7 fullShare (pstart x2)) -∗ K ⟨⟩))
      ⊢ wp frame (wpE (defs₀ (F := F)) Variants.none c none) E (cc0_dispatch_positions i arg1 harg1 arg2 harg2 arg3 harg3 arg4 harg4 arg5 harg5 arg6 harg6 arg7 harg7) K := by
  simp only [cc0_dispatch_positions_eq_skeleton]; unfold cc0_dispatch_positions_skel
  simp only [k0_part2_eq_skeleton, k0_part1_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, ⟨%ds1, %fs1, -, HS1⟩, Hk⟩
  obtain rfl := harg1.eq_unread hf0; obtain rfl := harg2.eq_unread hf1; obtain rfl := harg3.eq_unread hf2
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; swap; · iexact H3
    ipureintro
    try delta run_A.sl.r_3
    try delta run_A.sl.r_5
    try delta run_A.sl.r_6
    try delta run_A.sl.v0
    try delta run_A.sl.v34
    try delta run_A.sl.v35
    try delta run_A.sl.HS1_1
    try delta run_A.sl.HS0_1
    try delta run_A.sl.r
    try delta run_A.sl.r_1
    try delta run_A.sl.r_2
    try delta run_A.sl.v77
    simp only [View.readAt_eq_ld, harg1.read_unread, harg2.read_unread, harg3.read_unread, harg6.read_unread, harg7.read_unread, View.ld_unit_zero (S := S1024x128) hz2, View.ld_unit_zero (S := S1024x1024) hz2, View.ld_unit_zero (S := S8x128) hz2, View.ld_unit_zero (S := S1x128) hz2, View.ld_unit_zero (S := S1x8x1024) hz3, read_whole (S := S8x128) _ _ hz2, read_whole (S := S1x128) _ _ hz2, read_whole (S := S1x8x1024) _ _ hz3, View.readCov_cons_toLoadRect]
    try rfl
  isplitl [H4]
  · iexists _; isplitr; swap; · iexact H4
    ipureintro
    try delta run_A.sl.r
    try delta run_A.sl.r_2
    try delta run_A.sl.v77
    simp only [View.readAt_eq_ld, harg1.read_unread, harg2.read_unread, harg3.read_unread, harg6.read_unread, harg7.read_unread, View.ld_unit_zero (S := S1024x128) hz2, View.ld_unit_zero (S := S1024x1024) hz2, View.ld_unit_zero (S := S8x128) hz2, View.ld_unit_zero (S := S1x128) hz2, View.ld_unit_zero (S := S1x8x1024) hz3, read_whole (S := S8x128) _ _ hz2, read_whole (S := S1x128) _ _ hz2, read_whole (S := S1x8x1024) _ _ hz3, View.readCov_cons_toLoadRect]
    try rfl
  isplitl [HS0]
  · iexists _; isplitr; swap; · iexact HS0
    ipureintro
    try delta run_A.sl.r_4
    try delta run_A.sl.v62
    try delta run_A.sl.HS0_1
    simp only [View.readAt_eq_ld, harg1.read_unread, harg2.read_unread, harg3.read_unread, harg6.read_unread, harg7.read_unread, View.ld_unit_zero (S := S1024x128) hz2, View.ld_unit_zero (S := S1024x1024) hz2, View.ld_unit_zero (S := S8x128) hz2, View.ld_unit_zero (S := S1x128) hz2, View.ld_unit_zero (S := S1x8x1024) hz3, read_whole (S := S8x128) _ _ hz2, read_whole (S := S1x128) _ _ hz2, read_whole (S := S1x8x1024) _ _ hz3, View.readCov_cons_toLoadRect]
    try rfl
  · iexists _; isplitr; swap; · iexact HS1
    ipureintro
    try delta run_A.sl.HS1_1
    try delta run_A.sl.r_1
    try delta run_A.sl.r_2
    try delta run_A.sl.v77
    simp only [View.readAt_eq_ld, harg1.read_unread, harg2.read_unread, harg3.read_unread, harg6.read_unread, harg7.read_unread, View.ld_unit_zero (S := S1024x128) hz2, View.ld_unit_zero (S := S1024x1024) hz2, View.ld_unit_zero (S := S8x128) hz2, View.ld_unit_zero (S := S1x128) hz2, View.ld_unit_zero (S := S1x8x1024) hz3, read_whole (S := S8x128) _ _ hz2, read_whole (S := S1x128) _ _ hz2, read_whole (S := S1x8x1024) _ _ hz3, View.readCov_cons_toLoadRect]
    try rfl

set_option maxHeartbeats 2000000 in
/-- The body at a later point. -/
theorem run_B (c : Dev nD) (i : grid0.Coords) (arg1 : Memref sig .tc .vmem S1024x128 .i32) (harg1 : arg1.IsWhole) (arg2 : Memref sig .tc .vmem S1024x1024 .bf16) (harg2 : arg2.IsWhole) (arg3 : Memref sig .tc .vmem S8x128 .f32) (harg3 : arg3.IsWhole) (arg4 : Memref sig .tc .vmem S1x8x1024 .i32) (harg4 : arg4.IsWhole) (arg5 : Memref sig .tc .vmem S8x128 .f32) (harg5 : arg5.IsWhole) (arg6 : Memref sig .tc .vmem S1x128 .f32) (harg6 : arg6.IsWhole) (arg7 : Memref sig .tc .vmem S1x128 .f32) (harg7 : arg7.IsWhole) (hc0 : ¬ k0_cond1 i = 1#1)
    (x0 : Vec F S1024x128 .i32) (x1 : Vec F S1024x1024 .bf16) (x2 : Vec F S8x128 .f32) (xs0 xs1 : Vec F S1x128 .f32) (E : Set ℕ) (K : PUnit → sProp (Res F)) :
    iprop(owns (c : Thread nD τ) arg1 fullShare (x0) ∗ owns (c : Thread nD τ) arg2 fullShare (x1) ∗ owns (c : Thread nD τ) arg3 fullShare (x2) ∗ (∃ d, owns (c : Thread nD τ) arg4 fullShare d) ∗ owns (c : Thread nD τ) arg6 fullShare (xs0) ∗ owns (c : Thread nD τ) arg7 fullShare (xs1) ∗ (iprop(owns (c : Thread nD τ) arg1 fullShare (x0) ∗ owns (c : Thread nD τ) arg2 fullShare (x1) ∗ owns (c : Thread nD τ) arg3 fullShare (x2) ∗ owns (c : Thread nD τ) arg4 fullShare (dest x0 x1 xs1 xs0) ∗ owns (c : Thread nD τ) arg6 fullShare (next x0 xs0) ∗ owns (c : Thread nD τ) arg7 fullShare (xs1)) -∗ K ⟨⟩))
      ⊢ wp frame (wpE (defs₀ (F := F)) Variants.none c none) E (cc0_dispatch_positions i arg1 harg1 arg2 harg2 arg3 harg3 arg4 harg4 arg5 harg5 arg6 harg6 arg7 harg7) K := by
  simp only [cc0_dispatch_positions_eq_skeleton]; unfold cc0_dispatch_positions_skel
  simp only [k0_part2_eq_skeleton, k0_part1_eq_skeleton]
  unfold owns
  iintro ⟨⟨%f0, %hf0, H0⟩, ⟨%f1, %hf1, H1⟩, ⟨%f2, %hf2, H2⟩, ⟨%d3, %f3, -, H3⟩, ⟨%fs0, %hs0, HS0⟩, ⟨%fs1, %hs1, HS1⟩, Hk⟩
  obtain rfl := harg1.eq_unread hf0; obtain rfl := harg2.eq_unread hf1; obtain rfl := harg3.eq_unread hf2
  obtain rfl := harg6.eq_unread hs0; obtain rfl := harg7.eq_unread hs1
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; swap; · iexact H3
    ipureintro
    try delta run_B.sl.r
    try delta run_B.sl.r_2
    try delta run_B.sl.r_3
    try delta run_B.sl.v0
    simp only [View.readAt_eq_ld, harg1.read_unread, harg2.read_unread, harg3.read_unread, harg6.read_unread, harg7.read_unread, View.ld_unit_zero (S := S1024x128) hz2, View.ld_unit_zero (S := S1024x1024) hz2, View.ld_unit_zero (S := S8x128) hz2, View.ld_unit_zero (S := S1x128) hz2, View.ld_unit_zero (S := S1x8x1024) hz3, read_whole (S := S8x128) _ _ hz2, read_whole (S := S1x128) _ _ hz2, read_whole (S := S1x8x1024) _ _ hz3, View.readCov_cons_toLoadRect]
    try rfl
  isplitl [HS0]
  · iexists _; isplitr; swap; · iexact HS0
    ipureintro
    try delta run_B.sl.r_1
    simp only [View.readAt_eq_ld, harg1.read_unread, harg2.read_unread, harg3.read_unread, harg6.read_unread, harg7.read_unread, View.ld_unit_zero (S := S1024x128) hz2, View.ld_unit_zero (S := S1024x1024) hz2, View.ld_unit_zero (S := S8x128) hz2, View.ld_unit_zero (S := S1x128) hz2, View.ld_unit_zero (S := S1x8x1024) hz3, read_whole (S := S8x128) _ _ hz2, read_whole (S := S1x128) _ _ hz2, read_whole (S := S1x8x1024) _ _ hz3, View.readCov_cons_toLoadRect]
    try rfl
  iexists _; isplitr; · ipureintro; exact harg7.read_unread _
  iexact HS1

/-! ## The region's entry -/

variable (m : (ℓ : Loc nD τ sig) → Buf (Elt F) ℓ) (ρ : Dev nD → PrngReg)

/-- The buffers when the region is entered: after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The main program up to the region: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- A window's block at a point, as the region finds its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The body's guard holds at the first point only. -/
theorem hcond0_0 : ∀ t : Fin cfg0.N, k0_cond1 (grid0.coords t) = 1#1 ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [k0_cond1, e0]
    word_cmp
   : ∀ t : Fin grid0.N, k0_cond1 (grid0.coords t) = 1#1 ↔ t.val % 32 = 0)

/-- The first result's block is written back at every point, -/
theorem flush0_3 : ∀ t : Fin cfg0.N, (cfg0.win 3).flush t = true :=
  (fun t => (Pipeline.Window.flush_reads win0_3 rfl 0 (by decide) (by decide) (Pipeline.Window.sep_of_coord cc0_transform_3 0 0 (fun _ => rfl) (by decide)) (P := 1) (m := 0) (by decide) rfl t).mpr (Nat.mod_one _) : ∀ t : Fin grid0.N, win0_3.flush t = true)
/-- the second's at the last only. -/
theorem flush0_4 : ∀ t : Fin cfg0.N, (cfg0.win 4).flush t = true ↔ t.val % 32 = 31 :=
  (fun t => Pipeline.Window.flush_const win0_4 rfl (fun _ _ => rfl) (n := 32) (by decide) rfl t : ∀ t : Fin grid0.N, win0_4.flush t = true ↔ t.val % 32 = 31)

/-- The body at a point. -/
abbrev bodyAt0 (t : Fin cfg0.N) : Prog (TpuEff nD τ sig (Elt F) Λ₀ .tc) PUnit :=
  cc0_dispatch_positions (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole cc0_scratch0) (Memref.isWhole_whole _) (Memref.whole cc0_scratch1) (Memref.isWhole_whole _)

abbrev ms0_0 (t : Fin cfg0.N) : Memref sig .tc .vmem S1024x128 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8x1024 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x128 .f32 := win0_4.stage (cfg0.slots t 4)
abbrev hs0_4 (t : Fin cfg0.N) : (ms0_4 t).IsWhole := hstage0_4 ((cfg0.slots t 4).cast nbuf0_4)
/-- The two carried scratches. -/
abbrev scM0_0 : Memref sig .tc .vmem S1x128 .f32 := Memref.whole cc0_scratch0
abbrev scM0_1 : Memref sig .tc .vmem S1x128 .f32 := Memref.whole cc0_scratch1

theorem PhiA0_eq (c : Dev nD) :
    (Pipeline.ΦA spec0 c : sProp (Res F))
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The starts, and the second result. -/
def PS (c : Dev nD) : Vec F S1x128 .f32 := pstart (iblk m c 2 ⟨0, by decide⟩)
def PE (c : Dev nD) : Vec F S8x128 .f32 := pend (iblk m c 2 ⟨0, by decide⟩)
/-- The run of the counts before point `n`. -/
def R (c : Dev nD) : (n : ℕ) → n ≤ cfg0.N → Vec F S1x128 .f32
  | 0, _ => k0_pay13
  | n + 1, hn => next (iblk m c 0 ⟨n, hn⟩) (R c n (Nat.le_of_lt hn))
/-- The first result's block at a point. -/
def D (c : Dev nD) (t : Fin cfg0.N) : Vec F S1x8x1024 .i32 := dest (iblk m c 0 t) (iblk m c 1 t) (PS m c) (R m c t.val (Nat.le_of_lt t.isLt))

/-- The counts' block is the same at every point. -/
theorem blk2 (c : Dev nD) (t t' : Fin cfg0.N) : (iblk m c 2 t : Vec F S8x128 .f32) = iblk m c 2 t' := rfl

/-- What is held between points: at the start the scratches at anything, then at the run and the starts. -/
def PhiS (c : Dev nD) : (n : ℕ) → n ≤ cfg0.N → sProp (Res F)
  | 0, _ => Pipeline.ΦA spec0 c
  | n + 1, hn => iprop(iprop(owns (c : Thread nD τ) scM0_0 fullShare (R m c (n + 1) hn) ∗ owns (c : Thread nD τ) scM0_1 fullShare (PS m c)) ∗ (∃ r, prngReg c r))

theorem PhiS_zero (c : Dev nD) (n : ℕ) (h : n ≤ cfg0.N) (hz : n = 0) : PhiS m c n h = Pipeline.ΦA spec0 c := by
  subst hz; rfl
theorem PhiS_pos (c : Dev nD) (n : ℕ) (h : n ≤ cfg0.N) (hz : n ≠ 0) :
    PhiS m c n h = iprop(iprop(owns (c : Thread nD τ) scM0_0 fullShare (R m c n h) ∗ owns (c : Thread nD τ) scM0_1 fullShare (PS m c)) ∗ (∃ r, prngReg c r)) := by
  cases n with
  | zero => exact absurd rfl hz
  | succ n => rfl

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => D m c t
    | ⟨4, _⟩ => PE m c
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem PhiS_suc (c : Dev nD) (t : Fin cfg0.N) :
    (dats m 0 c).Φ t.succ = PhiS m c (t.val + 1) t.isLt := by
  dsimp only [dats]; rfl

theorem after0 (c : Dev nD) (t : Fin cfg0.N) : (dats m 0 c).after 0 t = iblk m c 0 t := by dsimp only [dats]; try rfl
theorem after1 (c : Dev nD) (t : Fin cfg0.N) : (dats m 0 c).after 1 t = iblk m c 1 t := by dsimp only [dats]; try rfl
theorem after2 (c : Dev nD) (t : Fin cfg0.N) : (dats m 0 c).after 2 t = iblk m c 2 t := by dsimp only [dats]; try rfl
theorem after3 (c : Dev nD) (t : Fin cfg0.N) : (dats m 0 c).after 3 t = D m c t := by dsimp only [dats]; try rfl
theorem after4 (c : Dev nD) (t : Fin cfg0.N) : (dats m 0 c).after 4 t = PE m c := by dsimp only [dats]; try rfl
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

theorem idle4 (t : Fin cfg0.N) : cfg0.idle 4 (cfg0.grid.coords t) = !(k0_cond1 (grid0.coords t) == 1#1) := rfl

/-- The second result's buffer, after the first point, keeps what the first point left. -/
theorem before4 (c : Dev nD) (t : Fin cfg0.N) (h : t.val ≠ 0) (d) : (dats m 0 c).before 4 t d = PE m c := by
  have hN : cfg0.N = 32 := N_0
  have ht := t.isLt
  rw [(dats m 0 c).before_idle_run 4 ((cfg0.win 4).fetch_out rfl) d (t.val - 1) t (by omega) (fun j h1 h2 => ⟨by
      rw [idle4]
      have := (hcond0_0 j).not.mpr (by omega)
      simp [this], Bool.eq_false_iff.mpr fun hf => by have := (flush0_4 j).mp hf; omega⟩)]
  have hN1 : 1 < cfg0.N := by omega
  have hN0 : 0 < cfg0.N := by omega
  have e : (⟨t.val - (t.val - 1), by omega⟩ : Fin cfg0.N) = ⟨1, hN1⟩ := Fin.ext (show t.val - (t.val - 1) = 1 by omega)
  rw [e]
  rw [(dats m 0 c).before_of_pos 4 _ (by simp) ((cfg0.win 4).fetch_out rfl _)]
  have hf0 : (cfg0.win 4).flush ⟨0, hN0⟩ = false := Bool.eq_false_iff.mpr fun hf => by have := (flush0_4 _).mp hf; simp at this
  have hi0 : cfg0.idle 4 (cfg0.grid.coords ⟨0, hN0⟩) = false := by
    rw [idle4, (hcond0_0 ⟨0, hN0⟩).mpr (by simp)]; rfl
  simp only [Nat.sub_self]
  rw [hf0, if_neg Bool.false_ne_true]
  unfold Dat.left
  rw [hi0]
  dsimp only
  unfold Dat.kept
  rw [after4]
  rfl

/-- What the body is called with at point `t`, -/
def bodyPre (c : Dev nD) (t : Fin cfg0.N) : sProp (Res F) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp (Res F) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- The body at any point. -/
theorem sound_body (c : Dev nD) (t : Fin cfg0.N) :
    bodyPre m c t ⊢ wp frame (wpE (defs₀ (F := F)) Variants.none c none) Set.univ (bodyAt0 t) (fun _ => bodyPost m c t) := by
  have hN : cfg0.N = 32 := N_0
  have htN := t.isLt
  unfold bodyPre bodyPost bodyAt0
  simp only [before0, before1, before2]
  rw [show (dats m 0 c).owesAt () t.succ = (dats m 0 c).owesAt () t.castSucc from rfl,
    after0, after1, after2, after3, after4, PhiS_castSucc, PhiS_suc, PhiS_pos m c (t.val + 1) _ (Nat.succ_ne_zero _)]
  by_cases h0 : t.val = 0
  · rw [PhiS_zero m c t.val _ h0, PhiA0_eq]
    have hc0 : k0_cond1 (grid0.coords t) = 1#1 := (hcond0_0 t).mpr (by omega)
    obtain ⟨n, hn⟩ := t
    dsimp only at h0; subst h0
    have eD : D m c ⟨0, by omega⟩ = dest (iblk m c 0 ⟨0, by omega⟩) (iblk m c 1 ⟨0, by omega⟩) (pstart (iblk m c 2 ⟨0, by omega⟩)) k0_pay13 := rfl
    have eP : PE m c = pend (iblk m c 2 ⟨0, by omega⟩) := rfl
    have eR : R m c (0 + 1) hn = next (iblk m c 0 ⟨0, by omega⟩) k0_pay13 := rfl
    have eS : PS m c = pstart (iblk m c 2 ⟨0, by omega⟩) := rfl
    rw [eD, eP, eR, eS]
    iintro ⟨⟨⟨HS0, HS1⟩, Hg⟩, Ho, ⟨%d0, H0⟩, ⟨%d1, H1⟩, ⟨%d2, H2⟩, ⟨%d3, H3⟩, ⟨%d4, H4⟩⟩
    iapply ((run_A c _ _ _ _ _ _ _ _ _ _ _ _ _ _ _ hc0 (iblk m c 0 ⟨0, by omega⟩) (iblk m c 1 ⟨0, by omega⟩) (iblk m c 2 ⟨0, by omega⟩)) Set.univ _)
    isplitl [H0]; · iexact H0
    isplitl [H1]; · iexact H1
    isplitl [H2]; · iexact H2
    isplitl [H3]; · iexists _; iexact H3
    isplitl [H4]; · iexists _; iexact H4
    isplitl [HS0]; · iexact HS0
    isplitl [HS1]; · iexact HS1
    iintro ⟨H0, H1, H2, H3, H4, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    iexact H4
  · rw [PhiS_pos m c t.val _ h0]
    have hc0 : ¬ k0_cond1 (grid0.coords t) = 1#1 := (hcond0_0 t).not.mpr (by omega)
    simp only [before4 m c t h0]
    have eD : D m c t = dest (iblk m c 0 t) (iblk m c 1 t) (PS m c) (R m c t.val (Nat.le_of_lt t.isLt)) := rfl
    have eR : R m c (t.val + 1) htN = next (iblk m c 0 t) (R m c t.val (Nat.le_of_lt t.isLt)) := rfl
    rw [eD, eR]
    iintro ⟨⟨⟨HS0, HS1⟩, Hg⟩, Ho, ⟨%d0, H0⟩, ⟨%d1, H1⟩, ⟨%d2, H2⟩, ⟨%d3, H3⟩, ⟨%d4, H4⟩⟩
    iapply ((run_B c _ _ _ _ _ _ _ _ _ _ _ _ _ _ _ hc0 (iblk m c 0 t) (iblk m c 1 t) (iblk m c 2 t) (R m c t.val (Nat.le_of_lt t.isLt)) (PS m c)) Set.univ _)
    isplitl [H0]; · iexact H0
    isplitl [H1]; · iexact H1
    isplitl [H2]; · iexact H2
    isplitl [H3]; · iexists _; iexact H3
    isplitl [HS0]; · iexact HS0
    isplitl [HS1]; · iexact HS1
    iintro ⟨H0, H1, H2, H3, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    iexact H4

theorem row (t : Fin cfg0.N) : defs₀ (F := F) .tc cfg0.body (cfg0.bodyArgs t (cfg0.slots t)) = bodyAt0 t := by
  unfold defs₀; rw [Defs.onTc_tc]

section obligation
attribute [local irreducible] k0_cond1

/-- A buffer handed back at one proposition serves where it is idle and not written back too, if there it serves. -/
theorem left_any (b b' : Bool) (P Q : sProp (Res F)) : (b = true → b' = false → (Q ⊢ P)) → (Q ⊢
    (match b with | true => (match b' with | false => P | true => Q) | false => Q)) := by
  intro h; cases b <;> cases b' <;> first | exact .rfl | exact h rfl rfl

theorem body_obligation (c : Dev nD) : BodyObligation (dats (F := F) m 0 c) (defs₀ (F := F)) Variants.none () Set.univ := fun t => by
  rw [bigSep_W0, bigSep_W0, row]
  refine triple_restated (sound_body m c t) rfl .rfl fun _ => ?_
  unfold bodyPost
  refine sep_mono (PROP := sProp (Res F)) .rfl ?_
  refine sep_mono (PROP := sProp (Res F)) .rfl ?_
  refine sep_mono (PROP := sProp (Res F)) .rfl ?_
  refine sep_mono (PROP := sProp (Res F)) .rfl ?_
  refine sep_mono (PROP := sProp (Res F)) .rfl ?_
  refine sep_mono (PROP := sProp (Res F)) .rfl ?_
  refine left_any (F := F) (cfg0.idle 4 (cfg0.grid.coords t)) ((cfg0.win 4).flush t) _ _ fun hi _ => ?_
  have h0 : t.val ≠ 0 := fun h => by
    rw [idle4] at hi
    have := (hcond0_0 t).mpr (by omega)
    simp [this] at hi
  rw [after4]
  iintro H
  iexists (fun _ => Classical.arbitrary _)
  rw [before4 m c t h0]
  iexact H

end obligation

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 32 := N_0; omega)

set_option backward.isDefEq.respectTransparency.types false in
/-- The launch: every final state has the pipeline's arrays at what the proof data gives, and every counter at zero. -/
theorem run_quiescent : θ_run defs (onTc (τ := τ) (main (F := F))) ⟨m, fun _ => 0, ρ⟩ (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run read: the two results at the proof data's final contents, the arguments unchanged, the counters zero. -/
theorem run_read : θ_run defs (onTc (τ := τ) (main (F := F))) ⟨m, fun _ => 0, ρ⟩ (fun r => (∀ c : Dev nD,
      r.2.mem ((c.tc : Thread nD τ).loc main_v8_0) = (dats m 0 c).arrAt 3 cfg0.N
      ∧ r.2.mem ((c.tc : Thread nD τ).loc main_v8_1) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c).1 3, (h.1 c).1 4,
      ((h.1 c).1 0).trans (((dats m 0 c).arrAt_in 0 rfl _).trans ((A_eq m c 0).trans (V_main_arg0 m c))),
      ((h.1 c).1 2).trans (((dats m 0 c).arrAt_in 2 rfl _).trans ((A_eq m c 2).trans (V_main_arg1 m c)))⟩, h.2⟩) (run_quiescent m ρ)

end Cert.Kernel4Ideal.Pos

end
-- ==== Proof.PosPay.lean ====
/- The dispatch positions' operations, read at an index. -/
module

public import proofs.«01_k».proof.Proof.PosMath
public import proofs.«01_k».proof.Proof.PosRun
public import Idealize.ShloMosaic.Lib.KernelVsHost

@[expose] public section

set_option maxRecDepth 16384

noncomputable section

namespace Cert.Pos

open Cert.Kernel4Ideal Cert.Kernel4Ideal.Gen Cert.Kernel4Ideal.Pos
open Idealize.ShloMosaic Idealize.ShloMosaic.TcCoe Idealize.SL.Sem

section block
variable (x0 : Vec Ideal S1024x128 .i32)

theorem pay7_apply (q : Fin 1024) (e : Fin 128) : k0_pay7 x0 (ix2 q e) = hit (x0 (ix2 q (0 : Fin 128))) e := by
  refine Eq.trans ?_ (hit_of _ e _ (pick (fun x => FloatOps.sitofp (F := Ideal) .f32 (x0 (ix2 q x))) (0 : Fin 128)))
  pointwise [k0_pay7, k0_pay6, k0_pay5]

theorem pay8_apply (q : Fin 1024) (e : Fin 128) : k0_pay8 x0 (ix2 q e) = hit (x0 (ix2 q (1 : Fin 128))) e := by
  refine Eq.trans ?_ (hit_of _ e _ (pick (fun x => FloatOps.sitofp (F := Ideal) .f32 (x0 (ix2 q x))) (1 : Fin 128)))
  pointwise [k0_pay8, k0_pay6, k0_pay5]

theorem pay9_apply (q : Fin 1024) (e : Fin 128) : k0_pay9 x0 (ix2 q e) = hit (x0 (ix2 q (0 : Fin 128))) e + hit (x0 (ix2 q (1 : Fin 128))) e := by
  rw [← pay7_apply, ← pay8_apply]
  pointwise [k0_pay9]

theorem pay14_apply (x1 : Vec Ideal S1024x1024 .bf16) (a b : Vec Ideal S1x128 .f32) (q : Fin 1024) (e : Fin 128) :
    k0_pay14 x0 x1 a b (ix2 q e) = a (ix2 (0 : Fin 1) e) + b (ix2 (0 : Fin 1) e) + ∑ x : Fin 1024, x1 (ix2 q x) * k0_pay9 x0 (ix2 x e) := by
  pointwise [k0_pay14]

theorem pay15_apply (x1 : Vec Ideal S1024x1024 .bf16) (a b : Vec Ideal S1x128 .f32) (q : Fin 1024) (e : Fin 128) :
    k0_pay15 x0 x1 a b (ix2 q e) = k0_pay7 x0 (ix2 q e) * k0_pay14 x0 x1 a b (ix2 q e) := by
  pointwise [k0_pay15]

theorem pay2_apply (y : FVec Ideal S1024x128 .f32) (r : Vec Ideal S1x128 .f32) (e : Fin 128) :
    k0_pay2 y r (ix2 (0 : Fin 1) e) = r (ix2 (0 : Fin 1) e) + ∑ x : Fin 1024, y (ix2 x e) := by
  pointwise [k0_pay2]

theorem pay1_apply (y z w : FVec Ideal S1024x128 .f32) (j : Fin 8) (q : Fin 1024) :
    k0_pay1 (iota .tc S1024x128 32 [1] iota_S1024x128_d1_w32) y z w (ix3 (0 : Fin 1) j q)
      = FloatOps.fptosi 32 (if j.val = 0 then ∑ x : Fin 128, w (ix2 q x) else if j.val = 1 then ∑ x : Fin 128, y (ix2 q x) * z (ix2 q x) else (0 : EReal)) := by
  have h0 : ∀ j : Fin 8, IntOp.cmpi .eq (BitVec.ofNat 32 j.val) 0#32 = BitVec.ofBool (decide (j.val = 0)) := by decide
  have h1 : ∀ j : Fin 8, IntOp.cmpi .eq (BitVec.ofNat 32 j.val) 1#32 = BitVec.ofBool (decide (j.val = 1)) := by decide
  rw [← sel_if, ← sel_if, ← h0, ← h1]
  pointwise [k0_pay1]

end block

section counts
variable (x : Vec Ideal S8x128 .f32)

theorem pay3_apply (a : Fin 8) (e : Fin 128) : k0_pay3 x (ix2 a e) = padOf (x (ix2 a e)) := by
  rw [← padOf_mul]
  pointwise [k0_pay3]

theorem pay13_apply (e : Fin 128) : (k0_pay13 (F := Ideal)) (ix2 (0 : Fin 1) e) = 0 := by
  pointwise [k0_pay13]

/-- One step of the running sum over the lanes. -/
def rot (y : FVec Ideal S8x128 .f32) (k : BitVec 32) : FVec Ideal S8x128 .f32 :=
  addf y (select (cmpi .sge (iota .tc S8x128 32 [1] iota_S8x128_d1_w32) (broadcast S8x128 k)) (dynamicRotate 1 k none y rotates_S8x128_d1)
    (broadcast S8x128 (Scalar.ofBits .f32 0x00000000#32)))

theorem rot_win (y : FVec Ideal S8x128 .f32) (a : Fin 8) (g : Nat → EReal) (k : Nat) (hk : k < 128) (hy : ∀ e : Fin 128, y (ix2 a e) = win g k e.val) (e : Fin 128) :
    rot y (BitVec.ofNat 32 k) (ix2 a e) = win g (k + k) e.val := by
  have he := e.isLt
  have hkn : (BitVec.ofNat 32 k).toNat = k := by rw [BitVec.toNat_ofNat]; omega
  have hrot : dynamicRotate (1 : Fin 2) (BitVec.ofNat 32 k) none y rotates_S8x128_d1 (ix2 a e) = y (ix2 a (⟨(e.val + 128 - k) % 128, Nat.mod_lt _ (by decide)⟩ : Fin 128)) := by
    refine dynamicRotate_apply (1 : Fin 2) (BitVec.ofNat 32 k) y rotates_S8x128_d1 (ix2 a e) _ fun b => ?_
    match b with
    | ⟨0, _⟩ => rfl
    | ⟨1, _⟩ =>
      show (e.val + 128 - k) % 128 = (e.val + 128 - (BitVec.ofNat 32 k).toNat % 128) % 128
      rw [hkn, Nat.mod_eq_of_lt hk]
  have h1 : rot y (BitVec.ofNat 32 k) (ix2 a e) = y (ix2 a e) + Scalar.select (IntOp.cmpi .sge (BitVec.ofNat 32 e.val) (BitVec.ofNat 32 k))
      (dynamicRotate (1 : Fin 2) (BitVec.ofNat 32 k) none y rotates_S8x128_d1 (ix2 a e)) 0 := by
    unfold rot
    generalize dynamicRotate (1 : Fin 2) (BitVec.ofNat 32 k) none y rotates_S8x128_d1 = z
    pointwise []
  rw [h1, hrot, cmp_sge _ _ (by omega) (by omega), sel_if, win_double, hy, hy]
  refine congrArg _ ?_
  by_cases h : k ≤ e.val
  · rw [if_pos h, if_pos h]
    refine congrArg _ ?_
    show (e.val + 128 - k) % 128 = e.val - k
    omega
  · rw [if_neg h, if_neg h]

theorem pay4_eq : k0_pay4 x = rot (rot (rot (rot (rot (k0_pay3 x) 1#32) 2#32) 4#32) 8#32) 16#32 := rfl
theorem pay10_eq (y : FVec Ideal S8x128 .f32) : k0_pay10 (iota .tc S8x128 32 [1] iota_S8x128_d1_w32) y 32#32 = rot (rot y 32#32) 64#32 := rfl

/-- Where an expert's padded rows end, and where they start. -/
def ends (e : Fin 128) : EReal := ∑ j : Fin 128, if j.val ≤ e.val then padOf (x (ix2 (0 : Fin 8) j)) else 0
def start (e : Fin 128) : EReal := ends x e - padOf (x (ix2 (0 : Fin 8) e))

theorem scan_apply (e : Fin 128) : k0_pay10 (iota .tc S8x128 32 [1] iota_S8x128_d1_w32) (k0_pay4 x) 32#32 (ix2 (0 : Fin 8) e) = ends x e := by
  rw [pay10_eq, pay4_eq]
  let g : Nat → EReal := fun n => if h : n < 128 then padOf (x (ix2 (0 : Fin 8) (⟨n, h⟩ : Fin 128))) else 0
  have s1 : ∀ e : Fin 128, k0_pay3 x (ix2 (0 : Fin 8) e) = win g 1 e.val := fun e => by
    rw [win_one, pay3_apply]
    show _ = (if h : e.val < 128 then padOf (x (ix2 (0 : Fin 8) (⟨e.val, h⟩ : Fin 128))) else 0)
    rw [dif_pos e.isLt]
  have s2 := rot_win _ (0 : Fin 8) g 1 (by decide) s1
  have s4 := rot_win _ (0 : Fin 8) g 2 (by decide) s2
  have s8 := rot_win _ (0 : Fin 8) g 4 (by decide) s4
  have s16 := rot_win _ (0 : Fin 8) g 8 (by decide) s8
  have s32 := rot_win _ (0 : Fin 8) g 16 (by decide) s16
  have s64 := rot_win _ (0 : Fin 8) g 32 (by decide) s32
  have s128 := rot_win _ (0 : Fin 8) g 64 (by decide) s64
  refine (s128 e).trans ((win_all g 128 e.val e.isLt).trans ?_)
  rw [Finset.sum_range]
  unfold ends
  refine Finset.sum_congr rfl fun j _ => ?_
  by_cases h : j.val ≤ e.val
  · rw [if_pos h, if_pos h]
    exact dif_pos j.isLt
  · rw [if_neg h, if_neg h]

theorem pstart_apply (e : Fin 128) : (pstart x : Vec Ideal S1x128 .f32) (ix2 (0 : Fin 1) e) = start x e := by
  unfold start
  rw [← scan_apply, ← pay3_apply]
  unfold pstart
  generalize k0_pay3 x = p
  generalize k0_pay4 x = y
  generalize (iota .tc S8x128 32 [1] iota_S8x128_d1_w32) = v
  pointwise [k0_pay12]

theorem pend_apply (a : Fin 8) (e : Fin 128) :
    (pend x : Vec Ideal S8x128 .f32) (ix2 a e) = if a.val = 0 then ends x e else if a.val = 1 then x (ix2 (1 : Fin 8) e) else 0 := by
  have h0 : ∀ j : Fin 8, IntOp.cmpi .eq (BitVec.ofNat 32 j.val) 0#32 = BitVec.ofBool (decide (j.val = 0)) := by decide
  have h1 : ∀ j : Fin 8, IntOp.cmpi .eq (BitVec.ofNat 32 j.val) 1#32 = BitVec.ofBool (decide (j.val = 1)) := by decide
  have e1 : (pend x : Vec Ideal S8x128 .f32) (ix2 a e) = Scalar.select (IntOp.cmpi .eq (BitVec.ofNat 32 a.val) 0#32)
      (k0_pay10 (iota .tc S8x128 32 [1] iota_S8x128_d1_w32) (k0_pay4 x) 32#32 (ix2 a e))
      (Scalar.select (IntOp.cmpi .eq (BitVec.ofNat 32 a.val) 1#32) (x (ix2 a e)) 0) := by
    unfold pend
    generalize k0_pay4 x = y
    generalize (iota .tc S8x128 32 [1] iota_S8x128_d1_w32) = v
    pointwise [k0_pay11]
  rw [e1, h0, h1, sel_if, sel_if]
  by_cases ha : a.val = 0
  · rw [if_pos ha, if_pos ha]
    obtain rfl : a = 0 := Fin.ext ha
    exact scan_apply x e
  · rw [if_neg ha, if_neg ha]
    by_cases hb : a.val = 1
    · rw [if_pos hb, if_pos hb]
      obtain rfl : a = 1 := Fin.ext hb
      rfl
    · rw [if_neg hb, if_neg hb]

end counts

/-! ## What the two results are shown to hold -/

section goal
variable (x0 : Vec Ideal S32768x128 .i32) (x1 : Vec Ideal S8x128 .f32)

/-- How many of a row's two choices are an expert, and how many choices of it lie before a row. -/
def tally (s : Fin 32768) (e : Fin 128) : EReal := hit (x0 (ix2 s (0 : Fin 128))) e + hit (x0 (ix2 s (1 : Fin 128))) e
def rankOf (r : Fin 32768) (e : Fin 128) : EReal := ∑ s : Fin 32768, if s.val < r.val then tally x0 s e else 0

/-- The place of a row's choice among the padded rows. -/
def place (r : Fin 32768) (k : Fin 128) : EReal := ∑ e : Fin 128, hit (x0 (ix2 r k)) e * (start x1 e + rankOf x0 r e)

def row (t : Fin 32) (q : Fin 1024) : Fin 32768 := ⟨t.val * 1024 + q.val, by have := t.isLt; have := q.isLt; omega⟩

def val3 : Vec Ideal S32x8x1024 .i32 := fun i =>
  Ideal.fptosi 32 (if (i 1).val = 0 then place x0 x1 (row (i 0) (i 2)) 0 else if (i 1).val = 1 then place x0 x1 (row (i 0) (i 2)) 1 else (0 : EReal))
def val4 : Vec Ideal S8x128 .f32 := fun i =>
  (if (i 0).val = 0 then ends x1 (i 1) else if (i 0).val = 1 then x1 (ix2 (1 : Fin 8) (i 1)) else 0 : EReal)

/-- A row's count by its number. -/
def tallyN (e : Fin 128) (s : Nat) : EReal := if h : s < 32768 then tally x0 ⟨s, h⟩ e else 0

theorem tallyN_row (t : Fin 32) (q : Fin 1024) (e : Fin 128) : tallyN x0 e (t.val * 1024 + q.val) = tally x0 (row t q) e := by
  unfold tallyN
  exact dif_pos (row t q).isLt

theorem rankOf_range (r : Fin 32768) (e : Fin 128) : rankOf x0 r e = ∑ s ∈ Finset.range 32768, if s < r.val then tallyN x0 e s else 0 := by
  rw [Finset.sum_range]
  unfold rankOf
  refine Finset.sum_congr rfl fun s _ => ?_
  by_cases h : s.val < r.val
  · rw [if_pos h, if_pos h]
    unfold tallyN
    rw [dif_pos s.isLt]
  · rw [if_neg h, if_neg h]

end goal

end Cert.Pos

end
-- ==== Proof.PosValue.lean ====
/- The dispatch positions' results at the ideal values, block by block. -/
module

public import proofs.«01_k».proof.Proof.PosPay
public import proofs.«01_k».proof.Proof.InProjValue
public import Idealize.ShloMosaic.Lib.StableHlo.Run
public import Idealize.ShloMosaic.Lib.Pipeline.ValueKit

@[expose] public section

set_option maxRecDepth 16384

noncomputable section

namespace Cert.Pos

open Cert.Kernel4Ideal Cert.Kernel4Ideal.Gen Cert.Kernel4Ideal.Pos
open Idealize.ShloMosaic Idealize.ShloMosaic.TcCoe Idealize.SL.Sem
open Cert.InProj (ix2_val ix3_val)

variable (m : (ℓ : Loc nD τ sig) → Buf (Elt Ideal) ℓ)

/-- The strict lower triangle. -/
def tri : FVec Ideal S1024x1024 .bf16 :=
  uitofp .bf16 (cmpi .sgt (broadcastInDim S1024x1024 ![0, 1] bcast_S1024x1_S1024x1024_0_1 (broadcastInDim S1024x1 ![0] bcast_S1024_S1024x1_0 (iotaInDim S1024 32 0)))
    (broadcastInDim S1024x1024 ![0, 1] bcast_S1x1024_S1024x1024_0_1 (broadcastInDim S1x1024 ![1] bcast_S1024_S1x1024_1 (iotaInDim S1024 32 0))))

theorem V_v7 (c : Dev nD) : V m c main_v7 = tri := by
  simp only [V, hostOps0, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  rfl

theorem tri_apply (q s : Fin 1024) : tri (ix2 q s) = if s.val < q.val then (1 : EReal) else 0 := by
  have hq := q.isLt
  have hs := s.isLt
  have e : tri (ix2 q s) = FloatOps.uitofp (F := Ideal) .bf16 (IntOp.cmpi .sgt (BitVec.ofNat 32 q.val) (BitVec.ofNat 32 s.val)) := by
    pointwise [tri]
  rw [e, cmp_sgt _ _ (by omega) (by omega)]
  exact flagB _

/-! ## The blocks -/

theorem tf0 (i : grid0.Coords) (t : Fin 32) (ht : (i 0).val = t.val) : cc0_transform_0 i 0 = t.val ∧ cc0_transform_0 i 1 = 0 := by
  have h := t.isLt
  refine ⟨?_, rfl⟩
  show (BitVec.ofNat 32 (i 0).val).toNat = t.val
  rw [BitVec.toNat_ofNat, ht]
  exact Nat.mod_eq_of_lt (by omega)

theorem coord (t : Fin cfg0.N) : (grid0.coords t 0).val = t.val := by
  have hN : grid0.N = 32 := N_0
  have ht : t.val < grid0.N := t.isLt
  rw [Pipeline.Grid.coords_val (G := grid0) _ 0 (S := 1) (B := 32) (by decide) (by decide)]
  omega

def pt (t : Fin cfg0.N) : Fin 32 := ⟨t.val, Nat.lt_of_lt_of_eq t.isLt N_0⟩

theorem iblk0_apply (c : Dev nD) (t : Fin cfg0.N) (q : Fin 1024) (k : Fin 128) :
    (iblk m c 0 t : Vec Ideal S1024x128 .i32) (ix2 q k) = (m ((c : Thread nD τ).loc main_arg0) : Vec Ideal S32768x128 .i32) (ix2 (row (pt t) q) k) := by
  obtain ⟨h0, h1⟩ := tf0 (grid0.coords t) (pt t) (coord t)
  unfold iblk
  refine (View.read_apply _ _).trans ((cast_eq _ _).trans ?_)
  refine (congrFun (V_main_arg0 m c) _).trans ?_
  have hr := Pipeline.Window.rect_emb_val (cfg0.win 0) t (ix2 q k : S1024x128.Idx)
  have hi : ((cfg0.win 0).rect t).emb (ix2 q k : S1024x128.Idx) = (ix2 (row (pt t) q) k : S32768x128.Idx) := by
    refine ix2_val _ _ k ((hr (0 : Fin 2)).trans ?_) ((hr (1 : Fin 2)).trans ?_)
    · show cc0_transform_0 (grid0.coords t) 0 * 1024 + q.val = (pt t).val * 1024 + q.val
      rw [h0]
    · show cc0_transform_0 (grid0.coords t) 1 * 128 + k.val = k.val
      rw [h1, Nat.zero_mul, Nat.zero_add]
  exact congrArg (m ((c : Thread nD τ).loc main_arg0) : Vec Ideal S32768x128 .i32) hi

theorem iblk1_apply (c : Dev nD) (t : Fin cfg0.N) (q s : Fin 1024) :
    (iblk m c 1 t : Vec Ideal S1024x1024 .bf16) (ix2 q s) = if s.val < q.val then (1 : EReal) else 0 := by
  unfold iblk
  refine (View.read_apply _ _).trans ((cast_eq _ _).trans ?_)
  refine (congrFun (V_v7 m c) _).trans ?_
  have hr := Pipeline.Window.rect_emb_val (cfg0.win 1) t (ix2 q s : S1024x1024.Idx)
  have hi : ((cfg0.win 1).rect t).emb (ix2 q s : S1024x1024.Idx) = (ix2 q s : S1024x1024.Idx) := by
    refine ix2_val _ q s ((hr (0 : Fin 2)).trans ?_) ((hr (1 : Fin 2)).trans ?_)
    · show 0 * 1024 + q.val = q.val
      rw [Nat.zero_mul, Nat.zero_add]
    · show 0 * 1024 + s.val = s.val
      rw [Nat.zero_mul, Nat.zero_add]
  exact (congrArg tri hi).trans (tri_apply q s)

theorem iblk2_eq (c : Dev nD) (t : Fin cfg0.N) :
    (iblk m c 2 t : Vec Ideal S8x128 .f32) = (m ((c : Thread nD τ).loc main_arg1) : Vec Ideal S8x128 .f32) := by
  funext i
  obtain ⟨a, e, rfl⟩ : ∃ (a : Fin 8) (e : Fin 128), i = (ix2 a e : S8x128.Idx) := ⟨i (0 : Fin 2), i (1 : Fin 2), eq_ix2 (n0 := 8) (n1 := 128) i⟩
  unfold iblk
  refine (View.read_apply _ _).trans ((cast_eq _ _).trans ?_)
  refine (congrFun (V_main_arg1 m c) _).trans ?_
  have hr := Pipeline.Window.rect_emb_val (cfg0.win 2) t (ix2 a e : S8x128.Idx)
  have hi : ((cfg0.win 2).rect t).emb (ix2 a e : S8x128.Idx) = (ix2 a e : S8x128.Idx) := by
    refine ix2_val _ a e ((hr (0 : Fin 2)).trans ?_) ((hr (1 : Fin 2)).trans ?_)
    · show 0 * 8 + a.val = a.val
      rw [Nat.zero_mul, Nat.zero_add]
    · show 0 * 128 + e.val = e.val
      rw [Nat.zero_mul, Nat.zero_add]
  exact congrArg (m ((c : Thread nD τ).loc main_arg1) : Vec Ideal S8x128 .f32) hi

/-! ## The run and the places -/

section run
variable (x0 : Vec Ideal S32768x128 .i32)

theorem pay9_of (b : Vec Ideal S1024x128 .i32) (t : Fin 32) (hb : ∀ q k, b (ix2 q k) = x0 (ix2 (row t q) k)) (s : Fin 1024) (e : Fin 128) :
    k0_pay9 b (ix2 s e) = tallyN x0 e (t.val * 1024 + s.val) := by
  rw [pay9_apply, hb, hb, tallyN_row]
  rfl

theorem next_of (b : Vec Ideal S1024x128 .i32) (t : Fin 32) (hb : ∀ q k, b (ix2 q k) = x0 (ix2 (row t q) k)) (r : Vec Ideal S1x128 .f32) (e : Fin 128)
    (hr : r (ix2 (0 : Fin 1) e) = ∑ s ∈ Finset.range (t.val * 1024), tallyN x0 e s) :
    (next b r : Vec Ideal S1x128 .f32) (ix2 (0 : Fin 1) e) = ∑ s ∈ Finset.range ((t.val + 1) * 1024), tallyN x0 e s := by
  unfold next
  rw [pay2_apply, hr, run_succ, Finset.sum_range (n := 1024)]
  exact congrArg _ (Finset.sum_congr rfl fun s _ => pay9_of x0 b t hb s e)

variable (x1 : Vec Ideal S8x128 .f32)

theorem slot_of (b : Vec Ideal S1024x128 .i32) (w : Vec Ideal S1024x1024 .bf16) (t : Fin 32) (hb : ∀ q k, b (ix2 q k) = x0 (ix2 (row t q) k))
    (hw : ∀ q s, w (ix2 q s) = if s.val < q.val then (1 : EReal) else 0) (p r : Vec Ideal S1x128 .f32)
    (hp : ∀ e, p (ix2 (0 : Fin 1) e) = start x1 e) (hr : ∀ e, r (ix2 (0 : Fin 1) e) = ∑ s ∈ Finset.range (t.val * 1024), tallyN x0 e s) (q : Fin 1024) (e : Fin 128) :
    k0_pay14 b w p r (ix2 q e) = start x1 e + rankOf x0 (row t q) e := by
  have h : ∑ x : Fin 1024, w (ix2 q x) * k0_pay9 b (ix2 x e) = ∑ s ∈ Finset.range 1024, if s < q.val then tallyN x0 e (t.val * 1024 + s) else 0 := by
    rw [Finset.sum_range]
    refine Finset.sum_congr rfl fun s _ => ?_
    rw [hw, pay9_of x0 b t hb]
    by_cases h : s.val < q.val
    · rw [if_pos h, if_pos h, one_mul]
    · rw [if_neg h, if_neg h, zero_mul]
  rw [pay14_apply, hp, hr, h, add_assoc, rank_split _ _ _ t.isLt q.isLt, rankOf_range]
  rfl

theorem dest_of (b : Vec Ideal S1024x128 .i32) (w : Vec Ideal S1024x1024 .bf16) (t : Fin 32) (hb : ∀ q k, b (ix2 q k) = x0 (ix2 (row t q) k))
    (hw : ∀ q s, w (ix2 q s) = if s.val < q.val then (1 : EReal) else 0) (p r : Vec Ideal S1x128 .f32)
    (hp : ∀ e, p (ix2 (0 : Fin 1) e) = start x1 e) (hr : ∀ e, r (ix2 (0 : Fin 1) e) = ∑ s ∈ Finset.range (t.val * 1024), tallyN x0 e s) (j : Fin 8) (q : Fin 1024) :
    (dest b w p r : Vec Ideal S1x8x1024 .i32) (ix3 (0 : Fin 1) j q) = val3 x0 x1 (ix3 t j q) := by
  unfold dest
  rw [pay1_apply]
  refine congrArg (Ideal.fptosi 32) ?_
  refine if_congr Iff.rfl (Finset.sum_congr rfl fun e _ => ?_) (if_congr Iff.rfl (Finset.sum_congr rfl fun e _ => ?_) rfl)
  · rw [pay15_apply, pay7_apply, hb, slot_of x0 x1 b w t hb hw p r hp hr]
    rfl
  · rw [pay8_apply, hb, slot_of x0 x1 b w t hb hw p r hp hr]
    rfl

end run

theorem R_eq (c : Dev nD) (e : Fin 128) : ∀ (n : Nat) (h : n ≤ cfg0.N),
    (R m c n h : Vec Ideal S1x128 .f32) (ix2 (0 : Fin 1) e) = ∑ s ∈ Finset.range (n * 1024), tallyN (m ((c : Thread nD τ).loc main_arg0) : Vec Ideal S32768x128 .i32) e s
  | 0, h => by
    rw [Nat.zero_mul, Finset.range_zero, Finset.sum_empty]
    exact pay13_apply e
  | n + 1, h => next_of _ (iblk m c 0 ⟨n, h⟩) (pt ⟨n, h⟩) (iblk0_apply m c ⟨n, h⟩) _ e (R_eq c e n (Nat.le_of_lt h))

theorem PS_eq (c : Dev nD) (e : Fin 128) : (PS m c : Vec Ideal S1x128 .f32) (ix2 (0 : Fin 1) e) = start (m ((c : Thread nD τ).loc main_arg1) : Vec Ideal S8x128 .f32) e := by
  unfold PS
  rw [iblk2_eq]
  exact pstart_apply _ e

theorem D_eq (c : Dev nD) (t : Fin cfg0.N) (j : Fin 8) (q : Fin 1024) :
    (D m c t : Vec Ideal S1x8x1024 .i32) (ix3 (0 : Fin 1) j q) = val3 (m ((c : Thread nD τ).loc main_arg0)) (m ((c : Thread nD τ).loc main_arg1)) (ix3 (pt t) j q) :=
  dest_of _ _ (iblk m c 0 t) (iblk m c 1 t) (pt t) (iblk0_apply m c t) (iblk1_apply m c t) (PS m c) (R m c t.val (Nat.le_of_lt t.isLt)) (PS_eq m c)
    (fun e => R_eq m c e t.val _) j q

theorem PE_eq (c : Dev nD) (a : Fin 8) (e : Fin 128) : (PE m c : Vec Ideal S8x128 .f32) (ix2 a e) = val4 (m ((c : Thread nD τ).loc main_arg1)) (ix2 a e) := by
  unfold PE
  rw [iblk2_eq]
  exact pend_apply _ a e

/-! ## The results -/

theorem tf3 (i : grid0.Coords) (t : Fin 32) (ht : (i 0).val = t.val) : cc0_transform_3 i 0 = t.val ∧ cc0_transform_3 i 1 = 0 ∧ cc0_transform_3 i 2 = 0 := by
  have h := t.isLt
  refine ⟨?_, rfl, rfl⟩
  show (BitVec.ofNat 32 (i 0).val).toNat = t.val
  rw [BitVec.toNat_ofNat, ht]
  exact Nat.mod_eq_of_lt (by omega)

theorem rect3 (t : Fin cfg0.N) (j : Fin 8) (q : Fin 1024) :
    (((cfg0.win 3).rect t).emb (ix3 (0 : Fin 1) j q : S1x8x1024.Idx) : S32x8x1024.Idx) = ix3 (pt t) j q := by
  obtain ⟨h0, h1, h2⟩ := tf3 (grid0.coords t) (pt t) (coord t)
  have hr := Pipeline.Window.rect_emb_val (cfg0.win 3) t (ix3 (0 : Fin 1) j q : S1x8x1024.Idx)
  refine ix3_val _ _ j q ((hr (0 : Fin 3)).trans ?_) ((hr (1 : Fin 3)).trans ?_) ((hr (2 : Fin 3)).trans ?_)
  · show cc0_transform_3 (grid0.coords t) 0 * 1 + 0 = (pt t).val
    rw [h0, Nat.mul_one, Nat.add_zero]
  · show cc0_transform_3 (grid0.coords t) 1 * 8 + j.val = j.val
    rw [h1, Nat.zero_mul, Nat.zero_add]
  · show cc0_transform_3 (grid0.coords t) 2 * 1024 + q.val = q.val
    rw [h2, Nat.zero_mul, Nat.zero_add]

theorem rect4 (t : Fin cfg0.N) (a : Fin 8) (e : Fin 128) :
    (((cfg0.win 4).rect t).emb (ix2 a e : S8x128.Idx) : S8x128.Idx) = ix2 a e := by
  have hr := Pipeline.Window.rect_emb_val (cfg0.win 4) t (ix2 a e : S8x128.Idx)
  refine ix2_val _ a e ((hr (0 : Fin 2)).trans ?_) ((hr (1 : Fin 2)).trans ?_)
  · show 0 * 8 + a.val = a.val
    rw [Nat.zero_mul, Nat.zero_add]
  · show 0 * 128 + e.val = e.val
    rw [Nat.zero_mul, Nat.zero_add]

theorem flushed3_eq (c : Dev nD) (t : Fin cfg0.N) :
    (dats m 0 c).flushed 3 t = ((cfg0.win 3).blk t).view.read (Elt Ideal) (val3 (m ((c : Thread nD τ).loc main_arg0)) (m ((c : Thread nD τ).loc main_arg1))) := by
  show (cfg0.win 3).cut (grid0.coords t) ((dats m 0 c).after 3 t) = _
  rw [after3]
  funext i
  obtain ⟨z, j, q, rfl⟩ : ∃ (z : Fin 1) (j : Fin 8) (q : Fin 1024), i = (ix3 z j q : S1x8x1024.Idx) := ⟨i (0 : Fin 3), i (1 : Fin 3), i (2 : Fin 3), ix3_val i _ _ _ rfl rfl rfl⟩
  obtain rfl : z = 0 := Subsingleton.elim _ _
  refine Eq.trans (b := (D m c t : Vec Ideal S1x8x1024 .i32) (ix3 (0 : Fin 1) j q)) rfl ?_
  refine (D_eq m c t j q).trans ?_
  refine Eq.trans ?_ ((View.read_apply _ _).trans (cast_eq _ _)).symm
  exact congrArg (val3 (m ((c : Thread nD τ).loc main_arg0)) (m ((c : Thread nD τ).loc main_arg1))) (rect3 t j q).symm

theorem flushed4_eq (c : Dev nD) (t : Fin cfg0.N) :
    (dats m 0 c).flushed 4 t = ((cfg0.win 4).blk t).view.read (Elt Ideal) (val4 (m ((c : Thread nD τ).loc main_arg1))) := by
  show (cfg0.win 4).cut (grid0.coords t) ((dats m 0 c).after 4 t) = _
  rw [after4]
  funext i
  obtain ⟨a, e, rfl⟩ : ∃ (a : Fin 8) (e : Fin 128), i = (ix2 a e : S8x128.Idx) := ⟨i (0 : Fin 2), i (1 : Fin 2), eq_ix2 (n0 := 8) (n1 := 128) i⟩
  refine Eq.trans (b := (PE m c : Vec Ideal S8x128 .f32) (ix2 a e)) rfl ?_
  refine (PE_eq m c a e).trans ?_
  refine Eq.trans ?_ ((View.read_apply _ _).trans (cast_eq _ _)).symm
  exact congrArg (val4 (m ((c : Thread nD τ).loc main_arg1))) (rect4 t a e).symm

theorem cover3 (i : S32x8x1024.Idx) : ∃ t : Fin cfg0.N, (cfg0.win 3).flush t = true ∧ i ∈ ((cfg0.win 3).blk t).view.set := by
  have hN : cfg0.N = 32 := N_0
  have hi : (i 0).val < 32 := (i 0).isLt
  let t : Fin cfg0.N := ⟨(i 0).val, by omega⟩
  refine ⟨t, flush0_3 t, ?_⟩
  obtain ⟨h0, h1, h2⟩ := tf3 (grid0.coords t) (pt t) (coord t)
  show i ∈ ((View.whole main_v8_0).slice ((cfg0.win 3).rect t)).set
  erw [View.set_slice_whole]
  refine (Pipeline.Window.mem_rect_iff (cfg0.win 3) t i (by rfl)).mpr fun b => ?_
  have hb : b = (0 : Fin 3) ∨ b = (1 : Fin 3) ∨ b = (2 : Fin 3) := by
    match b with
    | ⟨0, _⟩ => exact .inl rfl
    | ⟨1, _⟩ => exact .inr (.inl rfl)
    | ⟨2, _⟩ => exact .inr (.inr rfl)
  rcases hb with rfl | rfl | rfl
  · show cc0_transform_3 (grid0.coords t) 0 * 1 ≤ (i 0).val ∧ (i 0).val < cc0_transform_3 (grid0.coords t) 0 * 1 + 1
    rw [h0]
    show (i 0).val * 1 ≤ (i 0).val ∧ (i 0).val < (i 0).val * 1 + 1
    omega
  · show cc0_transform_3 (grid0.coords t) 1 * 8 ≤ (i 1).val ∧ (i 1).val < cc0_transform_3 (grid0.coords t) 1 * 8 + 8
    have : (i 1).val < 8 := (i 1).isLt
    rw [h1]
    omega
  · show cc0_transform_3 (grid0.coords t) 2 * 1024 ≤ (i 2).val ∧ (i 2).val < cc0_transform_3 (grid0.coords t) 2 * 1024 + 1024
    have : (i 2).val < 1024 := (i 2).isLt
    rw [h2]
    omega

theorem cover4 (i : S8x128.Idx) : ∃ t : Fin cfg0.N, (cfg0.win 4).flush t = true ∧ i ∈ ((cfg0.win 4).blk t).view.set := by
  have hN : cfg0.N = 32 := N_0
  let t : Fin cfg0.N := ⟨31, by omega⟩
  refine ⟨t, (flush0_4 t).mpr rfl, ?_⟩
  show i ∈ ((View.whole main_v8_1).slice ((cfg0.win 4).rect t)).set
  erw [View.set_slice_whole]
  refine (Pipeline.Window.mem_rect_iff (cfg0.win 4) t i (by rfl)).mpr fun b => ?_
  have hb : b = (0 : Fin 2) ∨ b = (1 : Fin 2) := by
    match b with
    | ⟨0, _⟩ => exact .inl rfl
    | ⟨1, _⟩ => exact .inr rfl
  rcases hb with rfl | rfl
  · show 0 * 8 ≤ (i 0).val ∧ (i 0).val < 0 * 8 + 8
    have : (i 0).val < 8 := (i 0).isLt
    omega
  · show 0 * 128 ≤ (i 1).val ∧ (i 1).val < 0 * 128 + 128
    have : (i 1).val < 128 := (i 1).isLt
    omega

theorem final3 (c : Dev nD) : (dats m 0 c).arrAt 3 cfg0.N = val3 (m ((c : Thread nD τ).loc main_arg0)) (m ((c : Thread nD τ).loc main_arg1)) :=
  (dats m 0 c).arrAt_eq_of_cover 3 _ (fun t _ => flushed3_eq m c t) cover3
theorem final4 (c : Dev nD) : (dats m 0 c).arrAt 4 cfg0.N = val4 (m ((c : Thread nD τ).loc main_arg1)) :=
  (dats m 0 c).arrAt_eq_of_cover 4 _ (fun t _ => flushed4_eq m c t) cover4

end Cert.Pos

end
-- ==== Proof.PosRef.lean ====
/- The dispatch positions' reference, read at an index. -/
module

public import proofs.«01_k».proof.Proof.PosPay
public import proofs.«01_k».proof.Proof.InProjValue
public import proofs.«01_k».proof.Proof.Gen.Reference4Ideal
public import proofs.«01_k».proof.Proof.Gen.Reference4Ideal.Read

@[expose] public section

set_option maxRecDepth 16384

noncomputable section

namespace Cert.Pos

open Cert.Reference4Ideal Cert.Reference4Ideal.Gen
open Cert.Reference4Ideal.Read
open Idealize.ShloMosaic Idealize.ShloMosaic.TcCoe Idealize.SL.Sem
open Cert.InProj (ix2_val ix3_val zero_word)

variable (x0 : Vec Ideal S32768x128 .i32) (x1 : Vec Ideal S8x128 .f32)

theorem ix1_val {n : Nat} (i : (⟨1, ![n]⟩ : Shape).Idx) (a : Fin n) (h : (i (0 : Fin 1)).val = a.val) : i = ix1 a := by
  funext e
  refine Fin.ext ?_
  match e with
  | ⟨0, _⟩ => exact h

/-- A choice's column as a column of the argument. -/
def col (k : Fin 2) : Fin 128 := ⟨k.val, by omega⟩

theorem v7_of (r : Fin 32768) (k : Fin 2) (e : Fin 128) : val_main_v7 (F := Ideal) x0 (ix3 r k e) = hit (x0 (ix2 r (col k))) e := by
  rw [val_main_v7_apply, val_main_v6_apply, val_main_v4_apply, val_main_v1_apply, val_main_v0_apply, val_main_v5_apply, val_main_v3_apply, val_main_v2_apply, cmp_eq, flagU]
  unfold hit
  refine if_congr (Eq.congr (congrArg x0 (ix2_val _ r (col k) rfl rfl)) rfl) rfl rfl

theorem v16_of (s : Fin 32768) (e : Fin 128) : val_main_v16 (F := Ideal) x0 (ix2 s e) = tally x0 s e := by
  rw [val_main_v16_apply, val_main_cst_apply, Fin.sum_univ_two]
  have h0 : idx_main_v16 (ix2 s e) 0 = ix3 s (0 : Fin 2) e := ix3_val _ s 0 e rfl rfl rfl
  have h1 : idx_main_v16 (ix2 s e) 1 = ix3 s (1 : Fin 2) e := ix3_val _ s 1 e rfl rfl rfl
  rw [h0, h1, v7_of, v7_of]
  have hz : (FloatOps.ofBits (F := Ideal) .f32 0x00000000#32 : EReal) = 0 := Ideal.ofBits_zero .f32
  rw [hz, zero_add]
  rfl

theorem v15_of (r s : Fin 32768) : val_main_v15 (F := Ideal) (ix2 r s) = if s.val < r.val then (1 : EReal) else 0 := by
  rw [val_main_v15_apply, val_main_v14_apply, val_main_v12_apply, val_main_v9_apply, val_main_v8_apply, val_main_v13_apply, val_main_v11_apply, val_main_v10_apply]
  refine Eq.trans (congrArg _ (cmp_sgt r.val s.val r.isLt s.isLt)) (flagU _)

theorem v17_of (r : Fin 32768) (e : Fin 128) : val_main_v17 (F := Ideal) x0 (ix2 r e) = rankOf x0 r e := by
  rw [val_main_v17_apply]
  unfold rankOf
  refine Finset.sum_congr rfl fun s _ => ?_
  have h0 : lidx_main_v17 (ix2 r e) s = ix2 r s := ix2_val _ r s rfl rfl
  have h1 : ridx_main_v17 (ix2 r e) s = ix2 s e := ix2_val _ s e rfl rfl
  rw [h0, h1, v15_of, v16_of]
  by_cases h : s.val < r.val
  · rw [if_pos h, if_pos h, one_mul]
  · rw [if_neg h, if_neg h, zero_mul]

theorem v26_of (e : Fin 128) : val_main_v26 (F := Ideal) x1 (ix1 e) = padOf (x1 (ix2 (0 : Fin 8) e)) := by
  have he := e.isLt
  rw [val_main_v26_apply, val_main_v24_apply, val_main_v23_apply, val_main_v21_apply, val_main_v19_apply, val_main_v18_apply, val_main_v20_apply, val_main_cst_0_apply,
    val_main_v22_apply, val_main_cst_1_apply, val_main_v25_apply, val_main_cst_2_apply]
  have h : idx_main_v18 (idx_main_v19 (ix1 e)) = ix2 (0 : Fin 8) e := ix2_val _ 0 e rfl (by show e.val % 128 = e.val; omega)
  rw [h]
  unfold padOf
  rw [← c_511, ← c_512]
  rfl

theorem v34_of (e k : Fin 128) : val_main_v34 (F := Ideal) (ix2 e k) = if k.val ≤ e.val then (1 : EReal) else 0 := by
  have he := e.isLt
  have hk := k.isLt
  rw [val_main_v34_apply, val_main_v33_apply, val_main_v31_apply, val_main_v28_apply, val_main_v27_apply, val_main_v32_apply, val_main_v30_apply, val_main_v29_apply]
  refine Eq.trans (congrArg _ (cmp_sge e.val k.val (by omega) (by omega))) (flagU _)

theorem v35_of (e : Fin 128) : val_main_v35 (F := Ideal) x1 (ix1 e) = ends x1 e := by
  rw [val_main_v35_apply]
  unfold ends
  refine Finset.sum_congr rfl fun k _ => ?_
  have h0 : lidx_main_v35 (ix1 e) k = ix2 e k := ix2_val _ e k rfl rfl
  have h1 : ridx_main_v35 (ix1 e) k = ix1 k := ix1_val _ k rfl
  rw [h0, h1, v34_of, v26_of]
  by_cases h : k.val ≤ e.val
  · rw [if_pos h, if_pos h, one_mul]
  · rw [if_neg h, if_neg h, zero_mul]

theorem v36_of (e : Fin 128) : val_main_v36 (F := Ideal) x1 (ix1 e) = start x1 e := by
  rw [val_main_v36_apply, v35_of, v26_of]
  rfl

theorem v41_of (r : Fin 32768) (k : Fin 2) (e : Fin 128) : val_main_v41 (F := Ideal) x0 x1 (ix3 r k e) = start x1 e + rankOf x0 r e := by
  rw [val_main_v41_apply, val_main_v40_apply]
  have h0 : idx_main_v40 (idx_main_v41 (ix3 r k e)) = ix2 r e := ix2_val _ r e rfl rfl
  rw [h0, val_main_v39_apply, v17_of, val_main_v38_apply, val_main_v37_apply]
  have h1 : idx_main_v37 (idx_main_v38 (ix2 r e)) = ix1 e := ix1_val _ e rfl
  rw [h1, v36_of]
  rfl

theorem v43_of (r : Fin 32768) (k : Fin 2) : val_main_v43 (F := Ideal) x0 x1 (ix2 r k) = place x0 x1 r (col k) := by
  rw [val_main_v43_apply, val_main_cst_3_apply]
  have hz : (FloatOps.ofBits (F := Ideal) .f32 0x00000000#32 : EReal) = 0 := Ideal.ofBits_zero .f32
  rw [hz, zero_add]
  unfold place
  refine Finset.sum_congr rfl fun e _ => ?_
  have h0 : idx_main_v43 (ix2 r k) e = ix3 r k e := ix3_val _ r k e rfl rfl rfl
  rw [h0, val_main_v42_apply, v7_of, v41_of]
  rfl

theorem v45_of (t : Fin 32) (k : Fin 2) (q : Fin 1024) : val_main_v45 (F := Ideal) x0 x1 (ix3 t k q) = place x0 x1 (row t q) (col k) := by
  have ht := t.isLt
  have hk := k.isLt
  have hq := q.isLt
  rw [val_main_v45_apply, val_main_v44_apply]
  refine (congrArg (val_main_v43 (F := Ideal) x0 x1) (ix2_val _ (row t q) k ?_ ?_)).trans (v43_of x0 x1 _ k)
  · show ((t.val * 1024 + q.val) * 2 + k.val) / 2 = t.val * 1024 + q.val; omega
  · show ((t.val * 1024 + q.val) * 2 + k.val) % 2 = k.val; omega

theorem ref47_eq : val_main_v47 (F := Ideal) x0 x1 = val3 x0 x1 := by
  funext i
  obtain ⟨t, j, q, rfl⟩ : ∃ (t : Fin 32) (j : Fin 8) (q : Fin 1024), i = (ix3 t j q : S32x8x1024.Idx) := ⟨i (0 : Fin 3), i (1 : Fin 3), i (2 : Fin 3), ix3_val i _ _ _ rfl rfl rfl⟩
  rw [val_main_v47_apply]
  refine congrArg (Ideal.fptosi 32) ?_
  show val_main_v46 (F := Ideal) x0 x1 (ix3 t j q) = if j.val = 0 then place x0 x1 (row t q) 0 else if j.val = 1 then place x0 x1 (row t q) 1 else (0 : EReal)
  unfold val_main_v46
  by_cases hj : j.val < 2
  · refine (pad_apply_of_inside _ _ _ _ _ _ _ _ (ix3 t (⟨j.val, hj⟩ : Fin 2) q) fun a => ?_).trans ((v45_of x0 x1 t ⟨j.val, hj⟩ q).trans ?_)
    · match a with
      | ⟨0, _⟩ => show t.val = 0 + t.val * (0 + 1); omega
      | ⟨1, _⟩ => show j.val = 0 + j.val * (0 + 1); omega
      | ⟨2, _⟩ => show q.val = 0 + q.val * (0 + 1); omega
    · by_cases h0 : j.val = 0
      · rw [if_pos h0]
        exact congrArg _ (Fin.ext h0)
      · have h1 : j.val = 1 := by omega
        rw [if_neg h0, if_pos h1]
        exact congrArg _ (Fin.ext h1)
  · rw [if_neg (by omega), if_neg (by omega)]
    refine (pad_apply_of_not_inside _ _ _ _ _ _ _ _ (1 : Fin 3) ?_).trans zero_word
    intro hh
    have h3 : (j.val - 0) / (0 + 1) < 2 := hh.2.2
    omega

theorem v49_of (e : Fin 128) : val_main_v49 (F := Ideal) x1 (ix1 e) = x1 (ix2 (1 : Fin 8) e) := by
  have he := e.isLt
  rw [val_main_v49_apply, val_main_v48_apply]
  refine congrArg x1 (ix2_val _ 1 e rfl ?_)
  show e.val % 128 = e.val; omega

theorem v52_lo (e : Fin 128) : val_main_v52 (F := Ideal) x1 (ix2 (0 : Fin 2) e) = ends x1 e := by
  unfold val_main_v52
  refine (concatenate_pair_apply_left (t := S2x128) (s₁ := S1x128) (s₂ := S1x128) 0 _ _ _ _ rfl (ix2 (0 : Fin 1) e : S1x128.Idx) (fun b => ?_)).trans ?_
  · match b with
    | ⟨0, _⟩ => rfl
    | ⟨1, _⟩ => rfl
  · rw [val_main_v50_apply]
    exact (congrArg _ (ix1_val _ e rfl)).trans (v35_of x1 e)

theorem v52_hi (e : Fin 128) : val_main_v52 (F := Ideal) x1 (ix2 (1 : Fin 2) e) = x1 (ix2 (1 : Fin 8) e) := by
  unfold val_main_v52
  refine (concatenate_pair_apply_right (t := S2x128) (s₁ := S1x128) (s₂ := S1x128) 0 _ _ _ _ rfl rfl (ix2 (0 : Fin 1) e : S1x128.Idx) (fun b hb => ?_) rfl).trans ?_
  · match b with
    | ⟨0, _⟩ => exact absurd rfl hb
    | ⟨1, _⟩ => rfl
  · rw [val_main_v51_apply]
    exact (congrArg _ (ix1_val _ e rfl)).trans (v49_of x1 e)

theorem ref53_eq : val_main_v53 (F := Ideal) x1 = val4 x1 := by
  funext i
  obtain ⟨a, e, rfl⟩ : ∃ (a : Fin 8) (e : Fin 128), i = (ix2 a e : S8x128.Idx) := ⟨i (0 : Fin 2), i (1 : Fin 2), eq_ix2 (n0 := 8) (n1 := 128) i⟩
  show val_main_v53 (F := Ideal) x1 (ix2 a e) = if a.val = 0 then ends x1 e else if a.val = 1 then x1 (ix2 (1 : Fin 8) e) else (0 : EReal)
  unfold val_main_v53
  by_cases ha : a.val < 2
  · refine (pad_apply_of_inside _ _ _ _ _ _ _ _ (ix2 (⟨a.val, ha⟩ : Fin 2) e) fun b => ?_).trans ?_
    · match b with
      | ⟨0, _⟩ => show a.val = 0 + a.val * (0 + 1); omega
      | ⟨1, _⟩ => show e.val = 0 + e.val * (0 + 1); omega
    · by_cases h0 : a.val = 0
      · rw [if_pos h0, ← v52_lo x1 e]
        exact congrArg _ (ix2_val _ 0 e h0 rfl)
      · have h1 : a.val = 1 := by omega
        rw [if_neg h0, if_pos h1, ← v52_hi x1 e]
        exact congrArg _ (ix2_val _ 1 e h1 rfl)
  · rw [if_neg (by omega), if_neg (by omega)]
    refine (pad_apply_of_not_inside _ _ _ _ _ _ _ _ (0 : Fin 2) ?_).trans zero_word
    intro hh
    have h3 : (a.val - 0) / (0 + 1) < 2 := hh.2.2
    omega

end Cert.Pos

end
-- ==== Proof.PosClaim.lean ====
/- The dispatch positions' frames and value claim. -/
module

public import proofs.«01_k».proof.Proof.PosValue
public import proofs.«01_k».proof.Proof.PosRef
public import proofs.«01_k».proof.Proof.Gen.Kernel4
public import proofs.«01_k».proof.Proof.Gen.Reference4Ideal.Run
public import proofs.«01_k».proof.Defs
public import Idealize.ShloMosaic.Lib.Quiescent

@[expose] public section

set_option maxRecDepth 16384

noncomputable section

namespace Cert.Pos

open Idealize.ShloMosaic Idealize.ShloMosaic.TcCoe
open Idealize.SL Idealize.SL.Sem

set_option smartUnfolding false in
/-- The two programs' body tables are the same. -/
theorem defs_eq : Cert.Kernel4.defs (F := Bits) = Cert.Kernel4Ideal.defs (F := Bits) := rfl

theorem frame_kernel : Cert.quiescent_Kernel4 := fun m ρ _ => by
  rw [defs_eq]
  exact (θ_run Cert.Kernel4Ideal.defs _ _).mono (fun _ h => ⟨fun c => (h.1 c).2.2, h.2⟩) (Cert.Kernel4Ideal.Pos.run_read (F := Bits) m ρ)

theorem frame_kernelIdeal : Cert.quiescent_Kernel4Ideal := fun m ρ _ =>
  (θ_run Cert.Kernel4Ideal.defs _ _).mono (fun _ h => ⟨fun c => (h.1 c).2.2, h.2⟩) (Cert.Kernel4Ideal.Pos.run_read m ρ)

theorem frame_reference : Cert.quiescent_Reference4Ideal := fun m ρ _ =>
  (θ_run Cert.Reference4Ideal.defs _ _).mono (fun r h => ⟨fun c => (h c).2.2, Idealize.ShloMosaic.sem_eq_zero_of_no_sems (by decide) r.2⟩)
    (Cert.Reference4Ideal.Value.run m ρ)

/-- At the ideal values the two results of the dispatch positions are the reference's, for all arguments. -/
theorem algebraic : Cert.algebraic_Kernel4Ideal_Reference4Ideal := by
  intro m ρ m' ρ' _ hagree
  refine ⟨fun c => val3 (m ((c : Thread Cert.Kernel4Ideal.nD Cert.Kernel4Ideal.τ).loc Cert.Kernel4Ideal.main_arg0)) (m ((c : Thread Cert.Kernel4Ideal.nD Cert.Kernel4Ideal.τ).loc Cert.Kernel4Ideal.main_arg1)),
    fun c => val4 (m ((c : Thread Cert.Kernel4Ideal.nD Cert.Kernel4Ideal.τ).loc Cert.Kernel4Ideal.main_arg1)), ?_, ?_⟩
  · refine (θ_run Cert.Kernel4Ideal.defs _ _).mono (fun r h c => ?_) (Cert.Kernel4Ideal.Pos.run_read m ρ)
    exact ⟨(h.1 c).1.trans (final3 m c), (h.1 c).2.1.trans (final4 m c), (h.1 c).2.2⟩
  · refine (θ_run Cert.Reference4Ideal.defs _ _).mono (fun r h c => ?_) (Cert.Reference4Ideal.Value.run m' ρ')
    obtain ⟨h0, h1⟩ := hagree c
    refine ⟨(h c).1.trans ?_, (h c).2.1.trans ?_, (h c).2.2⟩
    · rw [Cert.Reference4Ideal.Read.val_main_v47_eq, h0, h1]
      exact ref47_eq _ _
    · rw [Cert.Reference4Ideal.Read.val_main_v53_eq, h1]
      exact ref53_eq _

end Cert.Pos

end
-- ==== Proof.lean ====
module

public import proofs.«01_k».proof.Defs
public import proofs.«01_k».proof.Proof.ExpertFrame
public import proofs.«01_k».proof.Proof.ExpertClaim
public import proofs.«01_k».proof.Proof.InProjClaim
public import proofs.«01_k».proof.Proof.OutProjClaim
public import proofs.«01_k».proof.Proof.PosClaim
public import proofs.«01_k».proof.Proof.Gen.Kernel2.Frame
public import proofs.«01_k».proof.Proof.Gen.Kernel2Ideal.Frame
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Reference4Ideal
public import proofs.«01_k».proof.Proof.Gen.Reference4Ideal.Run
public import proofs.«01_k».proof.Proof.Gen.Reference4Ideal.Read

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts, Cert.Reference4Ideal.Gen.facts, Cert.OutProj.pre_facts,
  Cert.Expert.frame_kernel, Cert.Expert.frame_kernelIdeal, Cert.Expert.frame_reference,
  fun m ρ _ => Cert.Kernel2.Gen.frame m ρ, fun m ρ _ => Cert.Kernel2Ideal.Gen.frame m ρ, Cert.InProj.frame_reference,
  fun m ρ _ => Cert.Kernel3.Gen.frame m ρ, fun m ρ _ => Cert.Kernel3Ideal.Gen.frame m ρ, fun m ρ _ => Cert.Kernel3Ideal.Gen.frame m ρ, Cert.OutProj.frame_reference, fun m ρ _ => Cert.OutProj.frame_reference m ρ trivial,
  Cert.Pos.frame_kernel, Cert.Pos.frame_kernelIdeal, Cert.Pos.frame_reference,
  trivial, Cert.Expert.algebraic, trivial, Cert.InProj.algebraic, trivial, @Cert.OutProj.algebraic Cert.OutProj.pre_facts, trivial, Cert.Pos.algebraic⟩

end Cert.Proof

end
